-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_layer [hPre_finite_layer : Cert.Pre_finite_layer.Facts] (m : (ℓ : Loc Cert.KernelIdeal.nD Cert.KernelIdeal.τ Cert.KernelIdeal.sig) → Buf (Elt Ideal) ℓ) : Prop :=
  ∀ c : Dev Cert.KernelIdeal.nD,
    (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_layer [hPre_finite_layer : Cert.Pre_finite_layer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2 = (fun _ => 1#1)

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjLast (m : (ℓ : Loc Cert.ProjLast.nD Cert.ProjLast.τ Cert.ProjLast.sig) → Buf (Elt Bits) ℓ) : Prop :=
  True

def Pre_ProjLastIdeal (m : (ℓ : Loc Cert.ProjLastIdeal.nD Cert.ProjLastIdeal.τ Cert.ProjLastIdeal.sig) → Buf (Elt Ideal) ℓ) : Prop :=
  True

def Pre_ProjLastReferenceIdeal (m : (ℓ : Loc Cert.ProjLastReferenceIdeal.nD Cert.ProjLastReferenceIdeal.τ Cert.ProjLastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_layer [hKernelIdeal : Cert.KernelIdeal.Facts] [hPre_finite_layer : Cert.Pre_finite_layer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_layer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_layer [hReferenceIdeal : Cert.ReferenceIdeal.Facts] [hPre_finite_layer : Cert.Pre_finite_layer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_layer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3)
      ∧ r.2.mem ((c.tc : Thread Cert.EmbedReferenceIdeal.nD Cert.EmbedReferenceIdeal.τ).loc Cert.EmbedReferenceIdeal.main_arg4) = m ((c.tc : Thread Cert.EmbedReferenceIdeal.nD Cert.EmbedReferenceIdeal.τ).loc Cert.EmbedReferenceIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3)
      ∧ r.2.mem ((c.tc : Thread Cert.Feed.nD Cert.Feed.τ).loc Cert.Feed.main_arg4) = m ((c.tc : Thread Cert.Feed.nD Cert.Feed.τ).loc Cert.Feed.main_arg4)
      ∧ r.2.mem ((c.tc : Thread Cert.Feed.nD Cert.Feed.τ).loc Cert.Feed.main_arg5) = m ((c.tc : Thread Cert.Feed.nD Cert.Feed.τ).loc Cert.Feed.main_arg5)
      ∧ r.2.mem ((c.tc : Thread Cert.Feed.nD Cert.Feed.τ).loc Cert.Feed.main_arg6) = m ((c.tc : Thread Cert.Feed.nD Cert.Feed.τ).loc Cert.Feed.main_arg6))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4)
      ∧ r.2.mem ((c.tc : Thread Cert.FeedIdeal.nD Cert.FeedIdeal.τ).loc Cert.FeedIdeal.main_arg5) = m ((c.tc : Thread Cert.FeedIdeal.nD Cert.FeedIdeal.τ).loc Cert.FeedIdeal.main_arg5)
      ∧ r.2.mem ((c.tc : Thread Cert.FeedIdeal.nD Cert.FeedIdeal.τ).loc Cert.FeedIdeal.main_arg6) = m ((c.tc : Thread Cert.FeedIdeal.nD Cert.FeedIdeal.τ).loc Cert.FeedIdeal.main_arg6))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3)
      ∧ r.2.mem ((c.tc : Thread Cert.FeedReferenceIdeal.nD Cert.FeedReferenceIdeal.τ).loc Cert.FeedReferenceIdeal.main_arg4) = m ((c.tc : Thread Cert.FeedReferenceIdeal.nD Cert.FeedReferenceIdeal.τ).loc Cert.FeedReferenceIdeal.main_arg4)
      ∧ r.2.mem ((c.tc : Thread Cert.FeedReferenceIdeal.nD Cert.FeedReferenceIdeal.τ).loc Cert.FeedReferenceIdeal.main_arg5) = m ((c.tc : Thread Cert.FeedReferenceIdeal.nD Cert.FeedReferenceIdeal.τ).loc Cert.FeedReferenceIdeal.main_arg5)
      ∧ r.2.mem ((c.tc : Thread Cert.FeedReferenceIdeal.nD Cert.FeedReferenceIdeal.τ).loc Cert.FeedReferenceIdeal.main_arg6) = m ((c.tc : Thread Cert.FeedReferenceIdeal.nD Cert.FeedReferenceIdeal.τ).loc Cert.FeedReferenceIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def quiescent_ProjLast [hProjLast : Cert.ProjLast.Facts] : Prop :=
  ∀ (m : (ℓ : Loc Cert.ProjLast.nD Cert.ProjLast.τ Cert.ProjLast.sig) → Buf (Elt Bits) ℓ) (g : Dev Cert.ProjLast.nD → PrngReg), Pre_ProjLast m →
    θ_run (Cert.ProjLast.defs (F := Bits)) (onTc (τ := Cert.ProjLast.τ) (Cert.ProjLast.main (F := Bits))) ⟨m, fun _ => 0, g⟩ (fun r => (∀ c : Dev Cert.ProjLast.nD,
      r.2.mem ((c.tc : Thread Cert.ProjLast.nD Cert.ProjLast.τ).loc Cert.ProjLast.main_arg0) = m ((c.tc : Thread Cert.ProjLast.nD Cert.ProjLast.τ).loc Cert.ProjLast.main_arg0)
      ∧ r.2.mem ((c.tc : Thread Cert.ProjLast.nD Cert.ProjLast.τ).loc Cert.ProjLast.main_arg1) = m ((c.tc : Thread Cert.ProjLast.nD Cert.ProjLast.τ).loc Cert.ProjLast.main_arg1)
      ∧ r.2.mem ((c.tc : Thread Cert.ProjLast.nD Cert.ProjLast.τ).loc Cert.ProjLast.main_arg2) = m ((c.tc : Thread Cert.ProjLast.nD Cert.ProjLast.τ).loc Cert.ProjLast.main_arg2)
      ∧ r.2.mem ((c.tc : Thread Cert.ProjLast.nD Cert.ProjLast.τ).loc Cert.ProjLast.main_arg3) = m ((c.tc : Thread Cert.ProjLast.nD Cert.ProjLast.τ).loc Cert.ProjLast.main_arg3)
      ∧ r.2.mem ((c.tc : Thread Cert.ProjLast.nD Cert.ProjLast.τ).loc Cert.ProjLast.main_arg4) = m ((c.tc : Thread Cert.ProjLast.nD Cert.ProjLast.τ).loc Cert.ProjLast.main_arg4)
      ∧ r.2.mem ((c.tc : Thread Cert.ProjLast.nD Cert.ProjLast.τ).loc Cert.ProjLast.main_arg5) = m ((c.tc : Thread Cert.ProjLast.nD Cert.ProjLast.τ).loc Cert.ProjLast.main_arg5)
      ∧ r.2.mem ((c.tc : Thread Cert.ProjLast.nD Cert.ProjLast.τ).loc Cert.ProjLast.main_arg6) = m ((c.tc : Thread Cert.ProjLast.nD Cert.ProjLast.τ).loc Cert.ProjLast.main_arg6)
      ∧ r.2.mem ((c.tc : Thread Cert.ProjLast.nD Cert.ProjLast.τ).loc Cert.ProjLast.main_arg7) = m ((c.tc : Thread Cert.ProjLast.nD Cert.ProjLast.τ).loc Cert.ProjLast.main_arg7)
      ∧ r.2.mem ((c.tc : Thread Cert.ProjLast.nD Cert.ProjLast.τ).loc Cert.ProjLast.main_arg8) = m ((c.tc : Thread Cert.ProjLast.nD Cert.ProjLast.τ).loc Cert.ProjLast.main_arg8))
      ∧ r.2.sem = fun _ => 0)

def quiescent_ProjLastIdeal [hProjLastIdeal : Cert.ProjLastIdeal.Facts] : Prop :=
  ∀ (m : (ℓ : Loc Cert.ProjLastIdeal.nD Cert.ProjLastIdeal.τ Cert.ProjLastIdeal.sig) → Buf (Elt Ideal) ℓ) (g : Dev Cert.ProjLastIdeal.nD → PrngReg), Pre_ProjLastIdeal m →
    θ_run (Cert.ProjLastIdeal.defs (F := Ideal)) (onTc (τ := Cert.ProjLastIdeal.τ) (Cert.ProjLastIdeal.main (F := Ideal))) ⟨m, fun _ => 0, g⟩ (fun r => (∀ c : Dev Cert.ProjLastIdeal.nD,
      r.2.mem ((c.tc : Thread Cert.ProjLastIdeal.nD Cert.ProjLastIdeal.τ).loc Cert.ProjLastIdeal.main_arg0) = m ((c.tc : Thread Cert.ProjLastIdeal.nD Cert.ProjLastIdeal.τ).loc Cert.ProjLastIdeal.main_arg0)
      ∧ r.2.mem ((c.tc : Thread Cert.ProjLastIdeal.nD Cert.ProjLastIdeal.τ).loc Cert.ProjLastIdeal.main_arg1) = m ((c.tc : Thread Cert.ProjLastIdeal.nD Cert.ProjLastIdeal.τ).loc Cert.ProjLastIdeal.main_arg1)
      ∧ r.2.mem ((c.tc : Thread Cert.ProjLastIdeal.nD Cert.ProjLastIdeal.τ).loc Cert.ProjLastIdeal.main_arg2) = m ((c.tc : Thread Cert.ProjLastIdeal.nD Cert.ProjLastIdeal.τ).loc Cert.ProjLastIdeal.main_arg2)
      ∧ r.2.mem ((c.tc : Thread Cert.ProjLastIdeal.nD Cert.ProjLastIdeal.τ).loc Cert.ProjLastIdeal.main_arg3) = m ((c.tc : Thread Cert.ProjLastIdeal.nD Cert.ProjLastIdeal.τ).loc Cert.ProjLastIdeal.main_arg3)
      ∧ r.2.mem ((c.tc : Thread Cert.ProjLastIdeal.nD Cert.ProjLastIdeal.τ).loc Cert.ProjLastIdeal.main_arg4) = m ((c.tc : Thread Cert.ProjLastIdeal.nD Cert.ProjLastIdeal.τ).loc Cert.ProjLastIdeal.main_arg4)
      ∧ r.2.mem ((c.tc : Thread Cert.ProjLastIdeal.nD Cert.ProjLastIdeal.τ).loc Cert.ProjLastIdeal.main_arg5) = m ((c.tc : Thread Cert.ProjLastIdeal.nD Cert.ProjLastIdeal.τ).loc Cert.ProjLastIdeal.main_arg5)
      ∧ r.2.mem ((c.tc : Thread Cert.ProjLastIdeal.nD Cert.ProjLastIdeal.τ).loc Cert.ProjLastIdeal.main_arg6) = m ((c.tc : Thread Cert.ProjLastIdeal.nD Cert.ProjLastIdeal.τ).loc Cert.ProjLastIdeal.main_arg6)
      ∧ r.2.mem ((c.tc : Thread Cert.ProjLastIdeal.nD Cert.ProjLastIdeal.τ).loc Cert.ProjLastIdeal.main_arg7) = m ((c.tc : Thread Cert.ProjLastIdeal.nD Cert.ProjLastIdeal.τ).loc Cert.ProjLastIdeal.main_arg7)
      ∧ r.2.mem ((c.tc : Thread Cert.ProjLastIdeal.nD Cert.ProjLastIdeal.τ).loc Cert.ProjLastIdeal.main_arg8) = m ((c.tc : Thread Cert.ProjLastIdeal.nD Cert.ProjLastIdeal.τ).loc Cert.ProjLastIdeal.main_arg8))
      ∧ r.2.sem = fun _ => 0)

def quiescent_ProjLastReferenceIdeal [hProjLastReferenceIdeal : Cert.ProjLastReferenceIdeal.Facts] : Prop :=
  ∀ (m : (ℓ : Loc Cert.ProjLastReferenceIdeal.nD Cert.ProjLastReferenceIdeal.τ Cert.ProjLastReferenceIdeal.sig) → Buf (Elt Ideal) ℓ) (g : Dev Cert.ProjLastReferenceIdeal.nD → PrngReg), Pre_ProjLastReferenceIdeal m →
    θ_run (Cert.ProjLastReferenceIdeal.defs (F := Ideal)) (onTc (τ := Cert.ProjLastReferenceIdeal.τ) (Cert.ProjLastReferenceIdeal.main (F := Ideal))) ⟨m, fun _ => 0, g⟩ (fun r => (∀ c : Dev Cert.ProjLastReferenceIdeal.nD,
      r.2.mem ((c.tc : Thread Cert.ProjLastReferenceIdeal.nD Cert.ProjLastReferenceIdeal.τ).loc Cert.ProjLastReferenceIdeal.main_arg0) = m ((c.tc : Thread Cert.ProjLastReferenceIdeal.nD Cert.ProjLastReferenceIdeal.τ).loc Cert.ProjLastReferenceIdeal.main_arg0)
      ∧ r.2.mem ((c.tc : Thread Cert.ProjLastReferenceIdeal.nD Cert.ProjLastReferenceIdeal.τ).loc Cert.ProjLastReferenceIdeal.main_arg1) = m ((c.tc : Thread Cert.ProjLastReferenceIdeal.nD Cert.ProjLastReferenceIdeal.τ).loc Cert.ProjLastReferenceIdeal.main_arg1)
      ∧ r.2.mem ((c.tc : Thread Cert.ProjLastReferenceIdeal.nD Cert.ProjLastReferenceIdeal.τ).loc Cert.ProjLastReferenceIdeal.main_arg2) = m ((c.tc : Thread Cert.ProjLastReferenceIdeal.nD Cert.ProjLastReferenceIdeal.τ).loc Cert.ProjLastReferenceIdeal.main_arg2)
      ∧ r.2.mem ((c.tc : Thread Cert.ProjLastReferenceIdeal.nD Cert.ProjLastReferenceIdeal.τ).loc Cert.ProjLastReferenceIdeal.main_arg3) = m ((c.tc : Thread Cert.ProjLastReferenceIdeal.nD Cert.ProjLastReferenceIdeal.τ).loc Cert.ProjLastReferenceIdeal.main_arg3)
      ∧ r.2.mem ((c.tc : Thread Cert.ProjLastReferenceIdeal.nD Cert.ProjLastReferenceIdeal.τ).loc Cert.ProjLastReferenceIdeal.main_arg4) = m ((c.tc : Thread Cert.ProjLastReferenceIdeal.nD Cert.ProjLastReferenceIdeal.τ).loc Cert.ProjLastReferenceIdeal.main_arg4)
      ∧ r.2.mem ((c.tc : Thread Cert.ProjLastReferenceIdeal.nD Cert.ProjLastReferenceIdeal.τ).loc Cert.ProjLastReferenceIdeal.main_arg5) = m ((c.tc : Thread Cert.ProjLastReferenceIdeal.nD Cert.ProjLastReferenceIdeal.τ).loc Cert.ProjLastReferenceIdeal.main_arg5)
      ∧ r.2.mem ((c.tc : Thread Cert.ProjLastReferenceIdeal.nD Cert.ProjLastReferenceIdeal.τ).loc Cert.ProjLastReferenceIdeal.main_arg6) = m ((c.tc : Thread Cert.ProjLastReferenceIdeal.nD Cert.ProjLastReferenceIdeal.τ).loc Cert.ProjLastReferenceIdeal.main_arg6)
      ∧ r.2.mem ((c.tc : Thread Cert.ProjLastReferenceIdeal.nD Cert.ProjLastReferenceIdeal.τ).loc Cert.ProjLastReferenceIdeal.main_arg7) = m ((c.tc : Thread Cert.ProjLastReferenceIdeal.nD Cert.ProjLastReferenceIdeal.τ).loc Cert.ProjLastReferenceIdeal.main_arg7)
      ∧ r.2.mem ((c.tc : Thread Cert.ProjLastReferenceIdeal.nD Cert.ProjLastReferenceIdeal.τ).loc Cert.ProjLastReferenceIdeal.main_arg8) = m ((c.tc : Thread Cert.ProjLastReferenceIdeal.nD Cert.ProjLastReferenceIdeal.τ).loc Cert.ProjLastReferenceIdeal.main_arg8))
      ∧ r.2.sem = fun _ => 0)

def preserves_Kernel_KernelIdeal : Prop :=
  True

def algebraic_KernelIdeal_ReferenceIdeal_pre_finite_layer [hKernelIdeal : Cert.KernelIdeal.Facts] [hReferenceIdeal : Cert.ReferenceIdeal.Facts] [hPre_finite_layer : Cert.Pre_finite_layer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_layer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Embed_EmbedIdeal : Prop :=
  True

def algebraic_EmbedIdeal_EmbedReferenceIdeal [hEmbedIdeal : Cert.EmbedIdeal.Facts] [hEmbedReferenceIdeal : Cert.EmbedReferenceIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedIdeal m →
    (∀ c : Dev Cert.EmbedIdeal.nD,
      m' ((c.tc : Thread Cert.EmbedReferenceIdeal.nD Cert.EmbedReferenceIdeal.τ).loc Cert.EmbedReferenceIdeal.main_arg0) = m ((c.tc : Thread Cert.EmbedIdeal.nD Cert.EmbedIdeal.τ).loc Cert.EmbedIdeal.main_arg0)
      ∧ m' ((c.tc : Thread Cert.EmbedReferenceIdeal.nD Cert.EmbedReferenceIdeal.τ).loc Cert.EmbedReferenceIdeal.main_arg1) = m ((c.tc : Thread Cert.EmbedIdeal.nD Cert.EmbedIdeal.τ).loc Cert.EmbedIdeal.main_arg1)
      ∧ m' ((c.tc : Thread Cert.EmbedReferenceIdeal.nD Cert.EmbedReferenceIdeal.τ).loc Cert.EmbedReferenceIdeal.main_arg2) = m ((c.tc : Thread Cert.EmbedIdeal.nD Cert.EmbedIdeal.τ).loc Cert.EmbedIdeal.main_arg2)
      ∧ m' ((c.tc : Thread Cert.EmbedReferenceIdeal.nD Cert.EmbedReferenceIdeal.τ).loc Cert.EmbedReferenceIdeal.main_arg3) = m ((c.tc : Thread Cert.EmbedIdeal.nD Cert.EmbedIdeal.τ).loc Cert.EmbedIdeal.main_arg3)
      ∧ m' ((c.tc : Thread Cert.EmbedReferenceIdeal.nD Cert.EmbedReferenceIdeal.τ).loc Cert.EmbedReferenceIdeal.main_arg4) = m ((c.tc : Thread Cert.EmbedIdeal.nD Cert.EmbedIdeal.τ).loc Cert.EmbedIdeal.main_arg4)) →
    ∃ (v0 : (c : Dev Cert.EmbedIdeal.nD) → Buf (Elt Ideal) ((c.tc : Thread Cert.EmbedIdeal.nD Cert.EmbedIdeal.τ).loc Cert.EmbedIdeal.main_v6)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v6) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v11) = v0 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2)
          ∧ r.2.mem ((c.tc : Thread Cert.EmbedReferenceIdeal.nD Cert.EmbedReferenceIdeal.τ).loc Cert.EmbedReferenceIdeal.main_arg3) = m' ((c.tc : Thread Cert.EmbedReferenceIdeal.nD Cert.EmbedReferenceIdeal.τ).loc Cert.EmbedReferenceIdeal.main_arg3)
          ∧ r.2.mem ((c.tc : Thread Cert.EmbedReferenceIdeal.nD Cert.EmbedReferenceIdeal.τ).loc Cert.EmbedReferenceIdeal.main_arg4) = m' ((c.tc : Thread Cert.EmbedReferenceIdeal.nD Cert.EmbedReferenceIdeal.τ).loc Cert.EmbedReferenceIdeal.main_arg4))

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)) →
    ∃ (v0 : (c : Dev Cert.HeadIdeal.nD) → Buf (Elt Ideal) ((c.tc : Thread Cert.HeadIdeal.nD Cert.HeadIdeal.τ).loc Cert.HeadIdeal.main_v5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v5) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v31) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3))

def preserves_Feed_FeedIdeal : Prop :=
  True

def algebraic_FeedIdeal_FeedReferenceIdeal [hFeedIdeal : Cert.FeedIdeal.Facts] [hFeedReferenceIdeal : Cert.FeedReferenceIdeal.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedIdeal m →
    (∀ c : Dev Cert.FeedIdeal.nD,
      m' ((c.tc : Thread Cert.FeedReferenceIdeal.nD Cert.FeedReferenceIdeal.τ).loc Cert.FeedReferenceIdeal.main_arg0) = m ((c.tc : Thread Cert.FeedIdeal.nD Cert.FeedIdeal.τ).loc Cert.FeedIdeal.main_arg0)
      ∧ m' ((c.tc : Thread Cert.FeedReferenceIdeal.nD Cert.FeedReferenceIdeal.τ).loc Cert.FeedReferenceIdeal.main_arg1) = m ((c.tc : Thread Cert.FeedIdeal.nD Cert.FeedIdeal.τ).loc Cert.FeedIdeal.main_arg1)
      ∧ m' ((c.tc : Thread Cert.FeedReferenceIdeal.nD Cert.FeedReferenceIdeal.τ).loc Cert.FeedReferenceIdeal.main_arg2) = m ((c.tc : Thread Cert.FeedIdeal.nD Cert.FeedIdeal.τ).loc Cert.FeedIdeal.main_arg2)
      ∧ m' ((c.tc : Thread Cert.FeedReferenceIdeal.nD Cert.FeedReferenceIdeal.τ).loc Cert.FeedReferenceIdeal.main_arg3) = m ((c.tc : Thread Cert.FeedIdeal.nD Cert.FeedIdeal.τ).loc Cert.FeedIdeal.main_arg3)
      ∧ m' ((c.tc : Thread Cert.FeedReferenceIdeal.nD Cert.FeedReferenceIdeal.τ).loc Cert.FeedReferenceIdeal.main_arg4) = m ((c.tc : Thread Cert.FeedIdeal.nD Cert.FeedIdeal.τ).loc Cert.FeedIdeal.main_arg4)
      ∧ m' ((c.tc : Thread Cert.FeedReferenceIdeal.nD Cert.FeedReferenceIdeal.τ).loc Cert.FeedReferenceIdeal.main_arg5) = m ((c.tc : Thread Cert.FeedIdeal.nD Cert.FeedIdeal.τ).loc Cert.FeedIdeal.main_arg5)
      ∧ m' ((c.tc : Thread Cert.FeedReferenceIdeal.nD Cert.FeedReferenceIdeal.τ).loc Cert.FeedReferenceIdeal.main_arg6) = m ((c.tc : Thread Cert.FeedIdeal.nD Cert.FeedIdeal.τ).loc Cert.FeedIdeal.main_arg6)) →
    ∃ (v0 : (c : Dev Cert.FeedIdeal.nD) → Buf (Elt Ideal) ((c.tc : Thread Cert.FeedIdeal.nD Cert.FeedIdeal.τ).loc Cert.FeedIdeal.main_v28)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v28) = v0 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
          ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4)
          ∧ r.2.mem ((c.tc : Thread Cert.FeedIdeal.nD Cert.FeedIdeal.τ).loc Cert.FeedIdeal.main_arg5) = m ((c.tc : Thread Cert.FeedIdeal.nD Cert.FeedIdeal.τ).loc Cert.FeedIdeal.main_arg5)
          ∧ r.2.mem ((c.tc : Thread Cert.FeedIdeal.nD Cert.FeedIdeal.τ).loc Cert.FeedIdeal.main_arg6) = m ((c.tc : Thread Cert.FeedIdeal.nD Cert.FeedIdeal.τ).loc Cert.FeedIdeal.main_arg6))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v47) = v0 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3)
          ∧ r.2.mem ((c.tc : Thread Cert.FeedReferenceIdeal.nD Cert.FeedReferenceIdeal.τ).loc Cert.FeedReferenceIdeal.main_arg4) = m' ((c.tc : Thread Cert.FeedReferenceIdeal.nD Cert.FeedReferenceIdeal.τ).loc Cert.FeedReferenceIdeal.main_arg4)
          ∧ r.2.mem ((c.tc : Thread Cert.FeedReferenceIdeal.nD Cert.FeedReferenceIdeal.τ).loc Cert.FeedReferenceIdeal.main_arg5) = m' ((c.tc : Thread Cert.FeedReferenceIdeal.nD Cert.FeedReferenceIdeal.τ).loc Cert.FeedReferenceIdeal.main_arg5)
          ∧ r.2.mem ((c.tc : Thread Cert.FeedReferenceIdeal.nD Cert.FeedReferenceIdeal.τ).loc Cert.FeedReferenceIdeal.main_arg6) = m' ((c.tc : Thread Cert.FeedReferenceIdeal.nD Cert.FeedReferenceIdeal.τ).loc Cert.FeedReferenceIdeal.main_arg6))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v28)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v28) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v47) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v29_0)) (v1 : (c : Dev Cert.ProjIdeal.nD) → Buf (Elt Ideal) ((c.tc : Thread Cert.ProjIdeal.nD Cert.ProjIdeal.τ).loc Cert.ProjIdeal.main_v29_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29_0) = v0 c
          ∧ r.2.mem ((c.tc : Thread Cert.ProjIdeal.nD Cert.ProjIdeal.τ).loc Cert.ProjIdeal.main_v29_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v43) = v0 c
          ∧ r.2.mem ((c.tc : Thread Cert.ProjReferenceIdeal.nD Cert.ProjReferenceIdeal.τ).loc Cert.ProjReferenceIdeal.main_v44) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def preserves_ProjLast_ProjLastIdeal : Prop :=
  True

def algebraic_ProjLastIdeal_ProjLastReferenceIdeal [hProjLastIdeal : Cert.ProjLastIdeal.Facts] [hProjLastReferenceIdeal : Cert.ProjLastReferenceIdeal.Facts] : Prop :=
  ∀ (m : (ℓ : Loc Cert.ProjLastIdeal.nD Cert.ProjLastIdeal.τ Cert.ProjLastIdeal.sig) → Buf (Elt Ideal) ℓ) (g : Dev Cert.ProjLastIdeal.nD → PrngReg)
    (m' : (ℓ : Loc Cert.ProjLastReferenceIdeal.nD Cert.ProjLastReferenceIdeal.τ Cert.ProjLastReferenceIdeal.sig) → Buf (Elt Ideal) ℓ) (g' : Dev Cert.ProjLastReferenceIdeal.nD → PrngReg), Pre_ProjLastIdeal m →
    (∀ c : Dev Cert.ProjLastIdeal.nD,
      m' ((c.tc : Thread Cert.ProjLastReferenceIdeal.nD Cert.ProjLastReferenceIdeal.τ).loc Cert.ProjLastReferenceIdeal.main_arg0) = m ((c.tc : Thread Cert.ProjLastIdeal.nD Cert.ProjLastIdeal.τ).loc Cert.ProjLastIdeal.main_arg0)
      ∧ m' ((c.tc : Thread Cert.ProjLastReferenceIdeal.nD Cert.ProjLastReferenceIdeal.τ).loc Cert.ProjLastReferenceIdeal.main_arg1) = m ((c.tc : Thread Cert.ProjLastIdeal.nD Cert.ProjLastIdeal.τ).loc Cert.ProjLastIdeal.main_arg1)
      ∧ m' ((c.tc : Thread Cert.ProjLastReferenceIdeal.nD Cert.ProjLastReferenceIdeal.τ).loc Cert.ProjLastReferenceIdeal.main_arg2) = m ((c.tc : Thread Cert.ProjLastIdeal.nD Cert.ProjLastIdeal.τ).loc Cert.ProjLastIdeal.main_arg2)
      ∧ m' ((c.tc : Thread Cert.ProjLastReferenceIdeal.nD Cert.ProjLastReferenceIdeal.τ).loc Cert.ProjLastReferenceIdeal.main_arg3) = m ((c.tc : Thread Cert.ProjLastIdeal.nD Cert.ProjLastIdeal.τ).loc Cert.ProjLastIdeal.main_arg3)
      ∧ m' ((c.tc : Thread Cert.ProjLastReferenceIdeal.nD Cert.ProjLastReferenceIdeal.τ).loc Cert.ProjLastReferenceIdeal.main_arg4) = m ((c.tc : Thread Cert.ProjLastIdeal.nD Cert.ProjLastIdeal.τ).loc Cert.ProjLastIdeal.main_arg4)
      ∧ m' ((c.tc : Thread Cert.ProjLastReferenceIdeal.nD Cert.ProjLastReferenceIdeal.τ).loc Cert.ProjLastReferenceIdeal.main_arg5) = m ((c.tc : Thread Cert.ProjLastIdeal.nD Cert.ProjLastIdeal.τ).loc Cert.ProjLastIdeal.main_arg5)
      ∧ m' ((c.tc : Thread Cert.ProjLastReferenceIdeal.nD Cert.ProjLastReferenceIdeal.τ).loc Cert.ProjLastReferenceIdeal.main_arg6) = m ((c.tc : Thread Cert.ProjLastIdeal.nD Cert.ProjLastIdeal.τ).loc Cert.ProjLastIdeal.main_arg6)
      ∧ m' ((c.tc : Thread Cert.ProjLastReferenceIdeal.nD Cert.ProjLastReferenceIdeal.τ).loc Cert.ProjLastReferenceIdeal.main_arg7) = m ((c.tc : Thread Cert.ProjLastIdeal.nD Cert.ProjLastIdeal.τ).loc Cert.ProjLastIdeal.main_arg7)
      ∧ m' ((c.tc : Thread Cert.ProjLastReferenceIdeal.nD Cert.ProjLastReferenceIdeal.τ).loc Cert.ProjLastReferenceIdeal.main_arg8) = m ((c.tc : Thread Cert.ProjLastIdeal.nD Cert.ProjLastIdeal.τ).loc Cert.ProjLastIdeal.main_arg8)) →
    ∃ (v0 : (c : Dev Cert.ProjLastIdeal.nD) → Buf (Elt Ideal) ((c.tc : Thread Cert.ProjLastIdeal.nD Cert.ProjLastIdeal.τ).loc Cert.ProjLastIdeal.main_v29_0)) (v1 : (c : Dev Cert.ProjLastIdeal.nD) → Buf (Elt Ideal) ((c.tc : Thread Cert.ProjLastIdeal.nD Cert.ProjLastIdeal.τ).loc Cert.ProjLastIdeal.main_v29_1)),
      θ_run (Cert.ProjLastIdeal.defs (F := Ideal)) (onTc (τ := Cert.ProjLastIdeal.τ) (Cert.ProjLastIdeal.main (F := Ideal))) ⟨m, fun _ => 0, g⟩ (fun r => ∀ c : Dev Cert.ProjLastIdeal.nD,
          r.2.mem ((c.tc : Thread Cert.ProjLastIdeal.nD Cert.ProjLastIdeal.τ).loc Cert.ProjLastIdeal.main_v29_0) = v0 c
          ∧ r.2.mem ((c.tc : Thread Cert.ProjLastIdeal.nD Cert.ProjLastIdeal.τ).loc Cert.ProjLastIdeal.main_v29_1) = v1 c
          ∧ r.2.mem ((c.tc : Thread Cert.ProjLastIdeal.nD Cert.ProjLastIdeal.τ).loc Cert.ProjLastIdeal.main_arg0) = m ((c.tc : Thread Cert.ProjLastIdeal.nD Cert.ProjLastIdeal.τ).loc Cert.ProjLastIdeal.main_arg0)
          ∧ r.2.mem ((c.tc : Thread Cert.ProjLastIdeal.nD Cert.ProjLastIdeal.τ).loc Cert.ProjLastIdeal.main_arg1) = m ((c.tc : Thread Cert.ProjLastIdeal.nD Cert.ProjLastIdeal.τ).loc Cert.ProjLastIdeal.main_arg1)
          ∧ r.2.mem ((c.tc : Thread Cert.ProjLastIdeal.nD Cert.ProjLastIdeal.τ).loc Cert.ProjLastIdeal.main_arg2) = m ((c.tc : Thread Cert.ProjLastIdeal.nD Cert.ProjLastIdeal.τ).loc Cert.ProjLastIdeal.main_arg2)
          ∧ r.2.mem ((c.tc : Thread Cert.ProjLastIdeal.nD Cert.ProjLastIdeal.τ).loc Cert.ProjLastIdeal.main_arg3) = m ((c.tc : Thread Cert.ProjLastIdeal.nD Cert.ProjLastIdeal.τ).loc Cert.ProjLastIdeal.main_arg3)
          ∧ r.2.mem ((c.tc : Thread Cert.ProjLastIdeal.nD Cert.ProjLastIdeal.τ).loc Cert.ProjLastIdeal.main_arg4) = m ((c.tc : Thread Cert.ProjLastIdeal.nD Cert.ProjLastIdeal.τ).loc Cert.ProjLastIdeal.main_arg4)
          ∧ r.2.mem ((c.tc : Thread Cert.ProjLastIdeal.nD Cert.ProjLastIdeal.τ).loc Cert.ProjLastIdeal.main_arg5) = m ((c.tc : Thread Cert.ProjLastIdeal.nD Cert.ProjLastIdeal.τ).loc Cert.ProjLastIdeal.main_arg5)
          ∧ r.2.mem ((c.tc : Thread Cert.ProjLastIdeal.nD Cert.ProjLastIdeal.τ).loc Cert.ProjLastIdeal.main_arg6) = m ((c.tc : Thread Cert.ProjLastIdeal.nD Cert.ProjLastIdeal.τ).loc Cert.ProjLastIdeal.main_arg6)
          ∧ r.2.mem ((c.tc : Thread Cert.ProjLastIdeal.nD Cert.ProjLastIdeal.τ).loc Cert.ProjLastIdeal.main_arg7) = m ((c.tc : Thread Cert.ProjLastIdeal.nD Cert.ProjLastIdeal.τ).loc Cert.ProjLastIdeal.main_arg7)
          ∧ r.2.mem ((c.tc : Thread Cert.ProjLastIdeal.nD Cert.ProjLastIdeal.τ).loc Cert.ProjLastIdeal.main_arg8) = m ((c.tc : Thread Cert.ProjLastIdeal.nD Cert.ProjLastIdeal.τ).loc Cert.ProjLastIdeal.main_arg8))
      ∧ θ_run (Cert.ProjLastReferenceIdeal.defs (F := Ideal)) (onTc (τ := Cert.ProjLastReferenceIdeal.τ) (Cert.ProjLastReferenceIdeal.main (F := Ideal))) ⟨m', fun _ => 0, g'⟩ (fun r => ∀ c : Dev Cert.ProjLastReferenceIdeal.nD,
          r.2.mem ((c.tc : Thread Cert.ProjLastReferenceIdeal.nD Cert.ProjLastReferenceIdeal.τ).loc Cert.ProjLastReferenceIdeal.main_v43) = v0 c
          ∧ r.2.mem ((c.tc : Thread Cert.ProjLastReferenceIdeal.nD Cert.ProjLastReferenceIdeal.τ).loc Cert.ProjLastReferenceIdeal.main_v44) = v1 c
          ∧ r.2.mem ((c.tc : Thread Cert.ProjLastReferenceIdeal.nD Cert.ProjLastReferenceIdeal.τ).loc Cert.ProjLastReferenceIdeal.main_arg0) = m' ((c.tc : Thread Cert.ProjLastReferenceIdeal.nD Cert.ProjLastReferenceIdeal.τ).loc Cert.ProjLastReferenceIdeal.main_arg0)
          ∧ r.2.mem ((c.tc : Thread Cert.ProjLastReferenceIdeal.nD Cert.ProjLastReferenceIdeal.τ).loc Cert.ProjLastReferenceIdeal.main_arg1) = m' ((c.tc : Thread Cert.ProjLastReferenceIdeal.nD Cert.ProjLastReferenceIdeal.τ).loc Cert.ProjLastReferenceIdeal.main_arg1)
          ∧ r.2.mem ((c.tc : Thread Cert.ProjLastReferenceIdeal.nD Cert.ProjLastReferenceIdeal.τ).loc Cert.ProjLastReferenceIdeal.main_arg2) = m' ((c.tc : Thread Cert.ProjLastReferenceIdeal.nD Cert.ProjLastReferenceIdeal.τ).loc Cert.ProjLastReferenceIdeal.main_arg2)
          ∧ r.2.mem ((c.tc : Thread Cert.ProjLastReferenceIdeal.nD Cert.ProjLastReferenceIdeal.τ).loc Cert.ProjLastReferenceIdeal.main_arg3) = m' ((c.tc : Thread Cert.ProjLastReferenceIdeal.nD Cert.ProjLastReferenceIdeal.τ).loc Cert.ProjLastReferenceIdeal.main_arg3)
          ∧ r.2.mem ((c.tc : Thread Cert.ProjLastReferenceIdeal.nD Cert.ProjLastReferenceIdeal.τ).loc Cert.ProjLastReferenceIdeal.main_arg4) = m' ((c.tc : Thread Cert.ProjLastReferenceIdeal.nD Cert.ProjLastReferenceIdeal.τ).loc Cert.ProjLastReferenceIdeal.main_arg4)
          ∧ r.2.mem ((c.tc : Thread Cert.ProjLastReferenceIdeal.nD Cert.ProjLastReferenceIdeal.τ).loc Cert.ProjLastReferenceIdeal.main_arg5) = m' ((c.tc : Thread Cert.ProjLastReferenceIdeal.nD Cert.ProjLastReferenceIdeal.τ).loc Cert.ProjLastReferenceIdeal.main_arg5)
          ∧ r.2.mem ((c.tc : Thread Cert.ProjLastReferenceIdeal.nD Cert.ProjLastReferenceIdeal.τ).loc Cert.ProjLastReferenceIdeal.main_arg6) = m' ((c.tc : Thread Cert.ProjLastReferenceIdeal.nD Cert.ProjLastReferenceIdeal.τ).loc Cert.ProjLastReferenceIdeal.main_arg6)
          ∧ r.2.mem ((c.tc : Thread Cert.ProjLastReferenceIdeal.nD Cert.ProjLastReferenceIdeal.τ).loc Cert.ProjLastReferenceIdeal.main_arg7) = m' ((c.tc : Thread Cert.ProjLastReferenceIdeal.nD Cert.ProjLastReferenceIdeal.τ).loc Cert.ProjLastReferenceIdeal.main_arg7)
          ∧ r.2.mem ((c.tc : Thread Cert.ProjLastReferenceIdeal.nD Cert.ProjLastReferenceIdeal.τ).loc Cert.ProjLastReferenceIdeal.main_arg8) = m' ((c.tc : Thread Cert.ProjLastReferenceIdeal.nD Cert.ProjLastReferenceIdeal.τ).loc Cert.ProjLastReferenceIdeal.main_arg8))

def Claim : Prop :=
  ∃ (hKernel : Cert.Kernel.Facts) (hKernelIdeal : Cert.KernelIdeal.Facts) (hReferenceIdeal : Cert.ReferenceIdeal.Facts) (hEmbed : Cert.Embed.Facts) (hEmbedIdeal : Cert.EmbedIdeal.Facts) (hEmbedReferenceIdeal : Cert.EmbedReferenceIdeal.Facts) (hHead : Cert.Head.Facts) (hHeadIdeal : Cert.HeadIdeal.Facts) (hHeadReferenceIdeal : Cert.HeadReferenceIdeal.Facts) (hFeed : Cert.Feed.Facts) (hFeedIdeal : Cert.FeedIdeal.Facts) (hFeedReferenceIdeal : Cert.FeedReferenceIdeal.Facts) (hLast : Cert.Last.Facts) (hLastIdeal : Cert.LastIdeal.Facts) (hLastReferenceIdeal : Cert.LastReferenceIdeal.Facts) (hProj : Cert.Proj.Facts) (hProjIdeal : Cert.ProjIdeal.Facts) (hProjReferenceIdeal : Cert.ProjReferenceIdeal.Facts) (hProjLast : Cert.ProjLast.Facts) (hProjLastIdeal : Cert.ProjLastIdeal.Facts) (hProjLastReferenceIdeal : Cert.ProjLastReferenceIdeal.Facts) (hPre_finite_layer : Cert.Pre_finite_layer.Facts),
    quiescent_Kernel (hKernel := hKernel)
    ∧ quiescent_KernelIdeal (hKernelIdeal := hKernelIdeal)
    ∧ quiescent_KernelIdeal_pre_finite_layer (hKernelIdeal := hKernelIdeal) (hPre_finite_layer := hPre_finite_layer)
    ∧ quiescent_ReferenceIdeal (hReferenceIdeal := hReferenceIdeal)
    ∧ quiescent_ReferenceIdeal_pre_finite_layer (hReferenceIdeal := hReferenceIdeal) (hPre_finite_layer := hPre_finite_layer)
    ∧ quiescent_Embed (hEmbed := hEmbed)
    ∧ quiescent_EmbedIdeal (hEmbedIdeal := hEmbedIdeal)
    ∧ quiescent_EmbedReferenceIdeal (hEmbedReferenceIdeal := hEmbedReferenceIdeal)
    ∧ quiescent_Head (hHead := hHead)
    ∧ quiescent_HeadIdeal (hHeadIdeal := hHeadIdeal)
    ∧ quiescent_HeadReferenceIdeal (hHeadReferenceIdeal := hHeadReferenceIdeal)
    ∧ quiescent_Feed (hFeed := hFeed)
    ∧ quiescent_FeedIdeal (hFeedIdeal := hFeedIdeal)
    ∧ quiescent_FeedReferenceIdeal (hFeedReferenceIdeal := hFeedReferenceIdeal)
    ∧ quiescent_Last (hLast := hLast)
    ∧ quiescent_LastIdeal (hLastIdeal := hLastIdeal)
    ∧ quiescent_LastReferenceIdeal (hLastReferenceIdeal := hLastReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjLast (hProjLast := hProjLast)
    ∧ quiescent_ProjLastIdeal (hProjLastIdeal := hProjLastIdeal)
    ∧ quiescent_ProjLastReferenceIdeal (hProjLastReferenceIdeal := hProjLastReferenceIdeal)
    ∧ preserves_Kernel_KernelIdeal
    ∧ algebraic_KernelIdeal_ReferenceIdeal_pre_finite_layer (hKernelIdeal := hKernelIdeal) (hReferenceIdeal := hReferenceIdeal) (hPre_finite_layer := hPre_finite_layer)
    ∧ preserves_Embed_EmbedIdeal
    ∧ algebraic_EmbedIdeal_EmbedReferenceIdeal (hEmbedIdeal := hEmbedIdeal) (hEmbedReferenceIdeal := hEmbedReferenceIdeal)
    ∧ preserves_Head_HeadIdeal
    ∧ algebraic_HeadIdeal_HeadReferenceIdeal (hHeadIdeal := hHeadIdeal) (hHeadReferenceIdeal := hHeadReferenceIdeal)
    ∧ preserves_Feed_FeedIdeal
    ∧ algebraic_FeedIdeal_FeedReferenceIdeal (hFeedIdeal := hFeedIdeal) (hFeedReferenceIdeal := hFeedReferenceIdeal)
    ∧ preserves_Last_LastIdeal
    ∧ algebraic_LastIdeal_LastReferenceIdeal (hLastIdeal := hLastIdeal) (hLastReferenceIdeal := hLastReferenceIdeal)
    ∧ preserves_Proj_ProjIdeal
    ∧ algebraic_ProjIdeal_ProjReferenceIdeal (hProjIdeal := hProjIdeal) (hProjReferenceIdeal := hProjReferenceIdeal)
    ∧ preserves_ProjLast_ProjLastIdeal
    ∧ algebraic_ProjLastIdeal_ProjLastReferenceIdeal (hProjLastIdeal := hProjLastIdeal) (hProjLastReferenceIdeal := hProjLastReferenceIdeal)
-- ==== Pre_finite_layer.lean ====
abbrev S394x768 : Shape := ⟨2, ![394, 768]⟩
abbrev S768 : Shape := ⟨1, ![768]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S394x768 : S_.BroadcastsInDim S394x768 (![] : Fin 0 → Fin S394x768.rank)
  bcast_S_S768 : S_.BroadcastsInDim S768 (![] : Fin 0 → Fin S768.rank)
  bcast_S_S768x768 : S_.BroadcastsInDim S768x768 (![] : Fin 0 → Fin S768x768.rank)

variable [Facts]

def fn_part1 {F : FTy → Type} [FloatOps F] (main_arg6 : FVec F S768 .f32) (main_v2 : IVec S394x768 1) (main_v5 : IVec S768 1) (main_v8 : IVec S768 1) (main_v11 : IVec S768x768 1) (main_v14 : IVec S768 1) (main_v17 : IVec S768x768 1) : IVec S394x768 1 × IVec S768 1 × IVec S768 1 × IVec S768x768 1 × IVec S768 1 × IVec S768x768 1 × IVec S768 1 :=
  let main_v18 : FVec F S768 .f32 := Host.absf main_arg6
  let main_cst_5 : FVec F S_ .f32 := constant S_ .f32 0x7F800000#32
  let main_v19 : FVec F S768 .f32 := broadcastInDim S768 ![] bcast_S_S768 main_cst_5
  let main_v20 : IVec S768 1 := cmpf .olt main_v18 main_v19
  (main_v2, main_v5, main_v8, main_v11, main_v14, main_v17, main_v20)

def fn {F : FTy → Type} [FloatOps F] (main_arg0 : FVec F S394x768 .f32) (main_arg1 : FVec F S768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) (main_arg9 : FVec F S768x768 .f32) (main_arg10 : FVec F S768 .f32) (main_arg11 : FVec F S768 .f32) (main_arg12 : FVec F S768 .f32) (main_arg13 : FVec F S768x3072 .f32) (main_arg14 : FVec F S3072 .f32) (main_arg15 : FVec F S3072x768 .f32) (main_arg16 : FVec F S768 .f32) : IVec S394x768 1 × IVec S768 1 × IVec S768 1 × IVec S768x768 1 × IVec S768 1 × IVec S768x768 1 × IVec S768 1 :=
  let main_v0 : FVec F S394x768 .f32 := Host.absf main_arg0
  let main_cst : FVec F S_ .f32 := constant S_ .f32 0x7F800000#32
  let main_v1 : FVec F S394x768 .f32 := broadcastInDim S394x768 ![] bcast_S_S394x768 main_cst
  let main_v2 : IVec S394x768 1 := cmpf .olt main_v0 main_v1
  let main_v3 : FVec F S768 .f32 := Host.absf main_arg1
  let main_cst_0 : FVec F S_ .f32 := constant S_ .f32 0x7F800000#32
  let main_v4 : FVec F S768 .f32 := broadcastInDim S768 ![] bcast_S_S768 main_cst_0
  let main_v5 : IVec S768 1 := cmpf .olt main_v3 main_v4
  let main_v6 : FVec F S768 .f32 := Host.absf main_arg2
  let main_cst_1 : FVec F S_ .f32 := constant S_ .f32 0x7F800000#32
  let main_v7 : FVec F S768 .f32 := broadcastInDim S768 ![] bcast_S_S768 main_cst_1
  let main_v8 : IVec S768 1 := cmpf .olt main_v6 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_v12 : FVec F S768 .f32 := Host.absf main_arg4
  let main_cst_3 : FVec F S_ .f32 := constant S_ .f32 0x7F800000#32
  let main_v13 : FVec F S768 .f32 := broadcastInDim S768 ![] bcast_S_S768 main_cst_3
  let main_v14 : IVec S768 1 := cmpf .olt main_v12 main_v13
  let main_v15 : FVec F S768x768 .f32 := Host.absf main_arg5
  let main_cst_4 : FVec F S_ .f32 := constant S_ .f32 0x7F800000#32
  let main_v16 : FVec F S768x768 .f32 := broadcastInDim S768x768 ![] bcast_S_S768x768 main_cst_4
  let main_v17 : IVec S768x768 1 := cmpf .olt main_v15 main_v16
  fn_part1 (F := F) main_arg6 main_v2 main_v5 main_v8 main_v11 main_v14 main_v17
-- ==== Kernel.lean ====
abbrev S394x768 : Shape := ⟨2, ![394, 768]⟩
abbrev S768 : Shape := ⟨1, ![768]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S196x196 : Shape := ⟨2, ![196, 196]⟩
abbrev S2x197x768 : Shape := ⟨3, ![2, 197, 768]⟩
abbrev S_ : Shape := ⟨0, ![]⟩
abbrev S2x197 : Shape := ⟨2, ![2, 197]⟩
abbrev S2x197x1 : Shape := ⟨3, ![2, 197, 1]⟩
abbrev S1x1x768 : Shape := ⟨3, ![1, 1, 768]⟩
abbrev S1x768 : Shape := ⟨2, ![1, 768]⟩
abbrev S2x12x197x197 : Shape := ⟨4, ![2, 12, 197, 197]⟩
abbrev S197x768 : Shape := ⟨2, ![197, 768]⟩
abbrev S197x64 : Shape := ⟨2, ![197, 64]⟩
abbrev S197x197 : Shape := ⟨2, ![197, 197]⟩
abbrev S1x1x197x197 : Shape := ⟨4, ![1, 1, 197, 197]⟩
abbrev S2x12x197 : Shape := ⟨3, ![2, 12, 197]⟩
abbrev S2x12x197x1 : Shape := ⟨4, ![2, 12, 197, 1]⟩
abbrev S2x16x196 : Shape := ⟨3, ![2, 16, 196]⟩
abbrev S1x196 : Shape := ⟨2, ![1, 196]⟩
abbrev S24x196 : Shape := ⟨2, ![24, 196]⟩
abbrev S24 : Shape := ⟨1, ![24]⟩
abbrev S24x1 : Shape := ⟨2, ![24, 1]⟩
abbrev S12x196 : Shape := ⟨2, ![12, 196]⟩
abbrev S196 : Shape := ⟨1, ![196]⟩
abbrev S2x196 : Shape := ⟨2, ![2, 196]⟩
abbrev S2 : Shape := ⟨1, ![2]⟩
abbrev S2x1 : Shape := ⟨2, ![2, 1]⟩
abbrev S16x196 : Shape := ⟨2, ![16, 196]⟩
abbrev S1x16x196 : Shape := ⟨3, ![1, 16, 196]⟩
abbrev S1x3072 : Shape := ⟨2, ![1, 3072]⟩
abbrev S2x16x768 : Shape := ⟨3, ![2, 16, 768]⟩
abbrev S394x3072 : Shape := ⟨2, ![394, 3072]⟩
abbrev S196x768 : Shape := ⟨2, ![196, 768]⟩
abbrev S16x768 : Shape := ⟨2, ![16, 768]⟩
abbrev S1x16x768 : Shape := ⟨3, ![1, 16, 768]⟩

abbrev nBuf : Space → Nat
  | .hbm => 106
  | .vmem => 26
  | .smem => 0
  | _ => 0

abbrev bufTy : (tb : Table) → Fin (tcTables nBuf tb) → BufTy
  | .hbm, ⟨0, _⟩ => ⟨S394x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768x3072, .f32⟩
  | .hbm, ⟨14, _⟩ => ⟨S3072, .f32⟩
  | .hbm, ⟨15, _⟩ => ⟨S3072x768, .f32⟩
  | .hbm, ⟨16, _⟩ => ⟨S768, .f32⟩
  | .hbm, ⟨17, _⟩ => ⟨S196x196, .f32⟩
  | .hbm, ⟨18, _⟩ => ⟨S2x197x768, .f32⟩
  | .hbm, ⟨19, _⟩ => ⟨S_, .f32⟩
  | .hbm, ⟨20, _⟩ => ⟨S2x197, .f32⟩
  | .hbm, ⟨21, _⟩ => ⟨S2x197x1, .f32⟩
  | .hbm, ⟨22, _⟩ => ⟨S_, .f32⟩
  | .hbm, ⟨23, _⟩ => ⟨S2x197x1, .f32⟩
  | .hbm, ⟨24, _⟩ => ⟨S2x197x1, .f32⟩
  | .hbm, ⟨25, _⟩ => ⟨S2x197x768, .f32⟩
  | .hbm, ⟨26, _⟩ => ⟨S2x197x768, .f32⟩
  | .hbm, ⟨27, _⟩ => ⟨S2x197x768, .f32⟩
  | .hbm, ⟨28, _⟩ => ⟨S_, .f32⟩
  | .hbm, ⟨29, _⟩ => ⟨S2x197, .f32⟩
  | .hbm, ⟨30, _⟩ => ⟨S2x197x1, .f32⟩
  | .hbm, ⟨31, _⟩ => ⟨S_, .f32⟩
  | .hbm, ⟨32, _⟩ => ⟨S2x197x1, .f32⟩
  | .hbm, ⟨33, _⟩ => ⟨S2x197x1, .f32⟩
  | .hbm, ⟨34, _⟩ => ⟨S2x197x768, .f32⟩
  | .hbm, ⟨35, _⟩ => ⟨S2x197x768, .f32⟩
  | .hbm, ⟨36, _⟩ => ⟨S_, .f32⟩
  | .hbm, ⟨37, _⟩ => ⟨S2x197x1, .f32⟩
  | .hbm, ⟨38, _⟩ => ⟨S2x197x1, .f32⟩
  | .hbm, ⟨39, _⟩ => ⟨S2x197x1, .f32⟩
  | .hbm, ⟨40, _⟩ => ⟨S2x197x768, .f32⟩
  | .hbm, ⟨41, _⟩ => ⟨S2x197x768, .f32⟩
  | .hbm, ⟨42, _⟩ => ⟨S1x1x768, .f32⟩
  | .hbm, ⟨43, _⟩ => ⟨S2x197x768, .f32⟩
  | .hbm, ⟨44, _⟩ => ⟨S2x197x768, .f32⟩
  | .hbm, ⟨45, _⟩ => ⟨S1x1x768, .f32⟩
  | .hbm, ⟨46, _⟩ => ⟨S2x197x768, .f32⟩
  | .hbm, ⟨47, _⟩ => ⟨S2x197x768, .f32⟩
  | .hbm, ⟨48, _⟩ => ⟨S394x768, .f32⟩
  | .hbm, ⟨49, _⟩ => ⟨S1x768, .f32⟩
  | .hbm, ⟨50, _⟩ => ⟨S1x768, .f32⟩
  | .hbm, ⟨51, _⟩ => ⟨S1x768, .f32⟩
  | .hbm, ⟨52, _⟩ => ⟨S2x12x197x197, .f32⟩
  | .hbm, ⟨53, _⟩ => ⟨S394x768, .f32⟩
  | .hbm, ⟨54, _⟩ => ⟨S_, .f32⟩
  | .hbm, ⟨55, _⟩ => ⟨S2x12x197, .f32⟩
  | .hbm, ⟨56, _⟩ => ⟨S_, .f32⟩
  | .hbm, ⟨57, _⟩ => ⟨S2x12x197, .f32⟩
  | .hbm, ⟨58, _⟩ => ⟨S2x12x197, .f32⟩
  | .hbm, ⟨59, _⟩ => ⟨S2x12x197x1, .f32⟩
  | .hbm, ⟨60, _⟩ => ⟨S2x12x197x197, .f32⟩
  | .hbm, ⟨61, _⟩ => ⟨S2x12x197x197, .f32⟩
  | .hbm, ⟨62, _⟩ => ⟨S2x12x197x197, .f32⟩
  | .hbm, ⟨63, _⟩ => ⟨S_, .f32⟩
  | .hbm, ⟨64, _⟩ => ⟨S2x12x197, .f32⟩
  | .hbm, ⟨65, _⟩ => ⟨S2x12x197x1, .f32⟩
  | .hbm, ⟨66, _⟩ => ⟨S2x12x197x197, .f32⟩
  | .hbm, ⟨67, _⟩ => ⟨S2x12x197x197, .f32⟩
  | .hbm, ⟨68, _⟩ => ⟨S1x768, .f32⟩
  | .hbm, ⟨69, _⟩ => ⟨S394x768, .f32⟩
  | .hbm, ⟨70, _⟩ => ⟨S2x16x196, .f32⟩
  | .hbm, ⟨71, _⟩ => ⟨S2x197x768, .f32⟩
  | .hbm, ⟨72, _⟩ => ⟨S_, .f32⟩
  | .hbm, ⟨73, _⟩ => ⟨S2x197, .f32⟩
  | .hbm, ⟨74, _⟩ => ⟨S2x197x1, .f32⟩
  | .hbm, ⟨75, _⟩ => ⟨S_, .f32⟩
  | .hbm, ⟨76, _⟩ => ⟨S2x197x1, .f32⟩
  | .hbm, ⟨77, _⟩ => ⟨S2x197x1, .f32⟩
  | .hbm, ⟨78, _⟩ => ⟨S2x197x768, .f32⟩
  | .hbm, ⟨79, _⟩ => ⟨S2x197x768, .f32⟩
  | .hbm, ⟨80, _⟩ => ⟨S2x197x768, .f32⟩
  | .hbm, ⟨81, _⟩ => ⟨S_, .f32⟩
  | .hbm, ⟨82, _⟩ => ⟨S2x197, .f32⟩
  | .hbm, ⟨83, _⟩ => ⟨S2x197x1, .f32⟩
  | .hbm, ⟨84, _⟩ => ⟨S_, .f32⟩
  | .hbm, ⟨85, _⟩ => ⟨S2x197x1, .f32⟩
  | .hbm, ⟨86, _⟩ => ⟨S2x197x1, .f32⟩
  | .hbm, ⟨87, _⟩ => ⟨S2x197x768, .f32⟩
  | .hbm, ⟨88, _⟩ => ⟨S2x197x768, .f32⟩
  | .hbm, ⟨89, _⟩ => ⟨S_, .f32⟩
  | .hbm, ⟨90, _⟩ => ⟨S2x197x1, .f32⟩
  | .hbm, ⟨91, _⟩ => ⟨S2x197x1, .f32⟩
  | .hbm, ⟨92, _⟩ => ⟨S2x197x1, .f32⟩
  | .hbm, ⟨93, _⟩ => ⟨S2x197x768, .f32⟩
  | .hbm, ⟨94, _⟩ => ⟨S2x197x768, .f32⟩
  | .hbm, ⟨95, _⟩ => ⟨S1x1x768, .f32⟩
  | .hbm, ⟨96, _⟩ => ⟨S2x197x768, .f32⟩
  | .hbm, ⟨97, _⟩ => ⟨S2x197x768, .f32⟩
  | .hbm, ⟨98, _⟩ => ⟨S1x1x768, .f32⟩
  | .hbm, ⟨99, _⟩ => ⟨S2x197x768, .f32⟩
  | .hbm, ⟨100, _⟩ => ⟨S2x197x768, .f32⟩
  | .hbm, ⟨101, _⟩ => ⟨S394x768, .f32⟩
  | .hbm, ⟨102, _⟩ => ⟨S1x3072, .f32⟩
  | .hbm, ⟨103, _⟩ => ⟨S1x768, .f32⟩
  | .hbm, ⟨104, _⟩ => ⟨S394x768, .f32⟩
  | .hbm, ⟨105, _⟩ => ⟨S2x16x768, .f32⟩
  | .local _ .vmem, ⟨0, _⟩ => ⟨S394x768, .f32⟩
  | .local _ .vmem, ⟨1, _⟩ => ⟨S768x768, .f32⟩
  | .local _ .vmem, ⟨2, _⟩ => ⟨S1x768, .f32⟩
  | .local _ .vmem, ⟨3, _⟩ => ⟨S768x768, .f32⟩
  | .local _ .vmem, ⟨4, _⟩ => ⟨S1x768, .f32⟩
  | .local _ .vmem, ⟨5, _⟩ => ⟨S768x768, .f32⟩
  | .local _ .vmem, ⟨6, _⟩ => ⟨S1x768, .f32⟩
  | .local _ .vmem, ⟨7, _⟩ => ⟨S2x12x197x197, .f32⟩
  | .local _ .vmem, ⟨8, _⟩ => ⟨S394x768, .f32⟩
  | .local _ .vmem, ⟨9, _⟩ => ⟨S2x12x197x197, .f32⟩
  | .local _ .vmem, ⟨10, _⟩ => ⟨S394x768, .f32⟩
  | .local _ .vmem, ⟨11, _⟩ => ⟨S394x768, .f32⟩
  | .local _ .vmem, ⟨12, _⟩ => ⟨S768x768, .f32⟩
  | .local _ .vmem, ⟨13, _⟩ => ⟨S1x768, .f32⟩
  | .local _ .vmem, ⟨14, _⟩ => ⟨S196x196, .f32⟩
  | .local _ .vmem, ⟨15, _⟩ => ⟨S394x768, .f32⟩
  | .local _ .vmem, ⟨16, _⟩ => ⟨S2x16x196, .f32⟩
  | .local _ .vmem, ⟨17, _⟩ => ⟨S394x768, .f32⟩
  | .local _ .vmem, ⟨18, _⟩ => ⟨S394x768, .f32⟩
  | .local _ .vmem, ⟨19, _⟩ => ⟨S768x3072, .f32⟩
  | .local _ .vmem, ⟨20, _⟩ => ⟨S1x3072, .f32⟩
  | .local _ .vmem, ⟨21, _⟩ => ⟨S3072x768, .f32⟩
  | .local _ .vmem, ⟨22, _⟩ => ⟨S1x768, .f32⟩
  | .local _ .vmem, ⟨23, _⟩ => ⟨S2x16x196, .f32⟩
  | .local _ .vmem, ⟨24, _⟩ => ⟨S394x768, .f32⟩
  | .local _ .vmem, ⟨25, _⟩ => ⟨S2x16x768, .f32⟩
  | _, _ => ⟨S394x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_cst_1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_cst_5 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42_0 : Ref sig .tc := ⟨.hbm, 69, rfl⟩
abbrev main_v42_1 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71_0 : Ref sig .tc := ⟨.hbm, 104, rfl⟩
abbrev main_v71_1 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25

abbrev nD : Nat := 1
abbrev τ : Topo := Topo.v7x

variable {F : FTy → Type} [FloatOps F]

abbrev grid0 : Pipeline.Grid := .none

abbrev stage0_0 : Fin 1 → Memref sig .tc .vmem S394x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x12x197x197 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S394x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := .none

abbrev stage1_0 : Fin 1 → Memref sig .tc .vmem S2x12x197x197 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S394x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S394x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S768x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S196x196 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S394x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2x16x196 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := .none

abbrev stage2_0 : Fin 1 → Memref sig .tc .vmem S394x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S394x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S768x3072 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x3072 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S3072x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S2x16x196 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S394x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S2x16x768 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
-- ==== ReferenceIdeal.lean ====
abbrev S394x768 : Shape := ⟨2, ![394, 768]⟩
abbrev S768 : Shape := ⟨1, ![768]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S2x197x768 : Shape := ⟨3, ![2, 197, 768]⟩
abbrev S_ : Shape := ⟨0, ![]⟩
abbrev S2x197 : Shape := ⟨2, ![2, 197]⟩
abbrev S2x197x1 : Shape := ⟨3, ![2, 197, 1]⟩
abbrev S1x1x768 : Shape := ⟨3, ![1, 1, 768]⟩
abbrev S2x197x12x64 : Shape := ⟨4, ![2, 197, 12, 64]⟩
abbrev S2x12x197x64 : Shape := ⟨4, ![2, 12, 197, 64]⟩
abbrev S2x12x197x197 : Shape := ⟨4, ![2, 12, 197, 197]⟩
abbrev S2x12x197 : Shape := ⟨3, ![2, 12, 197]⟩
abbrev S2x12x197x1 : Shape := ⟨4, ![2, 12, 197, 1]⟩
abbrev S2x197x3072 : Shape := ⟨3, ![2, 197, 3072]⟩
abbrev S1x1x3072 : Shape := ⟨3, ![1, 1, 3072]⟩
abbrev S2x12x1x196 : Shape := ⟨4, ![2, 12, 1, 196]⟩
abbrev S2x12x196 : Shape := ⟨3, ![2, 12, 196]⟩
abbrev S2x12x24 : Shape := ⟨3, ![2, 12, 24]⟩
abbrev S2x288 : Shape := ⟨2, ![2, 288]⟩
abbrev S2x288x1 : Shape := ⟨3, ![2, 288, 1]⟩
abbrev S1x1x196 : Shape := ⟨3, ![1, 1, 196]⟩
abbrev S2x288x196 : Shape := ⟨3, ![2, 288, 196]⟩
abbrev S2x196 : Shape := ⟨2, ![2, 196]⟩
abbrev S2x14x14 : Shape := ⟨3, ![2, 14, 14]⟩
abbrev S2x16x16 : Shape := ⟨3, ![2, 16, 16]⟩
abbrev S2x16 : Shape := ⟨2, ![2, 16]⟩
abbrev S2x16x1 : Shape := ⟨3, ![2, 16, 1]⟩
abbrev S2x16x768 : Shape := ⟨3, ![2, 16, 768]⟩
abbrev S2x16x768x1 : Shape := ⟨4, ![2, 16, 768, 1]⟩
abbrev S1 : Shape := ⟨1, ![1]⟩
abbrev S1x1x1x1 : Shape := ⟨4, ![1, 1, 1, 1]⟩

abbrev nBuf : Space → Nat
  | .hbm => 241
  | .vmem => 0
  | .smem => 0
  | _ => 0

abbrev hbmTy0_0 (i : Nat) : BufTy := match i % 128 with
  | 0 => ⟨S394x768, .f32⟩
  | 1 => ⟨S768, .f32⟩
  | 2 => ⟨S768, .f32⟩
  | 3 => ⟨S768x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S768x768, .f32⟩
  | 10 => ⟨S768, .f32⟩
  | 11 => ⟨S768, .f32⟩
  | 12 => ⟨S768, .f32⟩
  | 13 => ⟨S768x3072, .f32⟩
  | 14 => ⟨S3072, .f32⟩
  | 15 => ⟨S3072x768, .f32⟩
  | 16 => ⟨S768, .f32⟩
  | 17 => ⟨S2x197x768, .f32⟩
  | 18 => ⟨S_, .f32⟩
  | 19 => ⟨S2x197, .f32⟩
  | 20 => ⟨S2x197x1, .f32⟩
  | 21 => ⟨S_, .f32⟩
  | 22 => ⟨S2x197x1, .f32⟩
  | 23 => ⟨S2x197x1, .f32⟩
  | 24 => ⟨S2x197x768, .f32⟩
  | 25 => ⟨S2x197x768, .f32⟩
  | 26 => ⟨S2x197x768, .f32⟩
  | 27 => ⟨S_, .f32⟩
  | 28 => ⟨S2x197, .f32⟩
  | 29 => ⟨S2x197x1, .f32⟩
  | 30 => ⟨S_, .f32⟩
  | 31 => ⟨S2x197x1, .f32⟩
  | 32 => ⟨S2x197x1, .f32⟩
  | 33 => ⟨S2x197x768, .f32⟩
  | 34 => ⟨S2x197x768, .f32⟩
  | 35 => ⟨S_, .f32⟩
  | 36 => ⟨S2x197x1, .f32⟩
  | 37 => ⟨S2x197x1, .f32⟩
  | 38 => ⟨S2x197x1, .f32⟩
  | 39 => ⟨S2x197x768, .f32⟩
  | 40 => ⟨S2x197x768, .f32⟩
  | 41 => ⟨S1x1x768, .f32⟩
  | 42 => ⟨S2x197x768, .f32⟩
  | 43 => ⟨S2x197x768, .f32⟩
  | 44 => ⟨S1x1x768, .f32⟩
  | 45 => ⟨S2x197x768, .f32⟩
  | 46 => ⟨S2x197x768, .f32⟩
  | 47 => ⟨S2x197x768, .f32⟩
  | 48 => ⟨S1x1x768, .f32⟩
  | 49 => ⟨S2x197x768, .f32⟩
  | 50 => ⟨S2x197x768, .f32⟩
  | 51 => ⟨S2x197x12x64, .f32⟩
  | 52 => ⟨S2x12x197x64, .f32⟩
  | 53 => ⟨S2x197x768, .f32⟩
  | 54 => ⟨S1x1x768, .f32⟩
  | 55 => ⟨S2x197x768, .f32⟩
  | 56 => ⟨S2x197x768, .f32⟩
  | 57 => ⟨S2x197x12x64, .f32⟩
  | 58 => ⟨S2x12x197x64, .f32⟩
  | 59 => ⟨S2x197x768, .f32⟩
  | 60 => ⟨S1x1x768, .f32⟩
  | 61 => ⟨S2x197x768, .f32⟩
  | 62 => ⟨S2x197x768, .f32⟩
  | 63 => ⟨S2x197x12x64, .f32⟩
  | 64 => ⟨S2x12x197x64, .f32⟩
  | 65 => ⟨S2x12x197x197, .f32⟩
  | 66 => ⟨S_, .f32⟩
  | 67 => ⟨S2x12x197x197, .f32⟩
  | 68 => ⟨S2x12x197x197, .f32⟩
  | 69 => ⟨S_, .f32⟩
  | 70 => ⟨S2x12x197, .f32⟩
  | 71 => ⟨S_, .f32⟩
  | 72 => ⟨S2x12x197, .f32⟩
  | 73 => ⟨S2x12x197, .f32⟩
  | 74 => ⟨S2x12x197x1, .f32⟩
  | 75 => ⟨S2x12x197x197, .f32⟩
  | 76 => ⟨S2x12x197x197, .f32⟩
  | 77 => ⟨S2x12x197x197, .f32⟩
  | 78 => ⟨S_, .f32⟩
  | 79 => ⟨S2x12x197, .f32⟩
  | 80 => ⟨S2x12x197x1, .f32⟩
  | 81 => ⟨S2x12x197x197, .f32⟩
  | 82 => ⟨S2x12x197x197, .f32⟩
  | 83 => ⟨S2x12x197x64, .f32⟩
  | 84 => ⟨S2x197x12x64, .f32⟩
  | 85 => ⟨S2x197x768, .f32⟩
  | 86 => ⟨S2x197x768, .f32⟩
  | 87 => ⟨S2x197x768, .f32⟩
  | 88 => ⟨S1x1x768, .f32⟩
  | 89 => ⟨S2x197x768, .f32⟩
  | 90 => ⟨S2x197x768, .f32⟩
  | 91 => ⟨S_, .f32⟩
  | 92 => ⟨S2x197, .f32⟩
  | 93 => ⟨S2x197x1, .f32⟩
  | 94 => ⟨S_, .f32⟩
  | 95 => ⟨S2x197x1, .f32⟩
  | 96 => ⟨S2x197x1, .f32⟩
  | 97 => ⟨S2x197x768, .f32⟩
  | 98 => ⟨S2x197x768, .f32⟩
  | 99 => ⟨S2x197x768, .f32⟩
  | 100 => ⟨S_, .f32⟩
  | 101 => ⟨S2x197, .f32⟩
  | 102 => ⟨S2x197x1, .f32⟩
  | 103 => ⟨S_, .f32⟩
  | 104 => ⟨S2x197x1, .f32⟩
  | 105 => ⟨S2x197x1, .f32⟩
  | 106 => ⟨S2x197x768, .f32⟩
  | 107 => ⟨S2x197x768, .f32⟩
  | 108 => ⟨S_, .f32⟩
  | 109 => ⟨S2x197x1, .f32⟩
  | 110 => ⟨S2x197x1, .f32⟩
  | 111 => ⟨S2x197x1, .f32⟩
  | 112 => ⟨S2x197x768, .f32⟩
  | 113 => ⟨S2x197x768, .f32⟩
  | 114 => ⟨S1x1x768, .f32⟩
  | 115 => ⟨S2x197x768, .f32⟩
  | 116 => ⟨S2x197x768, .f32⟩
  | 117 => ⟨S1x1x768, .f32⟩
  | 118 => ⟨S2x197x768, .f32⟩
  | 119 => ⟨S2x197x768, .f32⟩
  | 120 => ⟨S2x197x3072, .f32⟩
  | 121 => ⟨S1x1x3072, .f32⟩
  | 122 => ⟨S2x197x3072, .f32⟩
  | 123 => ⟨S2x197x3072, .f32⟩
  | 124 => ⟨S2x197x3072, .f32⟩
  | 125 => ⟨S2x197x3072, .f32⟩
  | 126 => ⟨S_, .f32⟩
  | 127 => ⟨S2x197x3072, .f32⟩
  | _ => ⟨S394x768, .f32⟩

abbrev hbmTy0_1 (i : Nat) : BufTy := match i % 128 with
  | 0 => ⟨S2x197x3072, .f32⟩
  | 1 => ⟨S2x197x3072, .f32⟩
  | 2 => ⟨S_, .f32⟩
  | 3 => ⟨S2x197x3072, .f32⟩
  | 4 => ⟨S2x197x3072, .f32⟩
  | 5 => ⟨S2x197x3072, .f32⟩
  | 6 => ⟨S_, .f32⟩
  | 7 => ⟨S2x197x3072, .f32⟩
  | 8 => ⟨S2x197x3072, .f32⟩
  | 9 => ⟨S_, .f32⟩
  | 10 => ⟨S2x197x3072, .f32⟩
  | 11 => ⟨S2x197x3072, .f32⟩
  | 12 => ⟨S2x197x3072, .f32⟩
  | 13 => ⟨S2x197x768, .f32⟩
  | 14 => ⟨S2x197x768, .f32⟩
  | 15 => ⟨S1x1x768, .f32⟩
  | 16 => ⟨S2x197x768, .f32⟩
  | 17 => ⟨S2x197x768, .f32⟩
  | 18 => ⟨S394x768, .f32⟩
  | 19 => ⟨S2x12x1x196, .f32⟩
  | 20 => ⟨S2x12x196, .f32⟩
  | 21 => ⟨S2x12x24, .f32⟩
  | 22 => ⟨S2x12x24, .i32⟩
  | 23 => ⟨S2x288, .i32⟩
  | 24 => ⟨S2x288x1, .i32⟩
  | 25 => ⟨S1x1x196, .i32⟩
  | 26 => ⟨S2x288x196, .i32⟩
  | 27 => ⟨S2x288x196, .i32⟩
  | 28 => ⟨S2x288x196, .i1⟩
  | 29 => ⟨S2x288x196, .f32⟩
  | 30 => ⟨S_, .f32⟩
  | 31 => ⟨S2x196, .f32⟩
  | 32 => ⟨S2x14x14, .f32⟩
  | 33 => ⟨S_, .i32⟩
  | 34 => ⟨S_, .f32⟩
  | 35 => ⟨S2x16x16, .f32⟩
  | 36 => ⟨S2x14x14, .f32⟩
  | 37 => ⟨S_, .f32⟩
  | 38 => ⟨S2x14x14, .f32⟩
  | 39 => ⟨S2x14x14, .f32⟩
  | 40 => ⟨S2x14x14, .f32⟩
  | 41 => ⟨S_, .f32⟩
  | 42 => ⟨S2x14x14, .f32⟩
  | 43 => ⟨S2x14x14, .f32⟩
  | 44 => ⟨S2x14x14, .f32⟩
  | 45 => ⟨S2x14x14, .f32⟩
  | 46 => ⟨S_, .f32⟩
  | 47 => ⟨S2x14x14, .f32⟩
  | 48 => ⟨S2x14x14, .f32⟩
  | 49 => ⟨S2x14x14, .f32⟩
  | 50 => ⟨S2x14x14, .f32⟩
  | 51 => ⟨S_, .f32⟩
  | 52 => ⟨S2x14x14, .f32⟩
  | 53 => ⟨S2x14x14, .f32⟩
  | 54 => ⟨S2x14x14, .f32⟩
  | 55 => ⟨S2x14x14, .f32⟩
  | 56 => ⟨S_, .f32⟩
  | 57 => ⟨S2x14x14, .f32⟩
  | 58 => ⟨S2x14x14, .f32⟩
  | 59 => ⟨S2x14x14, .f32⟩
  | 60 => ⟨S2x14x14, .f32⟩
  | 61 => ⟨S_, .f32⟩
  | 62 => ⟨S2x14x14, .f32⟩
  | 63 => ⟨S2x14x14, .f32⟩
  | 64 => ⟨S2x14x14, .f32⟩
  | 65 => ⟨S2x14x14, .f32⟩
  | 66 => ⟨S_, .f32⟩
  | 67 => ⟨S2x14x14, .f32⟩
  | 68 => ⟨S2x14x14, .f32⟩
  | 69 => ⟨S2x14x14, .f32⟩
  | 70 => ⟨S2x14x14, .f32⟩
  | 71 => ⟨S_, .f32⟩
  | 72 => ⟨S2x14x14, .f32⟩
  | 73 => ⟨S2x14x14, .f32⟩
  | 74 => ⟨S2x14x14, .f32⟩
  | 75 => ⟨S2x14x14, .f32⟩
  | 76 => ⟨S_, .f32⟩
  | 77 => ⟨S2x14x14, .f32⟩
  | 78 => ⟨S2x14x14, .f32⟩
  | 79 => ⟨S2x14x14, .f32⟩
  | 80 => ⟨S2x196, .f32⟩
  | 81 => ⟨S2x196, .f32⟩
  | 82 => ⟨S2x196, .i32⟩
  | 83 => ⟨S2x196, .f32⟩
  | 84 => ⟨S2x196, .i32⟩
  | 85 => ⟨S_, .i32⟩
  | 86 => ⟨S2x196, .i32⟩
  | 87 => ⟨S2x196, .i32⟩
  | 88 => ⟨S2x16, .i32⟩
  | 89 => ⟨S2x16x1, .i32⟩
  | 90 => ⟨S2x16x768, .i32⟩
  | 91 => ⟨S_, .i32⟩
  | 92 => ⟨S2x16x768, .i32⟩
  | 93 => ⟨S2x16x768, .i1⟩
  | 94 => ⟨S_, .i32⟩
  | 95 => ⟨S2x16x768, .i32⟩
  | 96 => ⟨S2x16x768, .i32⟩
  | 97 => ⟨S2x16x768, .i32⟩
  | 98 => ⟨S2x16x768x1, .i32⟩
  | 99 => ⟨S1, .i32⟩
  | 100 => ⟨S_, .i32⟩
  | 101 => ⟨S2x16x768x1, .i32⟩
  | 102 => ⟨S2x16x768x1, .i1⟩
  | 103 => ⟨S1x1x1x1, .i32⟩
  | 104 => ⟨S2x16x768x1, .i32⟩
  | 105 => ⟨S2x16x768x1, .i1⟩
  | 106 => ⟨S2x16x768x1, .i1⟩
  | 107 => ⟨S_, .i1⟩
  | 108 => ⟨S2x16x768, .i1⟩
  | 109 => ⟨S2x16x768, .f32⟩
  | 110 => ⟨S_, .f32⟩
  | 111 => ⟨S2x16x768, .f32⟩
  | 112 => ⟨S2x16x768, .f32⟩
  | _ => ⟨S394x768, .f32⟩

abbrev hbmTy (i : Nat) : BufTy := match i / 128 with
  | 0 => hbmTy0_0 i
  | 1 => hbmTy0_1 i
  | _ => ⟨S394x768, .f32⟩

abbrev bufTy : (tb : Table) → Fin (tcTables nBuf tb) → BufTy
  | .hbm, ⟨i, _⟩ => hbmTy i
  | _, _ => ⟨S394x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_8 : Ref sig .tc := ⟨.hbm, 91, rfl⟩
abbrev main_v65 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_cst_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_13 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_14 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_15 : Ref sig .tc := ⟨.hbm, 134, rfl⟩
abbrev main_v101 : Ref sig .tc := ⟨.hbm, 135, rfl⟩
abbrev main_v102 : Ref sig .tc := ⟨.hbm, 136, rfl⟩
abbrev main_cst_16 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_values : Ref sig .tc := ⟨.hbm, 149, rfl⟩
abbrev main_indices : Ref sig .tc := ⟨.hbm, 150, rfl⟩
abbrev main_v114 : Ref sig .tc := ⟨.hbm, 151, rfl⟩
abbrev main_call0_v0 : Ref sig .tc := ⟨.hbm, 152, rfl⟩
abbrev main_call0_v1 : Ref sig .tc := ⟨.hbm, 153, rfl⟩
abbrev main_call0_v2 : Ref sig .tc := ⟨.hbm, 154, rfl⟩
abbrev main_call0_v3 : Ref sig .tc := ⟨.hbm, 155, rfl⟩
abbrev main_call0_v4 : Ref sig .tc := ⟨.hbm, 156, rfl⟩
abbrev main_v115 : Ref sig .tc := ⟨.hbm, 157, rfl⟩
abbrev main_cst_17 : Ref sig .tc := ⟨.hbm, 158, rfl⟩
abbrev main_v116 : Ref sig .tc := ⟨.hbm, 159, rfl⟩
abbrev main_v117 : Ref sig .tc := ⟨.hbm, 160, rfl⟩
abbrev main_c : Ref sig .tc := ⟨.hbm, 161, rfl⟩
abbrev main_call1_v0 : Ref sig .tc := ⟨.hbm, 162, rfl⟩
abbrev main_v118 : Ref sig .tc := ⟨.hbm, 163, rfl⟩
abbrev main_v119 : Ref sig .tc := ⟨.hbm, 164, rfl⟩
abbrev main_cst_18 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_19 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_20 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_21 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_22 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_23 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_24 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_25 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_26 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_call2_v0 : Ref sig .tc := ⟨.hbm, 210, rfl⟩
abbrev main_call2_v1_0 : Ref sig .tc := ⟨.hbm, 211, rfl⟩
abbrev main_v156 : Ref sig .tc := ⟨.hbm, 212, rfl⟩
abbrev main_c_27 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_call3_c : Ref sig .tc := ⟨.hbm, 219, rfl⟩
abbrev main_call3_v0 : Ref sig .tc := ⟨.hbm, 220, rfl⟩
abbrev main_call3_v1 : Ref sig .tc := ⟨.hbm, 221, rfl⟩
abbrev main_call3_c_0 : Ref sig .tc := ⟨.hbm, 222, rfl⟩
abbrev main_call3_v2 : Ref sig .tc := ⟨.hbm, 223, rfl⟩
abbrev main_call3_v3 : Ref sig .tc := ⟨.hbm, 224, rfl⟩
abbrev main_call3_v4 : Ref sig .tc := ⟨.hbm, 225, rfl⟩
abbrev main_call3_v5 : Ref sig .tc := ⟨.hbm, 226, rfl⟩
abbrev main_call3_c_1 : Ref sig .tc := ⟨.hbm, 227, rfl⟩
abbrev main_call3_c_2 : Ref sig .tc := ⟨.hbm, 228, rfl⟩
abbrev main_call3_v6 : Ref sig .tc := ⟨.hbm, 229, rfl⟩
abbrev main_call3_v7 : Ref sig .tc := ⟨.hbm, 230, rfl⟩
abbrev main_call3_v8 : Ref sig .tc := ⟨.hbm, 231, rfl⟩
abbrev main_call3_v9 : Ref sig .tc := ⟨.hbm, 232, rfl⟩
abbrev main_call3_v10 : Ref sig .tc := ⟨.hbm, 233, rfl⟩
abbrev main_call3_v11 : Ref sig .tc := ⟨.hbm, 234, rfl⟩
abbrev main_call3_c_3 : Ref sig .tc := ⟨.hbm, 235, rfl⟩
abbrev main_call3_v12 : Ref sig .tc := ⟨.hbm, 236, rfl⟩
abbrev main_call3_v13 : Ref sig .tc := ⟨.hbm, 237, rfl⟩
abbrev main_call3_cst : Ref sig .tc := ⟨.hbm, 238, rfl⟩
abbrev main_call3_v14 : Ref sig .tc := ⟨.hbm, 239, rfl⟩
abbrev main_v162 : Ref sig .tc := ⟨.hbm, 240, rfl⟩

abbrev nD : Nat := 1
abbrev τ : Topo := Topo.v7x

variable {F : FTy → Type} [FloatOps F]
-- ==== Embed.lean ====
abbrev S2x3x224x224 : Shape := ⟨4, ![2, 3, 224, 224]⟩
abbrev S768x768 : Shape := ⟨2, ![768, 768]⟩
abbrev S768 : Shape := ⟨1, ![768]⟩
abbrev S1x1x768 : Shape := ⟨3, ![1, 1, 768]⟩
abbrev S1x197x768 : Shape := ⟨3, ![1, 197, 768]⟩
abbrev S2x3x14x16x14x16 : Shape := ⟨6, ![2, 3, 14, 16, 14, 16]⟩
abbrev S2x14x14x3x16x16 : Shape := ⟨6, ![2, 14, 14, 3, 16, 16]⟩
abbrev S392x768 : Shape := ⟨2, ![392, 768]⟩
abbrev S1x768 : Shape := ⟨2, ![1, 768]⟩
abbrev S197x768 : Shape := ⟨2, ![197, 768]⟩
abbrev S394x768 : Shape := ⟨2, ![394, 768]⟩
abbrev S196x768 : Shape := ⟨2, ![196, 768]⟩

abbrev nBuf : Space → Nat
  | .hbm => 12
  | .vmem => 6
  | .smem => 0
  | _ => 0

abbrev bufTy : (tb : Table) → Fin (tcTables nBuf tb) → BufTy
  | .hbm, ⟨0, _⟩ => ⟨S2x3x224x224, .f32⟩
  | .hbm, ⟨1, _⟩ => ⟨S768x768, .f32⟩
  | .hbm, ⟨2, _⟩ => ⟨S768, .f32⟩
  | .hbm, ⟨3, _⟩ => ⟨S1x1x768, .f32⟩
  | .hbm, ⟨4, _⟩ => ⟨S1x197x768, .f32⟩
  | .hbm, ⟨5, _⟩ => ⟨S2x3x14x16x14x16, .f32⟩
  | .hbm, ⟨6, _⟩ => ⟨S2x14x14x3x16x16, .f32⟩
  | .hbm, ⟨7, _⟩ => ⟨S392x768, .f32⟩
  | .hbm, ⟨8, _⟩ => ⟨S1x768, .f32⟩
  | .hbm, ⟨9, _⟩ => ⟨S1x768, .f32⟩
  | .hbm, ⟨10, _⟩ => ⟨S197x768, .f32⟩
  | .hbm, ⟨11, _⟩ => ⟨S394x768, .f32⟩
  | .local _ .vmem, ⟨0, _⟩ => ⟨S392x768, .f32⟩
  | .local _ .vmem, ⟨1, _⟩ => ⟨S768x768, .f32⟩
  | .local _ .vmem, ⟨2, _⟩ => ⟨S1x768, .f32⟩
  | .local _ .vmem, ⟨3, _⟩ => ⟨S1x768, .f32⟩
  | .local _ .vmem, ⟨4, _⟩ => ⟨S197x768, .f32⟩
  | .local _ .vmem, ⟨5, _⟩ => ⟨S394x768, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S392x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S197x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S394x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== EmbedReferenceIdeal.lean ====
abbrev S2x3x224x224 : Shape := ⟨4, ![2, 3, 224, 224]⟩
abbrev S768x768 : Shape := ⟨2, ![768, 768]⟩
abbrev S768 : Shape := ⟨1, ![768]⟩
abbrev S1x1x768 : Shape := ⟨3, ![1, 1, 768]⟩
abbrev S1x197x768 : Shape := ⟨3, ![1, 197, 768]⟩
abbrev S2x3x14x16x14x16 : Shape := ⟨6, ![2, 3, 14, 16, 14, 16]⟩
abbrev S2x14x14x3x16x16 : Shape := ⟨6, ![2, 14, 14, 3, 16, 16]⟩
abbrev S2x196x768 : Shape := ⟨3, ![2, 196, 768]⟩
abbrev S2x1x768 : Shape := ⟨3, ![2, 1, 768]⟩
abbrev S2x197x768 : Shape := ⟨3, ![2, 197, 768]⟩
abbrev S394x768 : Shape := ⟨2, ![394, 768]⟩

abbrev nBuf : Space → Nat
  | .hbm => 17
  | .vmem => 0
  | .smem => 0
  | _ => 0

abbrev bufTy : (tb : Table) → Fin (tcTables nBuf tb) → BufTy
  | .hbm, ⟨0, _⟩ => ⟨S2x3x224x224, .f32⟩
  | .hbm, ⟨1, _⟩ => ⟨S768x768, .f32⟩
  | .hbm, ⟨2, _⟩ => ⟨S768, .f32⟩
  | .hbm, ⟨3, _⟩ => ⟨S1x1x768, .f32⟩
  | .hbm, ⟨4, _⟩ => ⟨S1x197x768, .f32⟩
  | .hbm, ⟨5, _⟩ => ⟨S2x3x14x16x14x16, .f32⟩
  | .hbm, ⟨6, _⟩ => ⟨S2x14x14x3x16x16, .f32⟩
  | .hbm, ⟨7, _⟩ => ⟨S2x196x768, .f32⟩
  | .hbm, ⟨8, _⟩ => ⟨S2x196x768, .f32⟩
  | .hbm, ⟨9, _⟩ => ⟨S1x1x768, .f32⟩
  | .hbm, ⟨10, _⟩ => ⟨S2x196x768, .f32⟩
  | .hbm, ⟨11, _⟩ => ⟨S2x196x768, .f32⟩
  | .hbm, ⟨12, _⟩ => ⟨S2x1x768, .f32⟩
  | .hbm, ⟨13, _⟩ => ⟨S2x197x768, .f32⟩
  | .hbm, ⟨14, _⟩ => ⟨S2x197x768, .f32⟩
  | .hbm, ⟨15, _⟩ => ⟨S2x197x768, .f32⟩
  | .hbm, ⟨16, _⟩ => ⟨S394x768, .f32⟩
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Head.lean ====
abbrev S254x768 : Shape := ⟨2, ![254, 768]⟩
abbrev S50x768 : Shape := ⟨2, ![50, 768]⟩
abbrev S200x768 : Shape := ⟨2, ![200, 768]⟩
abbrev S200 : Shape := ⟨1, ![200]⟩
abbrev S2x127x768 : Shape := ⟨3, ![2, 127, 768]⟩
abbrev S2x1x768 : Shape := ⟨3, ![2, 1, 768]⟩
abbrev S2x25x768 : Shape := ⟨3, ![2, 25, 768]⟩
abbrev S1x200 : Shape := ⟨2, ![1, 200]⟩
abbrev S2x200 : Shape := ⟨2, ![2, 200]⟩
abbrev S1x1x768 : Shape := ⟨3, ![1, 1, 768]⟩
abbrev S1x768 : Shape := ⟨2, ![1, 768]⟩
abbrev S2x768 : Shape := ⟨2, ![2, 768]⟩
abbrev S2 : Shape := ⟨1, ![2]⟩
abbrev S2x1 : Shape := ⟨2, ![2, 1]⟩

abbrev nBuf : Space → Nat
  | .hbm => 10
  | .vmem => 5
  | .smem => 0
  | _ => 0

abbrev bufTy : (tb : Table) → Fin (tcTables nBuf tb) → BufTy
  | .hbm, ⟨0, _⟩ => ⟨S254x768, .f32⟩
  | .hbm, ⟨1, _⟩ => ⟨S50x768, .f32⟩
  | .hbm, ⟨2, _⟩ => ⟨S200x768, .f32⟩
  | .hbm, ⟨3, _⟩ => ⟨S200, .f32⟩
  | .hbm, ⟨4, _⟩ => ⟨S2x127x768, .f32⟩
  | .hbm, ⟨5, _⟩ => ⟨S2x1x768, .f32⟩
  | .hbm, ⟨6, _⟩ => ⟨S2x25x768, .f32⟩
  | .hbm, ⟨7, _⟩ => ⟨S2x1x768, .f32⟩
  | .hbm, ⟨8, _⟩ => ⟨S1x200, .f32⟩
  | .hbm, ⟨9, _⟩ => ⟨S2x200, .f32⟩
  | .local _ .vmem, ⟨0, _⟩ => ⟨S2x1x768, .f32⟩
  | .local _ .vmem, ⟨1, _⟩ => ⟨S2x1x768, .f32⟩
  | .local _ .vmem, ⟨2, _⟩ => ⟨S200x768, .f32⟩
  | .local _ .vmem, ⟨3, _⟩ => ⟨S1x200, .f32⟩
  | .local _ .vmem, ⟨4, _⟩ => ⟨S2x200, .f32⟩
  | _, _ => ⟨S254x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== HeadReferenceIdeal.lean ====
abbrev S254x768 : Shape := ⟨2, ![254, 768]⟩
abbrev S50x768 : Shape := ⟨2, ![50, 768]⟩
abbrev S200x768 : Shape := ⟨2, ![200, 768]⟩
abbrev S200 : Shape := ⟨1, ![200]⟩
abbrev S2x25x768 : Shape := ⟨3, ![2, 25, 768]⟩
abbrev S2x1x768 : Shape := ⟨3, ![2, 1, 768]⟩
abbrev S2x768 : Shape := ⟨2, ![2, 768]⟩
abbrev S2x127x768 : Shape := ⟨3, ![2, 127, 768]⟩
abbrev S768x200 : Shape := ⟨2, ![768, 200]⟩
abbrev S2x200 : Shape := ⟨2, ![2, 200]⟩
abbrev S1x200 : Shape := ⟨2, ![1, 200]⟩
abbrev S_ : Shape := ⟨0, ![]⟩
abbrev S2 : Shape := ⟨1, ![2]⟩
abbrev S2x1 : Shape := ⟨2, ![2, 1]⟩

abbrev nBuf : Space → Nat
  | .hbm => 40
  | .vmem => 0
  | .smem => 0
  | _ => 0

abbrev bufTy : (tb : Table) → Fin (tcTables nBuf tb) → BufTy
  | .hbm, ⟨0, _⟩ => ⟨S254x768, .f32⟩
  | .hbm, ⟨1, _⟩ => ⟨S50x768, .f32⟩
  | .hbm, ⟨2, _⟩ => ⟨S200x768, .f32⟩
  | .hbm, ⟨3, _⟩ => ⟨S200, .f32⟩
  | .hbm, ⟨4, _⟩ => ⟨S2x25x768, .f32⟩
  | .hbm, ⟨5, _⟩ => ⟨S2x1x768, .f32⟩
  | .hbm, ⟨6, _⟩ => ⟨S2x768, .f32⟩
  | .hbm, ⟨7, _⟩ => ⟨S2x127x768, .f32⟩
  | .hbm, ⟨8, _⟩ => ⟨S2x1x768, .f32⟩
  | .hbm, ⟨9, _⟩ => ⟨S2x768, .f32⟩
  | .hbm, ⟨10, _⟩ => ⟨S768x200, .f32⟩
  | .hbm, ⟨11, _⟩ => ⟨S2x200, .f32⟩
  | .hbm, ⟨12, _⟩ => ⟨S1x200, .f32⟩
  | .hbm, ⟨13, _⟩ => ⟨S2x200, .f32⟩
  | .hbm, ⟨14, _⟩ => ⟨S2x200, .f32⟩
  | .hbm, ⟨15, _⟩ => ⟨S_, .f32⟩
  | .hbm, ⟨16, _⟩ => ⟨S2, .f32⟩
  | .hbm, ⟨17, _⟩ => ⟨S_, .f32⟩
  | .hbm, ⟨18, _⟩ => ⟨S2, .f32⟩
  | .hbm, ⟨19, _⟩ => ⟨S2, .f32⟩
  | .hbm, ⟨20, _⟩ => ⟨S2x1, .f32⟩
  | .hbm, ⟨21, _⟩ => ⟨S2x200, .f32⟩
  | .hbm, ⟨22, _⟩ => ⟨S2x200, .f32⟩
  | .hbm, ⟨23, _⟩ => ⟨S2x200, .f32⟩
  | .hbm, ⟨24, _⟩ => ⟨S_, .f32⟩
  | .hbm, ⟨25, _⟩ => ⟨S2, .f32⟩
  | .hbm, ⟨26, _⟩ => ⟨S2x1, .f32⟩
  | .hbm, ⟨27, _⟩ => ⟨S2x200, .f32⟩
  | .hbm, ⟨28, _⟩ => ⟨S2x200, .f32⟩
  | .hbm, ⟨29, _⟩ => ⟨S_, .f32⟩
  | .hbm, ⟨30, _⟩ => ⟨S200, .f32⟩
  | .hbm, ⟨31, _⟩ => ⟨S1x200, .f32⟩
  | .hbm, ⟨32, _⟩ => ⟨S2x200, .f32⟩
  | .hbm, ⟨33, _⟩ => ⟨S2x200, .f32⟩
  | .hbm, ⟨34, _⟩ => ⟨S768x200, .f32⟩
  | .hbm, ⟨35, _⟩ => ⟨S2x200, .f32⟩
  | .hbm, ⟨36, _⟩ => ⟨S1x200, .f32⟩
  | .hbm, ⟨37, _⟩ => ⟨S2x200, .f32⟩
  | .hbm, ⟨38, _⟩ => ⟨S2x200, .f32⟩
  | .hbm, ⟨39, _⟩ => ⟨S2x200, .f32⟩
  | _, _ => ⟨S254x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Feed.lean ====
abbrev S254x768 : Shape := ⟨2, ![254, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2x127x768 : Shape := ⟨3, ![2, 127, 768]⟩
abbrev S_ : Shape := ⟨0, ![]⟩
abbrev S2x127 : Shape := ⟨2, ![2, 127]⟩
abbrev S2x127x1 : Shape := ⟨3, ![2, 127, 1]⟩
abbrev S1x1x768 : Shape := ⟨3, ![1, 1, 768]⟩
abbrev S1x3072 : Shape := ⟨2, ![1, 3072]⟩
abbrev S1x768 : Shape := ⟨2, ![1, 768]⟩
abbrev S254x3072 : Shape := ⟨2, ![254, 3072]⟩

abbrev nBuf : Space → Nat
  | .hbm => 41
  | .vmem => 7
  | .smem => 0
  | _ => 0

abbrev bufTy : (tb : Table) → Fin (tcTables nBuf tb) → BufTy
  | .hbm, ⟨0, _⟩ => ⟨S254x768, .f32⟩
  | .hbm, ⟨1, _⟩ => ⟨S768, .f32⟩
  | .hbm, ⟨2, _⟩ => ⟨S768, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S2x127x768, .f32⟩
  | .hbm, ⟨8, _⟩ => ⟨S_, .f32⟩
  | .hbm, ⟨9, _⟩ => ⟨S2x127, .f32⟩
  | .hbm, ⟨10, _⟩ => ⟨S2x127x1, .f32⟩
  | .hbm, ⟨11, _⟩ => ⟨S_, .f32⟩
  | .hbm, ⟨12, _⟩ => ⟨S2x127x1, .f32⟩
  | .hbm, ⟨13, _⟩ => ⟨S2x127x1, .f32⟩
  | .hbm, ⟨14, _⟩ => ⟨S2x127x768, .f32⟩
  | .hbm, ⟨15, _⟩ => ⟨S2x127x768, .f32⟩
  | .hbm, ⟨16, _⟩ => ⟨S2x127x768, .f32⟩
  | .hbm, ⟨17, _⟩ => ⟨S_, .f32⟩
  | .hbm, ⟨18, _⟩ => ⟨S2x127, .f32⟩
  | .hbm, ⟨19, _⟩ => ⟨S2x127x1, .f32⟩
  | .hbm, ⟨20, _⟩ => ⟨S_, .f32⟩
  | .hbm, ⟨21, _⟩ => ⟨S2x127x1, .f32⟩
  | .hbm, ⟨22, _⟩ => ⟨S2x127x1, .f32⟩
  | .hbm, ⟨23, _⟩ => ⟨S2x127x768, .f32⟩
  | .hbm, ⟨24, _⟩ => ⟨S2x127x768, .f32⟩
  | .hbm, ⟨25, _⟩ => ⟨S_, .f32⟩
  | .hbm, ⟨26, _⟩ => ⟨S2x127x1, .f32⟩
  | .hbm, ⟨27, _⟩ => ⟨S2x127x1, .f32⟩
  | .hbm, ⟨28, _⟩ => ⟨S2x127x1, .f32⟩
  | .hbm, ⟨29, _⟩ => ⟨S2x127x768, .f32⟩
  | .hbm, ⟨30, _⟩ => ⟨S2x127x768, .f32⟩
  | .hbm, ⟨31, _⟩ => ⟨S1x1x768, .f32⟩
  | .hbm, ⟨32, _⟩ => ⟨S2x127x768, .f32⟩
  | .hbm, ⟨33, _⟩ => ⟨S2x127x768, .f32⟩
  | .hbm, ⟨34, _⟩ => ⟨S1x1x768, .f32⟩
  | .hbm, ⟨35, _⟩ => ⟨S2x127x768, .f32⟩
  | .hbm, ⟨36, _⟩ => ⟨S2x127x768, .f32⟩
  | .hbm, ⟨37, _⟩ => ⟨S254x768, .f32⟩
  | .hbm, ⟨38, _⟩ => ⟨S1x3072, .f32⟩
  | .hbm, ⟨39, _⟩ => ⟨S1x768, .f32⟩
  | .hbm, ⟨40, _⟩ => ⟨S254x768, .f32⟩
  | .local _ .vmem, ⟨0, _⟩ => ⟨S254x768, .f32⟩
  | .local _ .vmem, ⟨1, _⟩ => ⟨S254x768, .f32⟩
  | .local _ .vmem, ⟨2, _⟩ => ⟨S768x3072, .f32⟩
  | .local _ .vmem, ⟨3, _⟩ => ⟨S1x3072, .f32⟩
  | .local _ .vmem, ⟨4, _⟩ => ⟨S3072x768, .f32⟩
  | .local _ .vmem, ⟨5, _⟩ => ⟨S1x768, .f32⟩
  | .local _ .vmem, ⟨6, _⟩ => ⟨S254x768, .f32⟩
  | _, _ => ⟨S254x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S254x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S254x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S254x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== FeedIdeal.lean ====
abbrev S254x768 : Shape := ⟨2, ![254, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2x127x768 : Shape := ⟨3, ![2, 127, 768]⟩
abbrev S_ : Shape := ⟨0, ![]⟩
abbrev S2x127 : Shape := ⟨2, ![2, 127]⟩
abbrev S2x127x1 : Shape := ⟨3, ![2, 127, 1]⟩
abbrev S1x1x768 : Shape := ⟨3, ![1, 1, 768]⟩
abbrev S1x3072 : Shape := ⟨2, ![1, 3072]⟩
abbrev S1x768 : Shape := ⟨2, ![1, 768]⟩
abbrev S254x3072 : Shape := ⟨2, ![254, 3072]⟩

abbrev nBuf : Space → Nat
  | .hbm => 41
  | .vmem => 7
  | .smem => 0
  | _ => 0

abbrev bufTy : (tb : Table) → Fin (tcTables nBuf tb) → BufTy
  | .hbm, ⟨0, _⟩ => ⟨S254x768, .f32⟩
  | .hbm, ⟨1, _⟩ => ⟨S768, .f32⟩
  | .hbm, ⟨2, _⟩ => ⟨S768, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S2x127x768, .f32⟩
  | .hbm, ⟨8, _⟩ => ⟨S_, .f32⟩
  | .hbm, ⟨9, _⟩ => ⟨S2x127, .f32⟩
  | .hbm, ⟨10, _⟩ => ⟨S2x127x1, .f32⟩
  | .hbm, ⟨11, _⟩ => ⟨S_, .f32⟩
  | .hbm, ⟨12, _⟩ => ⟨S2x127x1, .f32⟩
  | .hbm, ⟨13, _⟩ => ⟨S2x127x1, .f32⟩
  | .hbm, ⟨14, _⟩ => ⟨S2x127x768, .f32⟩
  | .hbm, ⟨15, _⟩ => ⟨S2x127x768, .f32⟩
  | .hbm, ⟨16, _⟩ => ⟨S2x127x768, .f32⟩
  | .hbm, ⟨17, _⟩ => ⟨S_, .f32⟩
  | .hbm, ⟨18, _⟩ => ⟨S2x127, .f32⟩
  | .hbm, ⟨19, _⟩ => ⟨S2x127x1, .f32⟩
  | .hbm, ⟨20, _⟩ => ⟨S_, .f32⟩
  | .hbm, ⟨21, _⟩ => ⟨S2x127x1, .f32⟩
  | .hbm, ⟨22, _⟩ => ⟨S2x127x1, .f32⟩
  | .hbm, ⟨23, _⟩ => ⟨S2x127x768, .f32⟩
  | .hbm, ⟨24, _⟩ => ⟨S2x127x768, .f32⟩
  | .hbm, ⟨25, _⟩ => ⟨S_, .f32⟩
  | .hbm, ⟨26, _⟩ => ⟨S2x127x1, .f32⟩
  | .hbm, ⟨27, _⟩ => ⟨S2x127x1, .f32⟩
  | .hbm, ⟨28, _⟩ => ⟨S2x127x1, .f32⟩
  | .hbm, ⟨29, _⟩ => ⟨S2x127x768, .f32⟩
  | .hbm, ⟨30, _⟩ => ⟨S2x127x768, .f32⟩
  | .hbm, ⟨31, _⟩ => ⟨S1x1x768, .f32⟩
  | .hbm, ⟨32, _⟩ => ⟨S2x127x768, .f32⟩
  | .hbm, ⟨33, _⟩ => ⟨S2x127x768, .f32⟩
  | .hbm, ⟨34, _⟩ => ⟨S1x1x768, .f32⟩
  | .hbm, ⟨35, _⟩ => ⟨S2x127x768, .f32⟩
  | .hbm, ⟨36, _⟩ => ⟨S2x127x768, .f32⟩
  | .hbm, ⟨37, _⟩ => ⟨S254x768, .f32⟩
  | .hbm, ⟨38, _⟩ => ⟨S1x3072, .f32⟩
  | .hbm, ⟨39, _⟩ => ⟨S1x768, .f32⟩
  | .hbm, ⟨40, _⟩ => ⟨S254x768, .f32⟩
  | .local _ .vmem, ⟨0, _⟩ => ⟨S254x768, .f32⟩
  | .local _ .vmem, ⟨1, _⟩ => ⟨S254x768, .f32⟩
  | .local _ .vmem, ⟨2, _⟩ => ⟨S768x3072, .f32⟩
  | .local _ .vmem, ⟨3, _⟩ => ⟨S1x3072, .f32⟩
  | .local _ .vmem, ⟨4, _⟩ => ⟨S3072x768, .f32⟩
  | .local _ .vmem, ⟨5, _⟩ => ⟨S1x768, .f32⟩
  | .local _ .vmem, ⟨6, _⟩ => ⟨S254x768, .f32⟩
  | _, _ => ⟨S254x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S254x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S254x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S254x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== FeedReferenceIdeal.lean ====
abbrev S254x768 : Shape := ⟨2, ![254, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2x127x768 : Shape := ⟨3, ![2, 127, 768]⟩
abbrev S_ : Shape := ⟨0, ![]⟩
abbrev S2x127 : Shape := ⟨2, ![2, 127]⟩
abbrev S2x127x1 : Shape := ⟨3, ![2, 127, 1]⟩
abbrev S1x1x768 : Shape := ⟨3, ![1, 1, 768]⟩
abbrev S2x127x3072 : Shape := ⟨3, ![2, 127, 3072]⟩
abbrev S1x1x3072 : Shape := ⟨3, ![1, 1, 3072]⟩

abbrev nBuf : Space → Nat
  | .hbm => 64
  | .vmem => 0
  | .smem => 0
  | _ => 0

abbrev bufTy : (tb : Table) → Fin (tcTables nBuf tb) → BufTy
  | .hbm, ⟨0, _⟩ => ⟨S254x768, .f32⟩
  | .hbm, ⟨1, _⟩ => ⟨S768, .f32⟩
  | .hbm, ⟨2, _⟩ => ⟨S768, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S2x127x768, .f32⟩
  | .hbm, ⟨8, _⟩ => ⟨S_, .f32⟩
  | .hbm, ⟨9, _⟩ => ⟨S2x127, .f32⟩
  | .hbm, ⟨10, _⟩ => ⟨S2x127x1, .f32⟩
  | .hbm, ⟨11, _⟩ => ⟨S_, .f32⟩
  | .hbm, ⟨12, _⟩ => ⟨S2x127x1, .f32⟩
  | .hbm, ⟨13, _⟩ => ⟨S2x127x1, .f32⟩
  | .hbm, ⟨14, _⟩ => ⟨S2x127x768, .f32⟩
  | .hbm, ⟨15, _⟩ => ⟨S2x127x768, .f32⟩
  | .hbm, ⟨16, _⟩ => ⟨S2x127x768, .f32⟩
  | .hbm, ⟨17, _⟩ => ⟨S_, .f32⟩
  | .hbm, ⟨18, _⟩ => ⟨S2x127, .f32⟩
  | .hbm, ⟨19, _⟩ => ⟨S2x127x1, .f32⟩
  | .hbm, ⟨20, _⟩ => ⟨S_, .f32⟩
  | .hbm, ⟨21, _⟩ => ⟨S2x127x1, .f32⟩
  | .hbm, ⟨22, _⟩ => ⟨S2x127x1, .f32⟩
  | .hbm, ⟨23, _⟩ => ⟨S2x127x768, .f32⟩
  | .hbm, ⟨24, _⟩ => ⟨S2x127x768, .f32⟩
  | .hbm, ⟨25, _⟩ => ⟨S_, .f32⟩
  | .hbm, ⟨26, _⟩ => ⟨S2x127x1, .f32⟩
  | .hbm, ⟨27, _⟩ => ⟨S2x127x1, .f32⟩
  | .hbm, ⟨28, _⟩ => ⟨S2x127x1, .f32⟩
  | .hbm, ⟨29, _⟩ => ⟨S2x127x768, .f32⟩
  | .hbm, ⟨30, _⟩ => ⟨S2x127x768, .f32⟩
  | .hbm, ⟨31, _⟩ => ⟨S1x1x768, .f32⟩
  | .hbm, ⟨32, _⟩ => ⟨S2x127x768, .f32⟩
  | .hbm, ⟨33, _⟩ => ⟨S2x127x768, .f32⟩
  | .hbm, ⟨34, _⟩ => ⟨S1x1x768, .f32⟩
  | .hbm, ⟨35, _⟩ => ⟨S2x127x768, .f32⟩
  | .hbm, ⟨36, _⟩ => ⟨S2x127x768, .f32⟩
  | .hbm, ⟨37, _⟩ => ⟨S2x127x3072, .f32⟩
  | .hbm, ⟨38, _⟩ => ⟨S1x1x3072, .f32⟩
  | .hbm, ⟨39, _⟩ => ⟨S2x127x3072, .f32⟩
  | .hbm, ⟨40, _⟩ => ⟨S2x127x3072, .f32⟩
  | .hbm, ⟨41, _⟩ => ⟨S2x127x3072, .f32⟩
  | .hbm, ⟨42, _⟩ => ⟨S2x127x3072, .f32⟩
  | .hbm, ⟨43, _⟩ => ⟨S_, .f32⟩
  | .hbm, ⟨44, _⟩ => ⟨S2x127x3072, .f32⟩
  | .hbm, ⟨45, _⟩ => ⟨S2x127x3072, .f32⟩
  | .hbm, ⟨46, _⟩ => ⟨S2x127x3072, .f32⟩
  | .hbm, ⟨47, _⟩ => ⟨S_, .f32⟩
  | .hbm, ⟨48, _⟩ => ⟨S2x127x3072, .f32⟩
  | .hbm, ⟨49, _⟩ => ⟨S2x127x3072, .f32⟩
  | .hbm, ⟨50, _⟩ => ⟨S2x127x3072, .f32⟩
  | .hbm, ⟨51, _⟩ => ⟨S_, .f32⟩
  | .hbm, ⟨52, _⟩ => ⟨S2x127x3072, .f32⟩
  | .hbm, ⟨53, _⟩ => ⟨S2x127x3072, .f32⟩
  | .hbm, ⟨54, _⟩ => ⟨S_, .f32⟩
  | .hbm, ⟨55, _⟩ => ⟨S2x127x3072, .f32⟩
  | .hbm, ⟨56, _⟩ => ⟨S2x127x3072, .f32⟩
  | .hbm, ⟨57, _⟩ => ⟨S2x127x3072, .f32⟩
  | .hbm, ⟨58, _⟩ => ⟨S2x127x768, .f32⟩
  | .hbm, ⟨59, _⟩ => ⟨S2x127x768, .f32⟩
  | .hbm, ⟨60, _⟩ => ⟨S1x1x768, .f32⟩
  | .hbm, ⟨61, _⟩ => ⟨S2x127x768, .f32⟩
  | .hbm, ⟨62, _⟩ => ⟨S2x127x768, .f32⟩
  | .hbm, ⟨63, _⟩ => ⟨S254x768, .f32⟩
  | _, _ => ⟨S254x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Last.lean ====
abbrev S50x768 : Shape := ⟨2, ![50, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2x25x768 : Shape := ⟨3, ![2, 25, 768]⟩
abbrev S_ : Shape := ⟨0, ![]⟩
abbrev S2x25 : Shape := ⟨2, ![2, 25]⟩
abbrev S2x25x1 : Shape := ⟨3, ![2, 25, 1]⟩
abbrev S1x1x768 : Shape := ⟨3, ![1, 1, 768]⟩
abbrev S1x3072 : Shape := ⟨2, ![1, 3072]⟩
abbrev S1x768 : Shape := ⟨2, ![1, 768]⟩
abbrev S50x3072 : Shape := ⟨2, ![50, 3072]⟩

abbrev nBuf : Space → Nat
  | .hbm => 41
  | .vmem => 7
  | .smem => 0
  | _ => 0

abbrev bufTy : (tb : Table) → Fin (tcTables nBuf tb) → BufTy
  | .hbm, ⟨0, _⟩ => ⟨S50x768, .f32⟩
  | .hbm, ⟨1, _⟩ => ⟨S768, .f32⟩
  | .hbm, ⟨2, _⟩ => ⟨S768, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S2x25x768, .f32⟩
  | .hbm, ⟨8, _⟩ => ⟨S_, .f32⟩
  | .hbm, ⟨9, _⟩ => ⟨S2x25, .f32⟩
  | .hbm, ⟨10, _⟩ => ⟨S2x25x1, .f32⟩
  | .hbm, ⟨11, _⟩ => ⟨S_, .f32⟩
  | .hbm, ⟨12, _⟩ => ⟨S2x25x1, .f32⟩
  | .hbm, ⟨13, _⟩ => ⟨S2x25x1, .f32⟩
  | .hbm, ⟨14, _⟩ => ⟨S2x25x768, .f32⟩
  | .hbm, ⟨15, _⟩ => ⟨S2x25x768, .f32⟩
  | .hbm, ⟨16, _⟩ => ⟨S2x25x768, .f32⟩
  | .hbm, ⟨17, _⟩ => ⟨S_, .f32⟩
  | .hbm, ⟨18, _⟩ => ⟨S2x25, .f32⟩
  | .hbm, ⟨19, _⟩ => ⟨S2x25x1, .f32⟩
  | .hbm, ⟨20, _⟩ => ⟨S_, .f32⟩
  | .hbm, ⟨21, _⟩ => ⟨S2x25x1, .f32⟩
  | .hbm, ⟨22, _⟩ => ⟨S2x25x1, .f32⟩
  | .hbm, ⟨23, _⟩ => ⟨S2x25x768, .f32⟩
  | .hbm, ⟨24, _⟩ => ⟨S2x25x768, .f32⟩
  | .hbm, ⟨25, _⟩ => ⟨S_, .f32⟩
  | .hbm, ⟨26, _⟩ => ⟨S2x25x1, .f32⟩
  | .hbm, ⟨27, _⟩ => ⟨S2x25x1, .f32⟩
  | .hbm, ⟨28, _⟩ => ⟨S2x25x1, .f32⟩
  | .hbm, ⟨29, _⟩ => ⟨S2x25x768, .f32⟩
  | .hbm, ⟨30, _⟩ => ⟨S2x25x768, .f32⟩
  | .hbm, ⟨31, _⟩ => ⟨S1x1x768, .f32⟩
  | .hbm, ⟨32, _⟩ => ⟨S2x25x768, .f32⟩
  | .hbm, ⟨33, _⟩ => ⟨S2x25x768, .f32⟩
  | .hbm, ⟨34, _⟩ => ⟨S1x1x768, .f32⟩
  | .hbm, ⟨35, _⟩ => ⟨S2x25x768, .f32⟩
  | .hbm, ⟨36, _⟩ => ⟨S2x25x768, .f32⟩
  | .hbm, ⟨37, _⟩ => ⟨S50x768, .f32⟩
  | .hbm, ⟨38, _⟩ => ⟨S1x3072, .f32⟩
  | .hbm, ⟨39, _⟩ => ⟨S1x768, .f32⟩
  | .hbm, ⟨40, _⟩ => ⟨S50x768, .f32⟩
  | .local _ .vmem, ⟨0, _⟩ => ⟨S50x768, .f32⟩
  | .local _ .vmem, ⟨1, _⟩ => ⟨S50x768, .f32⟩
  | .local _ .vmem, ⟨2, _⟩ => ⟨S768x3072, .f32⟩
  | .local _ .vmem, ⟨3, _⟩ => ⟨S1x3072, .f32⟩
  | .local _ .vmem, ⟨4, _⟩ => ⟨S3072x768, .f32⟩
  | .local _ .vmem, ⟨5, _⟩ => ⟨S1x768, .f32⟩
  | .local _ .vmem, ⟨6, _⟩ => ⟨S50x768, .f32⟩
  | _, _ => ⟨S50x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S50x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S50x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== LastReferenceIdeal.lean ====
abbrev S50x768 : Shape := ⟨2, ![50, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2x25x768 : Shape := ⟨3, ![2, 25, 768]⟩
abbrev S_ : Shape := ⟨0, ![]⟩
abbrev S2x25 : Shape := ⟨2, ![2, 25]⟩
abbrev S2x25x1 : Shape := ⟨3, ![2, 25, 1]⟩
abbrev S1x1x768 : Shape := ⟨3, ![1, 1, 768]⟩
abbrev S2x25x3072 : Shape := ⟨3, ![2, 25, 3072]⟩
abbrev S1x1x3072 : Shape := ⟨3, ![1, 1, 3072]⟩

abbrev nBuf : Space → Nat
  | .hbm => 64
  | .vmem => 0
  | .smem => 0
  | _ => 0

abbrev bufTy : (tb : Table) → Fin (tcTables nBuf tb) → BufTy
  | .hbm, ⟨0, _⟩ => ⟨S50x768, .f32⟩
  | .hbm, ⟨1, _⟩ => ⟨S768, .f32⟩
  | .hbm, ⟨2, _⟩ => ⟨S768, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S2x25x768, .f32⟩
  | .hbm, ⟨8, _⟩ => ⟨S_, .f32⟩
  | .hbm, ⟨9, _⟩ => ⟨S2x25, .f32⟩
  | .hbm, ⟨10, _⟩ => ⟨S2x25x1, .f32⟩
  | .hbm, ⟨11, _⟩ => ⟨S_, .f32⟩
  | .hbm, ⟨12, _⟩ => ⟨S2x25x1, .f32⟩
  | .hbm, ⟨13, _⟩ => ⟨S2x25x1, .f32⟩
  | .hbm, ⟨14, _⟩ => ⟨S2x25x768, .f32⟩
  | .hbm, ⟨15, _⟩ => ⟨S2x25x768, .f32⟩
  | .hbm, ⟨16, _⟩ => ⟨S2x25x768, .f32⟩
  | .hbm, ⟨17, _⟩ => ⟨S_, .f32⟩
  | .hbm, ⟨18, _⟩ => ⟨S2x25, .f32⟩
  | .hbm, ⟨19, _⟩ => ⟨S2x25x1, .f32⟩
  | .hbm, ⟨20, _⟩ => ⟨S_, .f32⟩
  | .hbm, ⟨21, _⟩ => ⟨S2x25x1, .f32⟩
  | .hbm, ⟨22, _⟩ => ⟨S2x25x1, .f32⟩
  | .hbm, ⟨23, _⟩ => ⟨S2x25x768, .f32⟩
  | .hbm, ⟨24, _⟩ => ⟨S2x25x768, .f32⟩
  | .hbm, ⟨25, _⟩ => ⟨S_, .f32⟩
  | .hbm, ⟨26, _⟩ => ⟨S2x25x1, .f32⟩
  | .hbm, ⟨27, _⟩ => ⟨S2x25x1, .f32⟩
  | .hbm, ⟨28, _⟩ => ⟨S2x25x1, .f32⟩
  | .hbm, ⟨29, _⟩ => ⟨S2x25x768, .f32⟩
  | .hbm, ⟨30, _⟩ => ⟨S2x25x768, .f32⟩
  | .hbm, ⟨31, _⟩ => ⟨S1x1x768, .f32⟩
  | .hbm, ⟨32, _⟩ => ⟨S2x25x768, .f32⟩
  | .hbm, ⟨33, _⟩ => ⟨S2x25x768, .f32⟩
  | .hbm, ⟨34, _⟩ => ⟨S1x1x768, .f32⟩
  | .hbm, ⟨35, _⟩ => ⟨S2x25x768, .f32⟩
  | .hbm, ⟨36, _⟩ => ⟨S2x25x768, .f32⟩
  | .hbm, ⟨37, _⟩ => ⟨S2x25x3072, .f32⟩
  | .hbm, ⟨38, _⟩ => ⟨S1x1x3072, .f32⟩
  | .hbm, ⟨39, _⟩ => ⟨S2x25x3072, .f32⟩
  | .hbm, ⟨40, _⟩ => ⟨S2x25x3072, .f32⟩
  | .hbm, ⟨41, _⟩ => ⟨S2x25x3072, .f32⟩
  | .hbm, ⟨42, _⟩ => ⟨S2x25x3072, .f32⟩
  | .hbm, ⟨43, _⟩ => ⟨S_, .f32⟩
  | .hbm, ⟨44, _⟩ => ⟨S2x25x3072, .f32⟩
  | .hbm, ⟨45, _⟩ => ⟨S2x25x3072, .f32⟩
  | .hbm, ⟨46, _⟩ => ⟨S2x25x3072, .f32⟩
  | .hbm, ⟨47, _⟩ => ⟨S_, .f32⟩
  | .hbm, ⟨48, _⟩ => ⟨S2x25x3072, .f32⟩
  | .hbm, ⟨49, _⟩ => ⟨S2x25x3072, .f32⟩
  | .hbm, ⟨50, _⟩ => ⟨S2x25x3072, .f32⟩
  | .hbm, ⟨51, _⟩ => ⟨S_, .f32⟩
  | .hbm, ⟨52, _⟩ => ⟨S2x25x3072, .f32⟩
  | .hbm, ⟨53, _⟩ => ⟨S2x25x3072, .f32⟩
  | .hbm, ⟨54, _⟩ => ⟨S_, .f32⟩
  | .hbm, ⟨55, _⟩ => ⟨S2x25x3072, .f32⟩
  | .hbm, ⟨56, _⟩ => ⟨S2x25x3072, .f32⟩
  | .hbm, ⟨57, _⟩ => ⟨S2x25x3072, .f32⟩
  | .hbm, ⟨58, _⟩ => ⟨S2x25x768, .f32⟩
  | .hbm, ⟨59, _⟩ => ⟨S2x25x768, .f32⟩
  | .hbm, ⟨60, _⟩ => ⟨S1x1x768, .f32⟩
  | .hbm, ⟨61, _⟩ => ⟨S2x25x768, .f32⟩
  | .hbm, ⟨62, _⟩ => ⟨S2x25x768, .f32⟩
  | .hbm, ⟨63, _⟩ => ⟨S50x768, .f32⟩
  | _, _ => ⟨S50x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proj.lean ====
abbrev S254x768 : Shape := ⟨2, ![254, 768]⟩
abbrev S768 : Shape := ⟨1, ![768]⟩
abbrev S768x768 : Shape := ⟨2, ![768, 768]⟩
abbrev S2x127x768 : Shape := ⟨3, ![2, 127, 768]⟩
abbrev S_ : Shape := ⟨0, ![]⟩
abbrev S2x127 : Shape := ⟨2, ![2, 127]⟩
abbrev S2x127x1 : Shape := ⟨3, ![2, 127, 1]⟩
abbrev S1x1x768 : Shape := ⟨3, ![1, 1, 768]⟩
abbrev S1x768 : Shape := ⟨2, ![1, 768]⟩
abbrev S2x12x127x127 : Shape := ⟨4, ![2, 12, 127, 127]⟩
abbrev S127x768 : Shape := ⟨2, ![127, 768]⟩
abbrev S127x64 : Shape := ⟨2, ![127, 64]⟩
abbrev S127x127 : Shape := ⟨2, ![127, 127]⟩
abbrev S1x1x127x127 : Shape := ⟨4, ![1, 1, 127, 127]⟩

abbrev nBuf : Space → Nat
  | .hbm => 45
  | .vmem => 9
  | .smem => 0
  | _ => 0

abbrev bufTy : (tb : Table) → Fin (tcTables nBuf tb) → BufTy
  | .hbm, ⟨0, _⟩ => ⟨S254x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2x127x768, .f32⟩
  | .hbm, ⟨10, _⟩ => ⟨S_, .f32⟩
  | .hbm, ⟨11, _⟩ => ⟨S2x127, .f32⟩
  | .hbm, ⟨12, _⟩ => ⟨S2x127x1, .f32⟩
  | .hbm, ⟨13, _⟩ => ⟨S_, .f32⟩
  | .hbm, ⟨14, _⟩ => ⟨S2x127x1, .f32⟩
  | .hbm, ⟨15, _⟩ => ⟨S2x127x1, .f32⟩
  | .hbm, ⟨16, _⟩ => ⟨S2x127x768, .f32⟩
  | .hbm, ⟨17, _⟩ => ⟨S2x127x768, .f32⟩
  | .hbm, ⟨18, _⟩ => ⟨S2x127x768, .f32⟩
  | .hbm, ⟨19, _⟩ => ⟨S_, .f32⟩
  | .hbm, ⟨20, _⟩ => ⟨S2x127, .f32⟩
  | .hbm, ⟨21, _⟩ => ⟨S2x127x1, .f32⟩
  | .hbm, ⟨22, _⟩ => ⟨S_, .f32⟩
  | .hbm, ⟨23, _⟩ => ⟨S2x127x1, .f32⟩
  | .hbm, ⟨24, _⟩ => ⟨S2x127x1, .f32⟩
  | .hbm, ⟨25, _⟩ => ⟨S2x127x768, .f32⟩
  | .hbm, ⟨26, _⟩ => ⟨S2x127x768, .f32⟩
  | .hbm, ⟨27, _⟩ => ⟨S_, .f32⟩
  | .hbm, ⟨28, _⟩ => ⟨S2x127x1, .f32⟩
  | .hbm, ⟨29, _⟩ => ⟨S2x127x1, .f32⟩
  | .hbm, ⟨30, _⟩ => ⟨S2x127x1, .f32⟩
  | .hbm, ⟨31, _⟩ => ⟨S2x127x768, .f32⟩
  | .hbm, ⟨32, _⟩ => ⟨S2x127x768, .f32⟩
  | .hbm, ⟨33, _⟩ => ⟨S1x1x768, .f32⟩
  | .hbm, ⟨34, _⟩ => ⟨S2x127x768, .f32⟩
  | .hbm, ⟨35, _⟩ => ⟨S2x127x768, .f32⟩
  | .hbm, ⟨36, _⟩ => ⟨S1x1x768, .f32⟩
  | .hbm, ⟨37, _⟩ => ⟨S2x127x768, .f32⟩
  | .hbm, ⟨38, _⟩ => ⟨S2x127x768, .f32⟩
  | .hbm, ⟨39, _⟩ => ⟨S254x768, .f32⟩
  | .hbm, ⟨40, _⟩ => ⟨S1x768, .f32⟩
  | .hbm, ⟨41, _⟩ => ⟨S1x768, .f32⟩
  | .hbm, ⟨42, _⟩ => ⟨S1x768, .f32⟩
  | .hbm, ⟨43, _⟩ => ⟨S2x12x127x127, .f32⟩
  | .hbm, ⟨44, _⟩ => ⟨S254x768, .f32⟩
  | .local _ .vmem, ⟨0, _⟩ => ⟨S254x768, .f32⟩
  | .local _ .vmem, ⟨1, _⟩ => ⟨S768x768, .f32⟩
  | .local _ .vmem, ⟨2, _⟩ => ⟨S1x768, .f32⟩
  | .local _ .vmem, ⟨3, _⟩ => ⟨S768x768, .f32⟩
  | .local _ .vmem, ⟨4, _⟩ => ⟨S1x768, .f32⟩
  | .local _ .vmem, ⟨5, _⟩ => ⟨S768x768, .f32⟩
  | .local _ .vmem, ⟨6, _⟩ => ⟨S1x768, .f32⟩
  | .local _ .vmem, ⟨7, _⟩ => ⟨S2x12x127x127, .f32⟩
  | .local _ .vmem, ⟨8, _⟩ => ⟨S254x768, .f32⟩
  | _, _ => ⟨S254x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S254x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x12x127x127 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S254x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ProjIdeal.lean ====
abbrev S254x768 : Shape := ⟨2, ![254, 768]⟩
abbrev S768 : Shape := ⟨1, ![768]⟩
abbrev S768x768 : Shape := ⟨2, ![768, 768]⟩
abbrev S2x127x768 : Shape := ⟨3, ![2, 127, 768]⟩
abbrev S_ : Shape := ⟨0, ![]⟩
abbrev S2x127 : Shape := ⟨2, ![2, 127]⟩
abbrev S2x127x1 : Shape := ⟨3, ![2, 127, 1]⟩
abbrev S1x1x768 : Shape := ⟨3, ![1, 1, 768]⟩
abbrev S1x768 : Shape := ⟨2, ![1, 768]⟩
abbrev S2x12x127x127 : Shape := ⟨4, ![2, 12, 127, 127]⟩
abbrev S127x768 : Shape := ⟨2, ![127, 768]⟩
abbrev S127x64 : Shape := ⟨2, ![127, 64]⟩
abbrev S127x127 : Shape := ⟨2, ![127, 127]⟩
abbrev S1x1x127x127 : Shape := ⟨4, ![1, 1, 127, 127]⟩

abbrev nBuf : Space → Nat
  | .hbm => 45
  | .vmem => 9
  | .smem => 0
  | _ => 0

abbrev bufTy : (tb : Table) → Fin (tcTables nBuf tb) → BufTy
  | .hbm, ⟨0, _⟩ => ⟨S254x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2x127x768, .f32⟩
  | .hbm, ⟨10, _⟩ => ⟨S_, .f32⟩
  | .hbm, ⟨11, _⟩ => ⟨S2x127, .f32⟩
  | .hbm, ⟨12, _⟩ => ⟨S2x127x1, .f32⟩
  | .hbm, ⟨13, _⟩ => ⟨S_, .f32⟩
  | .hbm, ⟨14, _⟩ => ⟨S2x127x1, .f32⟩
  | .hbm, ⟨15, _⟩ => ⟨S2x127x1, .f32⟩
  | .hbm, ⟨16, _⟩ => ⟨S2x127x768, .f32⟩
  | .hbm, ⟨17, _⟩ => ⟨S2x127x768, .f32⟩
  | .hbm, ⟨18, _⟩ => ⟨S2x127x768, .f32⟩
  | .hbm, ⟨19, _⟩ => ⟨S_, .f32⟩
  | .hbm, ⟨20, _⟩ => ⟨S2x127, .f32⟩
  | .hbm, ⟨21, _⟩ => ⟨S2x127x1, .f32⟩
  | .hbm, ⟨22, _⟩ => ⟨S_, .f32⟩
  | .hbm, ⟨23, _⟩ => ⟨S2x127x1, .f32⟩
  | .hbm, ⟨24, _⟩ => ⟨S2x127x1, .f32⟩
  | .hbm, ⟨25, _⟩ => ⟨S2x127x768, .f32⟩
  | .hbm, ⟨26, _⟩ => ⟨S2x127x768, .f32⟩
  | .hbm, ⟨27, _⟩ => ⟨S_, .f32⟩
  | .hbm, ⟨28, _⟩ => ⟨S2x127x1, .f32⟩
  | .hbm, ⟨29, _⟩ => ⟨S2x127x1, .f32⟩
  | .hbm, ⟨30, _⟩ => ⟨S2x127x1, .f32⟩
  | .hbm, ⟨31, _⟩ => ⟨S2x127x768, .f32⟩
  | .hbm, ⟨32, _⟩ => ⟨S2x127x768, .f32⟩
  | .hbm, ⟨33, _⟩ => ⟨S1x1x768, .f32⟩
  | .hbm, ⟨34, _⟩ => ⟨S2x127x768, .f32⟩
  | .hbm, ⟨35, _⟩ => ⟨S2x127x768, .f32⟩
  | .hbm, ⟨36, _⟩ => ⟨S1x1x768, .f32⟩
  | .hbm, ⟨37, _⟩ => ⟨S2x127x768, .f32⟩
  | .hbm, ⟨38, _⟩ => ⟨S2x127x768, .f32⟩
  | .hbm, ⟨39, _⟩ => ⟨S254x768, .f32⟩
  | .hbm, ⟨40, _⟩ => ⟨S1x768, .f32⟩
  | .hbm, ⟨41, _⟩ => ⟨S1x768, .f32⟩
  | .hbm, ⟨42, _⟩ => ⟨S1x768, .f32⟩
  | .hbm, ⟨43, _⟩ => ⟨S2x12x127x127, .f32⟩
  | .hbm, ⟨44, _⟩ => ⟨S254x768, .f32⟩
  | .local _ .vmem, ⟨0, _⟩ => ⟨S254x768, .f32⟩
  | .local _ .vmem, ⟨1, _⟩ => ⟨S768x768, .f32⟩
  | .local _ .vmem, ⟨2, _⟩ => ⟨S1x768, .f32⟩
  | .local _ .vmem, ⟨3, _⟩ => ⟨S768x768, .f32⟩
  | .local _ .vmem, ⟨4, _⟩ => ⟨S1x768, .f32⟩
  | .local _ .vmem, ⟨5, _⟩ => ⟨S768x768, .f32⟩
  | .local _ .vmem, ⟨6, _⟩ => ⟨S1x768, .f32⟩
  | .local _ .vmem, ⟨7, _⟩ => ⟨S2x12x127x127, .f32⟩
  | .local _ .vmem, ⟨8, _⟩ => ⟨S254x768, .f32⟩
  | _, _ => ⟨S254x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S254x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x12x127x127 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S254x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ProjReferenceIdeal.lean ====
abbrev S254x768 : Shape := ⟨2, ![254, 768]⟩
abbrev S768 : Shape := ⟨1, ![768]⟩
abbrev S768x768 : Shape := ⟨2, ![768, 768]⟩
abbrev S2x127x768 : Shape := ⟨3, ![2, 127, 768]⟩
abbrev S_ : Shape := ⟨0, ![]⟩
abbrev S2x127 : Shape := ⟨2, ![2, 127]⟩
abbrev S2x127x1 : Shape := ⟨3, ![2, 127, 1]⟩
abbrev S1x1x768 : Shape := ⟨3, ![1, 1, 768]⟩
abbrev S2x127x12x64 : Shape := ⟨4, ![2, 127, 12, 64]⟩
abbrev S2x12x127x64 : Shape := ⟨4, ![2, 12, 127, 64]⟩
abbrev S2x12x127x127 : Shape := ⟨4, ![2, 12, 127, 127]⟩

abbrev nBuf : Space → Nat
  | .hbm => 60
  | .vmem => 0
  | .smem => 0
  | _ => 0

abbrev bufTy : (tb : Table) → Fin (tcTables nBuf tb) → BufTy
  | .hbm, ⟨0, _⟩ => ⟨S254x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2x127x768, .f32⟩
  | .hbm, ⟨10, _⟩ => ⟨S_, .f32⟩
  | .hbm, ⟨11, _⟩ => ⟨S2x127, .f32⟩
  | .hbm, ⟨12, _⟩ => ⟨S2x127x1, .f32⟩
  | .hbm, ⟨13, _⟩ => ⟨S_, .f32⟩
  | .hbm, ⟨14, _⟩ => ⟨S2x127x1, .f32⟩
  | .hbm, ⟨15, _⟩ => ⟨S2x127x1, .f32⟩
  | .hbm, ⟨16, _⟩ => ⟨S2x127x768, .f32⟩
  | .hbm, ⟨17, _⟩ => ⟨S2x127x768, .f32⟩
  | .hbm, ⟨18, _⟩ => ⟨S2x127x768, .f32⟩
  | .hbm, ⟨19, _⟩ => ⟨S_, .f32⟩
  | .hbm, ⟨20, _⟩ => ⟨S2x127, .f32⟩
  | .hbm, ⟨21, _⟩ => ⟨S2x127x1, .f32⟩
  | .hbm, ⟨22, _⟩ => ⟨S_, .f32⟩
  | .hbm, ⟨23, _⟩ => ⟨S2x127x1, .f32⟩
  | .hbm, ⟨24, _⟩ => ⟨S2x127x1, .f32⟩
  | .hbm, ⟨25, _⟩ => ⟨S2x127x768, .f32⟩
  | .hbm, ⟨26, _⟩ => ⟨S2x127x768, .f32⟩
  | .hbm, ⟨27, _⟩ => ⟨S_, .f32⟩
  | .hbm, ⟨28, _⟩ => ⟨S2x127x1, .f32⟩
  | .hbm, ⟨29, _⟩ => ⟨S2x127x1, .f32⟩
  | .hbm, ⟨30, _⟩ => ⟨S2x127x1, .f32⟩
  | .hbm, ⟨31, _⟩ => ⟨S2x127x768, .f32⟩
  | .hbm, ⟨32, _⟩ => ⟨S2x127x768, .f32⟩
  | .hbm, ⟨33, _⟩ => ⟨S1x1x768, .f32⟩
  | .hbm, ⟨34, _⟩ => ⟨S2x127x768, .f32⟩
  | .hbm, ⟨35, _⟩ => ⟨S2x127x768, .f32⟩
  | .hbm, ⟨36, _⟩ => ⟨S1x1x768, .f32⟩
  | .hbm, ⟨37, _⟩ => ⟨S2x127x768, .f32⟩
  | .hbm, ⟨38, _⟩ => ⟨S2x127x768, .f32⟩
  | .hbm, ⟨39, _⟩ => ⟨S2x127x768, .f32⟩
  | .hbm, ⟨40, _⟩ => ⟨S1x1x768, .f32⟩
  | .hbm, ⟨41, _⟩ => ⟨S2x127x768, .f32⟩
  | .hbm, ⟨42, _⟩ => ⟨S2x127x768, .f32⟩
  | .hbm, ⟨43, _⟩ => ⟨S2x127x12x64, .f32⟩
  | .hbm, ⟨44, _⟩ => ⟨S2x12x127x64, .f32⟩
  | .hbm, ⟨45, _⟩ => ⟨S2x127x768, .f32⟩
  | .hbm, ⟨46, _⟩ => ⟨S1x1x768, .f32⟩
  | .hbm, ⟨47, _⟩ => ⟨S2x127x768, .f32⟩
  | .hbm, ⟨48, _⟩ => ⟨S2x127x768, .f32⟩
  | .hbm, ⟨49, _⟩ => ⟨S2x127x12x64, .f32⟩
  | .hbm, ⟨50, _⟩ => ⟨S2x12x127x64, .f32⟩
  | .hbm, ⟨51, _⟩ => ⟨S2x127x768, .f32⟩
  | .hbm, ⟨52, _⟩ => ⟨S1x1x768, .f32⟩
  | .hbm, ⟨53, _⟩ => ⟨S2x127x768, .f32⟩
  | .hbm, ⟨54, _⟩ => ⟨S2x127x768, .f32⟩
  | .hbm, ⟨55, _⟩ => ⟨S2x12x127x127, .f32⟩
  | .hbm, ⟨56, _⟩ => ⟨S_, .f32⟩
  | .hbm, ⟨57, _⟩ => ⟨S2x12x127x127, .f32⟩
  | .hbm, ⟨58, _⟩ => ⟨S2x12x127x127, .f32⟩
  | .hbm, ⟨59, _⟩ => ⟨S254x768, .f32⟩
  | _, _ => ⟨S254x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== ProjLast.lean ====
abbrev S50x768 : Shape := ⟨2, ![50, 768]⟩
abbrev S768 : Shape := ⟨1, ![768]⟩
abbrev S768x768 : Shape := ⟨2, ![768, 768]⟩
abbrev S2x25x768 : Shape := ⟨3, ![2, 25, 768]⟩
abbrev S_ : Shape := ⟨0, ![]⟩
abbrev S2x25 : Shape := ⟨2, ![2, 25]⟩
abbrev S2x25x1 : Shape := ⟨3, ![2, 25, 1]⟩
abbrev S1x1x768 : Shape := ⟨3, ![1, 1, 768]⟩
abbrev S1x768 : Shape := ⟨2, ![1, 768]⟩
abbrev S2x12x25x25 : Shape := ⟨4, ![2, 12, 25, 25]⟩
abbrev S25x768 : Shape := ⟨2, ![25, 768]⟩
abbrev S25x64 : Shape := ⟨2, ![25, 64]⟩
abbrev S25x25 : Shape := ⟨2, ![25, 25]⟩
abbrev S1x1x25x25 : Shape := ⟨4, ![1, 1, 25, 25]⟩

abbrev nBuf : Space → Nat
  | .hbm => 45
  | .vmem => 9
  | .smem => 0
  | _ => 0

abbrev bufTy : (tb : Table) → Fin (tcTables nBuf tb) → BufTy
  | .hbm, ⟨0, _⟩ => ⟨S50x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2x25x768, .f32⟩
  | .hbm, ⟨10, _⟩ => ⟨S_, .f32⟩
  | .hbm, ⟨11, _⟩ => ⟨S2x25, .f32⟩
  | .hbm, ⟨12, _⟩ => ⟨S2x25x1, .f32⟩
  | .hbm, ⟨13, _⟩ => ⟨S_, .f32⟩
  | .hbm, ⟨14, _⟩ => ⟨S2x25x1, .f32⟩
  | .hbm, ⟨15, _⟩ => ⟨S2x25x1, .f32⟩
  | .hbm, ⟨16, _⟩ => ⟨S2x25x768, .f32⟩
  | .hbm, ⟨17, _⟩ => ⟨S2x25x768, .f32⟩
  | .hbm, ⟨18, _⟩ => ⟨S2x25x768, .f32⟩
  | .hbm, ⟨19, _⟩ => ⟨S_, .f32⟩
  | .hbm, ⟨20, _⟩ => ⟨S2x25, .f32⟩
  | .hbm, ⟨21, _⟩ => ⟨S2x25x1, .f32⟩
  | .hbm, ⟨22, _⟩ => ⟨S_, .f32⟩
  | .hbm, ⟨23, _⟩ => ⟨S2x25x1, .f32⟩
  | .hbm, ⟨24, _⟩ => ⟨S2x25x1, .f32⟩
  | .hbm, ⟨25, _⟩ => ⟨S2x25x768, .f32⟩
  | .hbm, ⟨26, _⟩ => ⟨S2x25x768, .f32⟩
  | .hbm, ⟨27, _⟩ => ⟨S_, .f32⟩
  | .hbm, ⟨28, _⟩ => ⟨S2x25x1, .f32⟩
  | .hbm, ⟨29, _⟩ => ⟨S2x25x1, .f32⟩
  | .hbm, ⟨30, _⟩ => ⟨S2x25x1, .f32⟩
  | .hbm, ⟨31, _⟩ => ⟨S2x25x768, .f32⟩
  | .hbm, ⟨32, _⟩ => ⟨S2x25x768, .f32⟩
  | .hbm, ⟨33, _⟩ => ⟨S1x1x768, .f32⟩
  | .hbm, ⟨34, _⟩ => ⟨S2x25x768, .f32⟩
  | .hbm, ⟨35, _⟩ => ⟨S2x25x768, .f32⟩
  | .hbm, ⟨36, _⟩ => ⟨S1x1x768, .f32⟩
  | .hbm, ⟨37, _⟩ => ⟨S2x25x768, .f32⟩
  | .hbm, ⟨38, _⟩ => ⟨S2x25x768, .f32⟩
  | .hbm, ⟨39, _⟩ => ⟨S50x768, .f32⟩
  | .hbm, ⟨40, _⟩ => ⟨S1x768, .f32⟩
  | .hbm, ⟨41, _⟩ => ⟨S1x768, .f32⟩
  | .hbm, ⟨42, _⟩ => ⟨S1x768, .f32⟩
  | .hbm, ⟨43, _⟩ => ⟨S2x12x25x25, .f32⟩
  | .hbm, ⟨44, _⟩ => ⟨S50x768, .f32⟩
  | .local _ .vmem, ⟨0, _⟩ => ⟨S50x768, .f32⟩
  | .local _ .vmem, ⟨1, _⟩ => ⟨S768x768, .f32⟩
  | .local _ .vmem, ⟨2, _⟩ => ⟨S1x768, .f32⟩
  | .local _ .vmem, ⟨3, _⟩ => ⟨S768x768, .f32⟩
  | .local _ .vmem, ⟨4, _⟩ => ⟨S1x768, .f32⟩
  | .local _ .vmem, ⟨5, _⟩ => ⟨S768x768, .f32⟩
  | .local _ .vmem, ⟨6, _⟩ => ⟨S1x768, .f32⟩
  | .local _ .vmem, ⟨7, _⟩ => ⟨S2x12x25x25, .f32⟩
  | .local _ .vmem, ⟨8, _⟩ => ⟨S50x768, .f32⟩
  | _, _ => ⟨S50x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S50x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x12x25x25 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S50x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ProjLastReferenceIdeal.lean ====
abbrev S50x768 : Shape := ⟨2, ![50, 768]⟩
abbrev S768 : Shape := ⟨1, ![768]⟩
abbrev S768x768 : Shape := ⟨2, ![768, 768]⟩
abbrev S2x25x768 : Shape := ⟨3, ![2, 25, 768]⟩
abbrev S_ : Shape := ⟨0, ![]⟩
abbrev S2x25 : Shape := ⟨2, ![2, 25]⟩
abbrev S2x25x1 : Shape := ⟨3, ![2, 25, 1]⟩
abbrev S1x1x768 : Shape := ⟨3, ![1, 1, 768]⟩
abbrev S2x25x12x64 : Shape := ⟨4, ![2, 25, 12, 64]⟩
abbrev S2x12x25x64 : Shape := ⟨4, ![2, 12, 25, 64]⟩
abbrev S2x12x25x25 : Shape := ⟨4, ![2, 12, 25, 25]⟩

abbrev nBuf : Space → Nat
  | .hbm => 60
  | .vmem => 0
  | .smem => 0
  | _ => 0

abbrev bufTy : (tb : Table) → Fin (tcTables nBuf tb) → BufTy
  | .hbm, ⟨0, _⟩ => ⟨S50x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2x25x768, .f32⟩
  | .hbm, ⟨10, _⟩ => ⟨S_, .f32⟩
  | .hbm, ⟨11, _⟩ => ⟨S2x25, .f32⟩
  | .hbm, ⟨12, _⟩ => ⟨S2x25x1, .f32⟩
  | .hbm, ⟨13, _⟩ => ⟨S_, .f32⟩
  | .hbm, ⟨14, _⟩ => ⟨S2x25x1, .f32⟩
  | .hbm, ⟨15, _⟩ => ⟨S2x25x1, .f32⟩
  | .hbm, ⟨16, _⟩ => ⟨S2x25x768, .f32⟩
  | .hbm, ⟨17, _⟩ => ⟨S2x25x768, .f32⟩
  | .hbm, ⟨18, _⟩ => ⟨S2x25x768, .f32⟩
  | .hbm, ⟨19, _⟩ => ⟨S_, .f32⟩
  | .hbm, ⟨20, _⟩ => ⟨S2x25, .f32⟩
  | .hbm, ⟨21, _⟩ => ⟨S2x25x1, .f32⟩
  | .hbm, ⟨22, _⟩ => ⟨S_, .f32⟩
  | .hbm, ⟨23, _⟩ => ⟨S2x25x1, .f32⟩
  | .hbm, ⟨24, _⟩ => ⟨S2x25x1, .f32⟩
  | .hbm, ⟨25, _⟩ => ⟨S2x25x768, .f32⟩
  | .hbm, ⟨26, _⟩ => ⟨S2x25x768, .f32⟩
  | .hbm, ⟨27, _⟩ => ⟨S_, .f32⟩
  | .hbm, ⟨28, _⟩ => ⟨S2x25x1, .f32⟩
  | .hbm, ⟨29, _⟩ => ⟨S2x25x1, .f32⟩
  | .hbm, ⟨30, _⟩ => ⟨S2x25x1, .f32⟩
  | .hbm, ⟨31, _⟩ => ⟨S2x25x768, .f32⟩
  | .hbm, ⟨32, _⟩ => ⟨S2x25x768, .f32⟩
  | .hbm, ⟨33, _⟩ => ⟨S1x1x768, .f32⟩
  | .hbm, ⟨34, _⟩ => ⟨S2x25x768, .f32⟩
  | .hbm, ⟨35, _⟩ => ⟨S2x25x768, .f32⟩
  | .hbm, ⟨36, _⟩ => ⟨S1x1x768, .f32⟩
  | .hbm, ⟨37, _⟩ => ⟨S2x25x768, .f32⟩
  | .hbm, ⟨38, _⟩ => ⟨S2x25x768, .f32⟩
  | .hbm, ⟨39, _⟩ => ⟨S2x25x768, .f32⟩
  | .hbm, ⟨40, _⟩ => ⟨S1x1x768, .f32⟩
  | .hbm, ⟨41, _⟩ => ⟨S2x25x768, .f32⟩
  | .hbm, ⟨42, _⟩ => ⟨S2x25x768, .f32⟩
  | .hbm, ⟨43, _⟩ => ⟨S2x25x12x64, .f32⟩
  | .hbm, ⟨44, _⟩ => ⟨S2x12x25x64, .f32⟩
  | .hbm, ⟨45, _⟩ => ⟨S2x25x768, .f32⟩
  | .hbm, ⟨46, _⟩ => ⟨S1x1x768, .f32⟩
  | .hbm, ⟨47, _⟩ => ⟨S2x25x768, .f32⟩
  | .hbm, ⟨48, _⟩ => ⟨S2x25x768, .f32⟩
  | .hbm, ⟨49, _⟩ => ⟨S2x25x12x64, .f32⟩
  | .hbm, ⟨50, _⟩ => ⟨S2x12x25x64, .f32⟩
  | .hbm, ⟨51, _⟩ => ⟨S2x25x768, .f32⟩
  | .hbm, ⟨52, _⟩ => ⟨S1x1x768, .f32⟩
  | .hbm, ⟨53, _⟩ => ⟨S2x25x768, .f32⟩
  | .hbm, ⟨54, _⟩ => ⟨S2x25x768, .f32⟩
  | .hbm, ⟨55, _⟩ => ⟨S2x12x25x25, .f32⟩
  | .hbm, ⟨56, _⟩ => ⟨S_, .f32⟩
  | .hbm, ⟨57, _⟩ => ⟨S2x12x25x25, .f32⟩
  | .hbm, ⟨58, _⟩ => ⟨S2x12x25x25, .f32⟩
  | .hbm, ⟨59, _⟩ => ⟨S50x768, .f32⟩
  | _, _ => ⟨S50x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.KernelRun.lean ====
/- The run of the layer's program: each grid has one point and each window's block is its whole array, so what a region
   leaves in an output array is its kernel's output at the region's entry contents; each result is read off the last
   boundary's contents, and the arguments end as launched. -/
module

public import proofs.«01_k».proof.Proof.Gen.KernelIdeal.Frame
public import Idealize.ShloMosaic.Lib.Pipeline.Value
public import Idealize.ShloMosaic.Lib.Pipeline.ValueKit.Geometry

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole blocks -/

/-- An index of the block of a whole array, placed in the array, is itself. -/
theorem whole_emb {sig : RefSig} {κ : Kind} (b : Ref sig κ) (off : Fin b.ty.shape.rank → Nat) (inb) (h : ∀ a, off a = 0)
    (j : b.ty.shape.Idx) : ((View.whole b).slice (Rect.unit off b.ty.shape.size inb)).emb j = j :=
  funext fun a => Fin.ext ((ValueKit.view_emb_slice_whole_unit_val b off _ inb j a).trans (by rw [h a, Nat.zero_add]))

/-- So every index of the array is in the block. -/
theorem whole_mem {sig : RefSig} {κ : Kind} (b : Ref sig κ) (off : Fin b.ty.shape.rank → Nat) (inb) (h : ∀ a, off a = 0)
    (j : b.ty.shape.Idx) : j ∈ ((View.whole b).slice (Rect.unit off b.ty.shape.size inb)).set := by
  have e := ((View.whole b).slice (Rect.unit off b.ty.shape.size inb)).emb_mem_set j
  rwa [whole_emb b off inb h] at e

variable (V : (c : Dev nD) → (b : Ref sig .tc) → Buf (Elt F) ((c : Thread nD τ).loc b))

/-! ## Region 0 -/

theorem iblk0_0 (c : Dev nD) (t : Fin cfg0.N) : iblk0 V c 0 t = V c main_v25 :=
  funext fun j => congrArg (V c main_v25) (whole_emb main_v25 _ _ (fun _ => Nat.zero_mul _) j)

theorem iblk0_1 (c : Dev nD) (t : Fin cfg0.N) : iblk0 V c 1 t = V c main_arg3 :=
  funext fun j => congrArg (V c main_arg3) (whole_emb main_arg3 _ _ (fun _ => Nat.zero_mul _) j)

theorem iblk0_2 (c : Dev nD) (t : Fin cfg0.N) : iblk0 V c 2 t = V c main_v26 :=
  funext fun j => congrArg (V c main_v26) (whole_emb main_v26 _ _ (fun _ => Nat.zero_mul _) j)

theorem iblk0_3 (c : Dev nD) (t : Fin cfg0.N) : iblk0 V c 3 t = V c main_arg5 :=
  funext fun j => congrArg (V c main_arg5) (whole_emb main_arg5 _ _ (fun _ => Nat.zero_mul _) j)

theorem iblk0_4 (c : Dev nD) (t : Fin cfg0.N) : iblk0 V c 4 t = V c main_v27 :=
  funext fun j => congrArg (V c main_v27) (whole_emb main_v27 _ _ (fun _ => Nat.zero_mul _) j)

theorem iblk0_5 (c : Dev nD) (t : Fin cfg0.N) : iblk0 V c 5 t = V c main_arg7 :=
  funext fun j => congrArg (V c main_arg7) (whole_emb main_arg7 _ _ (fun _ => Nat.zero_mul _) j)

theorem iblk0_6 (c : Dev nD) (t : Fin cfg0.N) : iblk0 V c 6 t = V c main_v28 :=
  funext fun j => congrArg (V c main_v28) (whole_emb main_v28 _ _ (fun _ => Nat.zero_mul _) j)

theorem arrAt0_7_of {c : Dev nD} (dat : Dat τ (Elt F) Unit ℕ (UR sig nD τ) ℕ cfg0 c)
    (G : Buf (Elt F) ((c : Thread nD τ).loc main_v29_0)) (h : ∀ t, dat.after 7 t = G) : dat.arrAt 7 cfg0.N = G :=
  dat.arrAt_eq_of_cover 7 G
    (fun t _ => funext fun j => (congrFun (h t) j).trans (congrArg G (whole_emb main_v29_0 _ _ (fun _ => Nat.zero_mul _) j).symm))
    (fun i => ⟨⟨0, by decide⟩, flush0_7 _, whole_mem main_v29_0 _ _ (fun _ => Nat.zero_mul _) i⟩)

/-- Region 0 leaves `main_v29_0` at its kernel's output of the entry contents. -/
theorem final0_7 (c : Dev nD) : (dat0 V c).arrAt 7 cfg0.N = out0_7 (V c main_v25) (V c main_arg3) (V c main_v26) (V c main_arg5) (V c main_v27) (V c main_arg7) (V c main_v28) :=
  arrAt0_7_of _ _ fun t => by rw [after0_7, iblk0_0, iblk0_1, iblk0_2, iblk0_3, iblk0_4, iblk0_5, iblk0_6]

theorem arrAt0_8_of {c : Dev nD} (dat : Dat τ (Elt F) Unit ℕ (UR sig nD τ) ℕ cfg0 c)
    (G : Buf (Elt F) ((c : Thread nD τ).loc main_v29_1)) (h : ∀ t, dat.after 8 t = G) : dat.arrAt 8 cfg0.N = G :=
  dat.arrAt_eq_of_cover 8 G
    (fun t _ => funext fun j => (congrFun (h t) j).trans (congrArg G (whole_emb main_v29_1 _ _ (fun _ => Nat.zero_mul _) j).symm))
    (fun i => ⟨⟨0, by decide⟩, flush0_8 _, whole_mem main_v29_1 _ _ (fun _ => Nat.zero_mul _) i⟩)

/-- Region 0 leaves `main_v29_1` at its kernel's output of the entry contents. -/
theorem final0_8 (c : Dev nD) : (dat0 V c).arrAt 8 cfg0.N = out0_8 (V c main_v25) (V c main_arg3) (V c main_v26) (V c main_arg5) (V c main_v27) (V c main_arg7) (V c main_v28) :=
  arrAt0_8_of _ _ fun t => by rw [after0_8, iblk0_0, iblk0_1, iblk0_2, iblk0_3, iblk0_4, iblk0_5, iblk0_6]

/-! ## Region 1 -/

theorem iblk1_0 (c : Dev nD) (t : Fin cfg1.N) : iblk1 V c 0 t = V c main_v40 :=
  funext fun j => congrArg (V c main_v40) (whole_emb main_v40 _ _ (fun _ => Nat.zero_mul _) j)

theorem iblk1_1 (c : Dev nD) (t : Fin cfg1.N) : iblk1 V c 1 t = V c main_v29_1 :=
  funext fun j => congrArg (V c main_v29_1) (whole_emb main_v29_1 _ _ (fun _ => Nat.zero_mul _) j)

theorem iblk1_2 (c : Dev nD) (t : Fin cfg1.N) : iblk1 V c 2 t = V c main_arg0 :=
  funext fun j => congrArg (V c main_arg0) (whole_emb main_arg0 _ _ (fun _ => Nat.zero_mul _) j)

theorem iblk1_3 (c : Dev nD) (t : Fin cfg1.N) : iblk1 V c 3 t = V c main_arg9 :=
  funext fun j => congrArg (V c main_arg9) (whole_emb main_arg9 _ _ (fun _ => Nat.zero_mul _) j)

theorem iblk1_4 (c : Dev nD) (t : Fin cfg1.N) : iblk1 V c 4 t = V c main_v41 :=
  funext fun j => congrArg (V c main_v41) (whole_emb main_v41 _ _ (fun _ => Nat.zero_mul _) j)

theorem iblk1_5 (c : Dev nD) (t : Fin cfg1.N) : iblk1 V c 5 t = V c main_cst :=
  funext fun j => congrArg (V c main_cst) (whole_emb main_cst _ _ (fun _ => Nat.zero_mul _) j)

theorem arrAt1_6_of {c : Dev nD} (dat : Dat τ (Elt F) Unit ℕ (UR sig nD τ) ℕ cfg1 c)
    (G : Buf (Elt F) ((c : Thread nD τ).loc main_v42_0)) (h : ∀ t, dat.after 6 t = G) : dat.arrAt 6 cfg1.N = G :=
  dat.arrAt_eq_of_cover 6 G
    (fun t _ => funext fun j => (congrFun (h t) j).trans (congrArg G (whole_emb main_v42_0 _ _ (fun _ => Nat.zero_mul _) j).symm))
    (fun i => ⟨⟨0, by decide⟩, flush1_6 _, whole_mem main_v42_0 _ _ (fun _ => Nat.zero_mul _) i⟩)

/-- Region 1 leaves `main_v42_0` at its kernel's output of the entry contents. -/
theorem final1_6 (c : Dev nD) : (dat1 V c).arrAt 6 cfg1.N = out1_6 (V c main_v40) (V c main_v29_1) (V c main_arg0) (V c main_arg9) (V c main_v41) (V c main_cst) :=
  arrAt1_6_of _ _ fun t => by rw [after1_6, iblk1_0, iblk1_1, iblk1_2, iblk1_3, iblk1_4, iblk1_5]

theorem arrAt1_7_of {c : Dev nD} (dat : Dat τ (Elt F) Unit ℕ (UR sig nD τ) ℕ cfg1 c)
    (G : Buf (Elt F) ((c : Thread nD τ).loc main_v42_1)) (h : ∀ t, dat.after 7 t = G) : dat.arrAt 7 cfg1.N = G :=
  dat.arrAt_eq_of_cover 7 G
    (fun t _ => funext fun j => (congrFun (h t) j).trans (congrArg G (whole_emb main_v42_1 _ _ (fun _ => Nat.zero_mul _) j).symm))
    (fun i => ⟨⟨0, by decide⟩, flush1_7 _, whole_mem main_v42_1 _ _ (fun _ => Nat.zero_mul _) i⟩)

/-- Region 1 leaves `main_v42_1` at its kernel's output of the entry contents. -/
theorem final1_7 (c : Dev nD) : (dat1 V c).arrAt 7 cfg1.N = out1_7 (V c main_v40) (V c main_v29_1) (V c main_arg0) (V c main_arg9) (V c main_v41) (V c main_cst) :=
  arrAt1_7_of _ _ fun t => by rw [after1_7, iblk1_0, iblk1_1, iblk1_2, iblk1_3, iblk1_4, iblk1_5]

/-! ## Region 2 -/

theorem iblk2_0 (c : Dev nD) (t : Fin cfg2.N) : iblk2 V c 0 t = V c main_v42_0 :=
  funext fun j => congrArg (V c main_v42_0) (whole_emb main_v42_0 _ _ (fun _ => Nat.zero_mul _) j)

theorem iblk2_1 (c : Dev nD) (t : Fin cfg2.N) : iblk2 V c 1 t = V c main_v68 :=
  funext fun j => congrArg (V c main_v68) (whole_emb main_v68 _ _ (fun _ => Nat.zero_mul _) j)

theorem iblk2_2 (c : Dev nD) (t : Fin cfg2.N) : iblk2 V c 2 t = V c main_arg13 :=
  funext fun j => congrArg (V c main_arg13) (whole_emb main_arg13 _ _ (fun _ => Nat.zero_mul _) j)

theorem iblk2_3 (c : Dev nD) (t : Fin cfg2.N) : iblk2 V c 3 t = V c main_v69 :=
  funext fun j => congrArg (V c main_v69) (whole_emb main_v69 _ _ (fun _ => Nat.zero_mul _) j)

theorem iblk2_4 (c : Dev nD) (t : Fin cfg2.N) : iblk2 V c 4 t = V c main_arg15 :=
  funext fun j => congrArg (V c main_arg15) (whole_emb main_arg15 _ _ (fun _ => Nat.zero_mul _) j)

theorem iblk2_5 (c : Dev nD) (t : Fin cfg2.N) : iblk2 V c 5 t = V c main_v70 :=
  funext fun j => congrArg (V c main_v70) (whole_emb main_v70 _ _ (fun _ => Nat.zero_mul _) j)

theorem iblk2_6 (c : Dev nD) (t : Fin cfg2.N) : iblk2 V c 6 t = V c main_v42_1 :=
  funext fun j => congrArg (V c main_v42_1) (whole_emb main_v42_1 _ _ (fun _ => Nat.zero_mul _) j)

theorem arrAt2_7_of {c : Dev nD} (dat : Dat τ (Elt F) Unit ℕ (UR sig nD τ) ℕ cfg2 c)
    (G : Buf (Elt F) ((c : Thread nD τ).loc main_v71_0)) (h : ∀ t, dat.after 7 t = G) : dat.arrAt 7 cfg2.N = G :=
  dat.arrAt_eq_of_cover 7 G
    (fun t _ => funext fun j => (congrFun (h t) j).trans (congrArg G (whole_emb main_v71_0 _ _ (fun _ => Nat.zero_mul _) j).symm))
    (fun i => ⟨⟨0, by decide⟩, flush2_7 _, whole_mem main_v71_0 _ _ (fun _ => Nat.zero_mul _) i⟩)

/-- Region 2 leaves `main_v71_0` at its kernel's output of the entry contents. -/
theorem final2_7 (c : Dev nD) : (dat2 V c).arrAt 7 cfg2.N = out2_7 (V c main_v42_0) (V c main_v68) (V c main_arg13) (V c main_v69) (V c main_arg15) (V c main_v70) (V c main_v42_1) :=
  arrAt2_7_of _ _ fun t => by rw [after2_7, iblk2_0, iblk2_1, iblk2_2, iblk2_3, iblk2_4, iblk2_5, iblk2_6]

theorem arrAt2_8_of {c : Dev nD} (dat : Dat τ (Elt F) Unit ℕ (UR sig nD τ) ℕ cfg2 c)
    (G : Buf (Elt F) ((c : Thread nD τ).loc main_v71_1)) (h : ∀ t, dat.after 8 t = G) : dat.arrAt 8 cfg2.N = G :=
  dat.arrAt_eq_of_cover 8 G
    (fun t _ => funext fun j => (congrFun (h t) j).trans (congrArg G (whole_emb main_v71_1 _ _ (fun _ => Nat.zero_mul _) j).symm))
    (fun i => ⟨⟨0, by decide⟩, flush2_8 _, whole_mem main_v71_1 _ _ (fun _ => Nat.zero_mul _) i⟩)

/-- Region 2 leaves `main_v71_1` at its kernel's output of the entry contents. -/
theorem final2_8 (c : Dev nD) : (dat2 V c).arrAt 8 cfg2.N = out2_8 (V c main_v42_0) (V c main_v68) (V c main_arg13) (V c main_v69) (V c main_arg15) (V c main_v70) (V c main_v42_1) :=
  arrAt2_8_of _ _ fun t => by rw [after2_8, iblk2_0, iblk2_1, iblk2_2, iblk2_3, iblk2_4, iblk2_5, iblk2_6]

/-! ## The run -/

variable (m : (ℓ : Loc nD τ sig) → Buf (Elt F) ℓ) (ρ : Dev nD → PrngReg)

set_option backward.isDefEq.respectTransparency.types false in
/-- Every execution of the program ends with the results at the last region's outputs of its entry contents, and the
    arguments as launched. -/
theorem run : θ_run defs (onTc (τ := τ) (main (F := F))) ⟨m, fun _ => 0, ρ⟩ (fun r => ∀ c : Dev nD,
      r.2.mem ((c.tc : Thread nD τ).loc main_v71_0) = out2_7 (V5 m ρ c main_v42_0) (V5 m ρ c main_v68) (V5 m ρ c main_arg13) (V5 m ρ c main_v69) (V5 m ρ c main_arg15) (V5 m ρ c main_v70) (V5 m ρ c main_v42_1)
      ∧ r.2.mem ((c.tc : Thread nD τ).loc main_v71_1) = out2_8 (V5 m ρ c main_v42_0) (V5 m ρ c main_v68) (V5 m ρ c main_arg13) (V5 m ρ c main_v69) (V5 m ρ c main_arg15) (V5 m ρ c main_v70) (V5 m ρ c main_v42_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v71_0 (by decide))).trans ((W6_arr m ρ c 7).trans (final2_7 (V5 m ρ) c)),
       (h c _ (mem_uc main_v71_1 (by decide))).trans ((W6_arr m ρ c 8).trans (final2_8 (V5 m ρ) c)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.Proof.KernelRun

end
-- ==== Proof.Qkv.lean ====
/- The first region at the extended reals: the three projections read at an index, and the attention logits, head by
   head, as one function of the projected queries and keys. -/
module

public import proofs.«01_k».proof.Proof.Gen.KernelIdeal.Frame
public import Idealize.ShloMosaic.Lib.Pipeline.Value
public import Idealize.ShloMosaic.Lib.MatmulPlain
public import Idealize.ShloMosaic.Lib.ValueIdx

@[expose] public section

set_option maxRecDepth 16384

noncomputable section

namespace Cert.Proof.Qkv

open Cert.KernelIdeal Cert.KernelIdeal.Gen
open Idealize.ShloMosaic Idealize.ShloMosaic.ValueIdx
open scoped BigOperators

/-- A rank-2 load or store at offset zero. -/
theorem hz2 : (![0, 0] : Fin 2 → Nat) = fun _ => 0 := by decide

/-- Row `n` of sequence `b` among the 2·197 stacked rows. -/
abbrev row (b : Fin 2) (n : Fin 197) : Fin 394 := ⟨b.val * 197 + n.val, by omega⟩

/-- Column `d` of head `h` among the 12·64 stacked columns. -/
abbrev col (h : Fin 12) (d : Fin 64) : Fin 768 := ⟨h.val * 64 + d.val, by omega⟩

/-- A projection read at an index: the row times the column of weights, plus the bias. -/
theorem proj_apply (y : Vec Ideal S394x768 .f32) (w : Vec Ideal S768x768 .f32) (b : Vec Ideal S1x768 .f32) (r : Fin 394)
    (c : Fin 768) : k0_pay7 (F := Ideal) y w b (ix2 r c) = (∑ k : Fin 768, y (ix2 r k) * w (ix2 k c)) + b (ix2 0 c) := by
  unfold k0_pay7 k0_pay4
  dsimp only
  rw [addf_apply, shapeCast_self, shapeCast_self]
  refine congrArg₂ (· + ·) ?_ ?_
  · refine (Ideal.matmul_plain_apply none y w _ r c).trans ?_
    rw [constant_apply, Ideal.ofBits_zero_f32, zero_add]
  · refine broadcastTo_apply b _ _ (ix2 0 c) fun a => ?_
    match a with
    | ⟨0, _⟩ => rfl
    | ⟨1, _⟩ => rfl

/-- The queries are the same projection. -/
theorem pay5_eq : @k0_pay5 Ideal _ = @k0_pay7 Ideal _ := rfl
/-- The keys are the same projection. -/
theorem pay6_eq : @k0_pay6 Ideal _ = @k0_pay7 Ideal _ := rfl

/-- The logits of all heads from the projected queries and keys: head `h` of sequence `b` at `(i, j)` is the product of
    query `i` and key `j` over the head's 64 columns, times the scale. -/
def logits (Q K : Vec Ideal S394x768 .f32) : Vec Ideal S2x12x197x197 .f32 := fun y =>
  (∑ d : Fin 64, Q (ix2 (row (y 0) (y 2)) (col (y 1) d)) * K (ix2 (row (y 0) (y 3)) (col (y 1) d))) * Ideal.ofBits .f32 0x3E000000#32

/-- One head's payload: the products of the rows of two blocks over 64 columns from `o`, scaled. -/
def headPay (o : ℕ) (h : S197x768.Slices ![0, o] S197x64) (q k : FVec Ideal S197x768 .f32) : FVec Ideal S1x1x197x197 .f32 :=
  shapeCast S1x1x197x197 (mulf (matmul dot_S197x64_S197x64_S197x197_1_1_0_0_n_n none
    (extractStridedSlice S197x64 ![0, o] q h) (extractStridedSlice S197x64 ![0, o] k h) (constant S197x197 .f32 0x00000000#32))
    (broadcast S197x197 (Scalar.ofBits .f32 0x3E000000#32))) shapeCasts_S197x197_S1x1x197x197

/-- One head's payload at an index. -/
theorem headPay_apply (o : ℕ) (h) (q k : FVec Ideal S197x768 .f32) (hh : Fin 12) (ho : o = hh.val * 64) (i j : Fin 197) :
    headPay o h q k (ix4 0 0 i j) = (∑ d : Fin 64, q (ix2 i (col hh d)) * k (ix2 j (col hh d))) * Ideal.ofBits .f32 0x3E000000#32 := by
  unfold headPay
  rw [shapeCast_apply _ _ _ (ix2 i j) (by
    rw [Shape.rowMajor_val_two, Shape.rowMajor_val_four]
    show i.val * 197 + j.val = ((0 * 1 + 0) * 197 + i.val) * 197 + j.val
    omega), mulf_apply]
  refine congrArg₂ (· * ·) ?_ rfl
  refine (Ideal.matmul_transposedRhs_apply none _ _ _ i j).trans ?_
  rw [constant_apply, Ideal.ofBits_zero_f32, zero_add]
  refine Finset.sum_congr rfl fun d _ => congrArg₂ (· * ·) ?_ ?_
  · refine extractStridedSlice_apply _ q h _ (ix2 i (col hh d)) fun a => ?_
    match a with
    | ⟨0, _⟩ => exact (Nat.zero_add _).symm
    | ⟨1, _⟩ => exact congrArg (· + d.val) ho.symm
  · refine extractStridedSlice_apply _ k h _ (ix2 j (col hh d)) fun a => ?_
    match a with
    | ⟨0, _⟩ => exact (Nat.zero_add _).symm
    | ⟨1, _⟩ => exact congrArg (· + d.val) ho.symm

/-- The first sequence's rows of the queries. -/
theorem pay8_eq (y : Vec Ideal S394x768 .f32) (w : Vec Ideal S768x768 .f32) (b : Vec Ideal S1x768 .f32) :
    k0_pay8 y w b = extractStridedSlice S197x768 ![0, 0] (k0_pay5 y w b) slices_S394x768_o0_0_S197x768 := rfl
/-- The first sequence's rows of the keys. -/
theorem pay9_eq (y : Vec Ideal S394x768 .f32) (w : Vec Ideal S768x768 .f32) (b : Vec Ideal S1x768 .f32) :
    k0_pay9 y w b = extractStridedSlice S197x768 ![0, 0] (k0_pay6 y w b) slices_S394x768_o0_0_S197x768 := rfl
/-- The first head's payload from the region's inputs. -/
theorem pay10_eq (y : Vec Ideal S394x768 .f32) (w : Vec Ideal S768x768 .f32) (b : Vec Ideal S1x768 .f32) (w' : Vec Ideal S768x768 .f32)
    (b' : Vec Ideal S1x768 .f32) : k0_pay10 y w b w' b' = headPay 0 slices_S197x768_o0_0_S197x64 (k0_pay8 y w b) (k0_pay9 y w' b') := rfl
/-- The second head's columns of the queries. -/
theorem pay11_eq (y : Vec Ideal S394x768 .f32) (w : Vec Ideal S768x768 .f32) (b : Vec Ideal S1x768 .f32) :
    k0_pay11 y w b = extractStridedSlice S197x64 ![0, 64] (k0_pay8 y w b) slices_S197x768_o0_64_S197x64 := rfl
/-- The second head's columns of the keys. -/
theorem pay12_eq (y : Vec Ideal S394x768 .f32) (w : Vec Ideal S768x768 .f32) (b : Vec Ideal S1x768 .f32) :
    k0_pay12 y w b = extractStridedSlice S197x64 ![0, 64] (k0_pay9 y w b) slices_S197x768_o0_64_S197x64 := rfl

/-- So what a head's store writes is the logits where the store lies. -/
theorem piece (Q K : Vec Ideal S394x768 .f32) (b : Fin 2) (hh : Fin 12) (rb : ℕ) (o : ℕ) (hr : S394x768.Slices ![rb, 0] S197x768)
    (h) (inb) (hb : rb = b.val * 197) (ho : o = hh.val * 64) (j : S1x1x197x197.Idx) :
    headPay o h (extractStridedSlice S197x768 ![rb, 0] Q hr) (extractStridedSlice S197x768 ![rb, 0] K hr) j =
      logits Q K ((Rect.unit (s := S2x12x197x197) ![b.val, hh.val, 0, 0] S1x1x197x197.size inb).emb j) := by
  obtain ⟨a0, a1, i, k, rfl⟩ : ∃ a b c d, j = ix4 a b c d := ⟨_, _, _, _, eq_ix4 j⟩
  obtain rfl : a0 = 0 := Subsingleton.elim _ _
  obtain rfl : a1 = 0 := Subsingleton.elim _ _
  rw [headPay_apply o h _ _ hh ho]
  have hidx : (Rect.unit (s := S2x12x197x197) ![b.val, hh.val, 0, 0] S1x1x197x197.size inb).emb (ix4 0 0 i k) = ix4 b hh i k := by
    funext a; apply Fin.ext
    match a with
    | ⟨0, _⟩ => exact Nat.add_zero _
    | ⟨1, _⟩ => exact Nat.add_zero _
    | ⟨2, _⟩ => exact (Nat.zero_add _).trans (Nat.one_mul _)
    | ⟨3, _⟩ => exact (Nat.zero_add _).trans (Nat.one_mul _)
  rw [hidx]
  have hs : ∀ (X : Vec Ideal S394x768 .f32) (n : Fin 197) (c : Fin 768),
      extractStridedSlice S197x768 ![rb, 0] X hr (ix2 n c) = X (ix2 (row b n) c) := fun X n c => by
    refine extractStridedSlice_apply _ X hr _ (ix2 (row b n) c) fun a => ?_
    match a with
    | ⟨0, _⟩ => exact congrArg (· + n.val) hb.symm
    | ⟨1, _⟩ => exact (Nat.zero_add _).symm
  simp only [hs]
  rfl

/-- The values the region leaves: the third projection. -/
theorem out0_8_eq (x0 : Vec Ideal S394x768 .f32) (x1 : Vec Ideal S768x768 .f32) (x2 : Vec Ideal S1x768 .f32) (x3 : Vec Ideal S768x768 .f32)
    (x4 : Vec Ideal S1x768 .f32) (x5 : Vec Ideal S768x768 .f32) (x6 : Vec Ideal S1x768 .f32) :
    out0_8 (F := Ideal) x0 x1 x2 x3 x4 x5 x6 = k0_pay7 x0 x5 x6 := by
  unfold out0_8
  rw [View.canon_unit_zero hz2, View.ld_unit_zero (S := S394x768) hz2, View.ld_unit_zero (S := S768x768) hz2, View.ld_unit_zero (S := S1x768) hz2]

/-- The logits the region leaves. -/
theorem out0_7_eq (x0 : Vec Ideal S394x768 .f32) (x1 : Vec Ideal S768x768 .f32) (x2 : Vec Ideal S1x768 .f32) (x3 : Vec Ideal S768x768 .f32)
    (x4 : Vec Ideal S1x768 .f32) (x5 : Vec Ideal S768x768 .f32) (x6 : Vec Ideal S1x768 .f32) :
    out0_7 (F := Ideal) x0 x1 x2 x3 x4 x5 x6 = logits (k0_pay7 x0 x1 x2) (k0_pay7 x0 x3 x4) := by
  funext y
  have P := piece (k0_pay7 x0 x1 x2) (k0_pay7 x0 x3 x4)
  unfold_out out0_7
  rw [View.ld_unit_zero (S := S394x768) hz2, View.ld_unit_zero (S := S768x768) hz2, View.ld_unit_zero (S := S768x768) hz2,
    View.ld_unit_zero (S := S1x768) hz2, View.ld_unit_zero (S := S1x768) hz2, pay10_eq, pay11_eq, pay12_eq, pay8_eq, pay9_eq, pay5_eq,
    pay6_eq]
  refine View.canon_apply_of_pieces _ _ ?_ y (cover0_7 _ _ _ _ _ _ _ _ _ _ _ _ _ _ _ _ _ _ _ _ _ _ _ _ y)
  generalize k0_pay7 (F := Ideal) x0 x1 x2 = Q at P ⊢
  generalize k0_pay7 (F := Ideal) x0 x3 x4 = K at P ⊢
  refine List.forall_mem_cons.2 ⟨P 1 11 197 704 slices_S394x768_o197_0_S197x768 slices_S197x768_o0_704_S197x64 inb_S2x12x197x197_S1x1x197x197_1_11_0_0 rfl rfl, ?_⟩
  refine List.forall_mem_cons.2 ⟨P 1 10 197 640 slices_S394x768_o197_0_S197x768 slices_S197x768_o0_640_S197x64 inb_S2x12x197x197_S1x1x197x197_1_10_0_0 rfl rfl, ?_⟩
  refine List.forall_mem_cons.2 ⟨P 1 9 197 576 slices_S394x768_o197_0_S197x768 slices_S197x768_o0_576_S197x64 inb_S2x12x197x197_S1x1x197x197_1_9_0_0 rfl rfl, ?_⟩
  refine List.forall_mem_cons.2 ⟨P 1 8 197 512 slices_S394x768_o197_0_S197x768 slices_S197x768_o0_512_S197x64 inb_S2x12x197x197_S1x1x197x197_1_8_0_0 rfl rfl, ?_⟩
  refine List.forall_mem_cons.2 ⟨P 1 7 197 448 slices_S394x768_o197_0_S197x768 slices_S197x768_o0_448_S197x64 inb_S2x12x197x197_S1x1x197x197_1_7_0_0 rfl rfl, ?_⟩
  refine List.forall_mem_cons.2 ⟨P 1 6 197 384 slices_S394x768_o197_0_S197x768 slices_S197x768_o0_384_S197x64 inb_S2x12x197x197_S1x1x197x197_1_6_0_0 rfl rfl, ?_⟩
  refine List.forall_mem_cons.2 ⟨P 1 5 197 320 slices_S394x768_o197_0_S197x768 slices_S197x768_o0_320_S197x64 inb_S2x12x197x197_S1x1x197x197_1_5_0_0 rfl rfl, ?_⟩
  refine List.forall_mem_cons.2 ⟨P 1 4 197 256 slices_S394x768_o197_0_S197x768 slices_S197x768_o0_256_S197x64 inb_S2x12x197x197_S1x1x197x197_1_4_0_0 rfl rfl, ?_⟩
  refine List.forall_mem_cons.2 ⟨P 1 3 197 192 slices_S394x768_o197_0_S197x768 slices_S197x768_o0_192_S197x64 inb_S2x12x197x197_S1x1x197x197_1_3_0_0 rfl rfl, ?_⟩
  refine List.forall_mem_cons.2 ⟨P 1 2 197 128 slices_S394x768_o197_0_S197x768 slices_S197x768_o0_128_S197x64 inb_S2x12x197x197_S1x1x197x197_1_2_0_0 rfl rfl, ?_⟩
  refine List.forall_mem_cons.2 ⟨P 1 1 197 64 slices_S394x768_o197_0_S197x768 slices_S197x768_o0_64_S197x64 inb_S2x12x197x197_S1x1x197x197_1_1_0_0 rfl rfl, ?_⟩
  refine List.forall_mem_cons.2 ⟨P 1 0 197 0 slices_S394x768_o197_0_S197x768 slices_S197x768_o0_0_S197x64 inb_S2x12x197x197_S1x1x197x197_1_0_0_0 rfl rfl, ?_⟩
  refine List.forall_mem_cons.2 ⟨P 0 11 0 704 slices_S394x768_o0_0_S197x768 slices_S197x768_o0_704_S197x64 inb_S2x12x197x197_S1x1x197x197_0_11_0_0 rfl rfl, ?_⟩
  refine List.forall_mem_cons.2 ⟨P 0 10 0 640 slices_S394x768_o0_0_S197x768 slices_S197x768_o0_640_S197x64 inb_S2x12x197x197_S1x1x197x197_0_10_0_0 rfl rfl, ?_⟩
  refine List.forall_mem_cons.2 ⟨P 0 9 0 576 slices_S394x768_o0_0_S197x768 slices_S197x768_o0_576_S197x64 inb_S2x12x197x197_S1x1x197x197_0_9_0_0 rfl rfl, ?_⟩
  refine List.forall_mem_cons.2 ⟨P 0 8 0 512 slices_S394x768_o0_0_S197x768 slices_S197x768_o0_512_S197x64 inb_S2x12x197x197_S1x1x197x197_0_8_0_0 rfl rfl, ?_⟩
  refine List.forall_mem_cons.2 ⟨P 0 7 0 448 slices_S394x768_o0_0_S197x768 slices_S197x768_o0_448_S197x64 inb_S2x12x197x197_S1x1x197x197_0_7_0_0 rfl rfl, ?_⟩
  refine List.forall_mem_cons.2 ⟨P 0 6 0 384 slices_S394x768_o0_0_S197x768 slices_S197x768_o0_384_S197x64 inb_S2x12x197x197_S1x1x197x197_0_6_0_0 rfl rfl, ?_⟩
  refine List.forall_mem_cons.2 ⟨P 0 5 0 320 slices_S394x768_o0_0_S197x768 slices_S197x768_o0_320_S197x64 inb_S2x12x197x197_S1x1x197x197_0_5_0_0 rfl rfl, ?_⟩
  refine List.forall_mem_cons.2 ⟨P 0 4 0 256 slices_S394x768_o0_0_S197x768 slices_S197x768_o0_256_S197x64 inb_S2x12x197x197_S1x1x197x197_0_4_0_0 rfl rfl, ?_⟩
  refine List.forall_mem_cons.2 ⟨P 0 3 0 192 slices_S394x768_o0_0_S197x768 slices_S197x768_o0_192_S197x64 inb_S2x12x197x197_S1x1x197x197_0_3_0_0 rfl rfl, ?_⟩
  refine List.forall_mem_cons.2 ⟨P 0 2 0 128 slices_S394x768_o0_0_S197x768 slices_S197x768_o0_128_S197x64 inb_S2x12x197x197_S1x1x197x197_0_2_0_0 rfl rfl, ?_⟩
  refine List.forall_mem_cons.2 ⟨P 0 1 0 64 slices_S394x768_o0_0_S197x768 slices_S197x768_o0_64_S197x64 inb_S2x12x197x197_S1x1x197x197_0_1_0_0 rfl rfl, ?_⟩
  refine List.forall_mem_cons.2 ⟨P 0 0 0 0 slices_S394x768_o0_0_S197x768 slices_S197x768_o0_0_S197x64 inb_S2x12x197x197_S1x1x197x197_0_0_0_0 rfl rfl, ?_⟩
  exact fun _ h => absurd h List.not_mem_nil

end Cert.Proof.Qkv
-- ==== Proof.Av.lean ====
/- The second region's first half at the extended reals: the attention-weighted values of all heads, their projection and
   the residual, and the 24 rows of scores the votes are cast on, each read at an index. -/
module

public import proofs.«01_k».proof.Proof.Qkv

@[expose] public section

set_option maxRecDepth 16384

noncomputable section

namespace Cert.Proof.Av

open Cert.KernelIdeal Cert.KernelIdeal.Gen Cert.Proof.Qkv
open Idealize.ShloMosaic Idealize.ShloMosaic.ValueIdx
open scoped BigOperators

/-- The block of one head of one sequence lies in the array of attention weights. -/
theorem inbBlk (b : Fin 2) (h : Fin 12) : ∀ a, (![b.val, h.val, 0, 0] : Fin 4 → Nat) a + S1x1x197x197.size a ≤ S2x12x197x197.size a := by
  revert b h; decide

/-- One head's columns lie in the array of values. -/
theorem slicesHead (h : Fin 12) : S197x768.Slices ![0, 64 * h.val] S197x64 := by
  revert h; decide

/-- One sequence's rows lie in the stacked array. -/
theorem inbRows (b : Fin 2) : ∀ a, (![197 * b.val, 0] : Fin 2 → Nat) a + S197x768.size a ≤ S394x768.size a := by
  revert b; decide

/-- One head's attention weights. -/
def attBlk (x0 : Vec Ideal S2x12x197x197 .f32) (b : Fin 2) (h : Fin 12) : FVec Ideal S197x197 .f32 :=
  shapeCast S197x197 (View.ld x0 (Rect.unit (s := S2x12x197x197) ![b.val, h.val, 0, 0] S1x1x197x197.size (inbBlk b h)))
    shapeCasts_S1x1x197x197_S197x197

/-- One head's attention weights at an index. -/
theorem attBlk_apply (x0 : Vec Ideal S2x12x197x197 .f32) (b : Fin 2) (h : Fin 12) (i j : Fin 197) :
    attBlk x0 b h (ix2 i j) = x0 (ix4 b h i j) := by
  unfold attBlk
  rw [shapeCast_apply _ _ _ (ix4 0 0 i j) (by
    rw [Shape.rowMajor_val_two, Shape.rowMajor_val_four]
    show ((0 * 1 + 0) * 197 + i.val) * 197 + j.val = i.val * 197 + j.val
    omega), View.ld_unit]
  refine extractStridedSlice_apply _ x0 _ _ (ix4 b h i j) fun a => ?_
  match a with
  | ⟨0, _⟩ => rfl
  | ⟨1, _⟩ => rfl
  | ⟨2, _⟩ => exact (Nat.zero_add _).symm
  | ⟨3, _⟩ => exact (Nat.zero_add _).symm

/-- One sequence's rows of the values. -/
def vRows (x1 : Vec Ideal S394x768 .f32) (b : Fin 2) : FVec Ideal S197x768 .f32 :=
  shapeCast S197x768 (View.ld x1 (Rect.unit (s := S394x768) ![197 * b.val, 0] S197x768.size (inbRows b))) shapeCasts_S197x768_S197x768

/-- One sequence's rows of the values at an index. -/
theorem vRows_apply (x1 : Vec Ideal S394x768 .f32) (b : Fin 2) (n : Fin 197) (c : Fin 768) :
    vRows x1 b (ix2 n c) = x1 (ix2 (row b n) c) := by
  unfold vRows
  refine (shapeCast_apply _ _ _ (ix2 n c) rfl).trans ?_
  rw [View.ld_unit]
  refine extractStridedSlice_apply _ x1 _ _ (ix2 (row b n) c) fun a => ?_
  match a with
  | ⟨0, _⟩ => exact congrArg (· + n.val) (Nat.mul_comm _ _)
  | ⟨1, _⟩ => exact (Nat.zero_add _).symm

/-- One head's attention-weighted values. -/
def headCtx (a : FVec Ideal S197x197 .f32) (v : FVec Ideal S197x768 .f32) (h : Fin 12) : FVec Ideal S197x64 .f32 :=
  matmul dot_S197x197_S197x64_S197x64_1_0_0_1_n_n none a (extractStridedSlice S197x64 ![0, 64 * h.val] v (slicesHead h))
    (constant S197x64 .f32 0x00000000#32)

/-- One head's attention-weighted values at an index. -/
theorem headCtx_apply (a : FVec Ideal S197x197 .f32) (v : FVec Ideal S197x768 .f32) (h : Fin 12) (i : Fin 197) (d : Fin 64) :
    headCtx a v h (ix2 i d) = ∑ j : Fin 197, a (ix2 i j) * v (ix2 j (col h d)) := by
  unfold headCtx
  refine (Ideal.matmul_plain_apply none _ _ _ i d).trans ?_
  rw [constant_apply, Ideal.ofBits_zero_f32, zero_add]
  refine Finset.sum_congr rfl fun j _ => congrArg (a (ix2 i j) * ·) ?_
  refine extractStridedSlice_apply _ v _ _ (ix2 j (col h d)) fun a => ?_
  match a with
  | ⟨0, _⟩ => exact (Nat.zero_add _).symm
  | ⟨1, _⟩ => exact congrArg (· + d.val) (Nat.mul_comm _ _)

/-- The twelve heads' attention-weighted values side by side. -/
def ctx (a : Fin 12 → FVec Ideal S197x197 .f32) (v : FVec Ideal S197x768 .f32) : FVec Ideal S197x768 .f32 :=
  concatenate S197x768 1 (List.ofFn fun h : Fin 12 => (⟨S197x64, headCtx (a h) v h⟩ : (s : Shape) × (s.Idx → Ideal .f32)))
    concatenates_S197x64_S197x64_S197x64_S197x64_S197x64_S197x64_S197x64_S197x64_S197x64_S197x64_S197x64_S197x64_S197x768_d1

/-- The head a column belongs to. -/
abbrev headOf (k : Fin 768) : Fin 12 := ⟨k.val / 64, by omega⟩

/-- The twelve heads' attention-weighted values at an index. -/
theorem ctx_apply (a : Fin 12 → FVec Ideal S197x197 .f32) (v : FVec Ideal S197x768 .f32) (i : Fin 197) (k : Fin 768) :
    ctx a v (ix2 i k) = ∑ j : Fin 197, a (headOf k) (ix2 i j) * v (ix2 j k) := by
  unfold ctx
  have hk := k.isLt
  refine (concatenate_ofFn_apply (α := Ideal .f32) (s₁ := S197x64) (t := S197x768) 1 (fun h : Fin 12 => headCtx (a h) v h) _ rfl 64 rfl
    (ix2 i k) (headOf k) rfl (ix2 i ⟨k.val % 64, Nat.mod_lt _ (by decide)⟩) rfl fun b hb => ?_).trans ?_
  · match b with
    | ⟨0, _⟩ => rfl
    | ⟨1, _⟩ => exact absurd rfl hb
  · rw [headCtx_apply]
    have : col (headOf k) ⟨k.val % 64, Nat.mod_lt _ (by decide)⟩ = k := Fin.ext (Nat.div_add_mod' k.val 64)
    rw [this]

/-- Both sequences' attention-weighted values, one above the other. -/
def ctx2 (x0 : Vec Ideal S2x12x197x197 .f32) (x1 : Vec Ideal S394x768 .f32) : FVec Ideal S394x768 .f32 :=
  concatenate S394x768 0 [⟨S197x768, ctx (attBlk x0 0) (vRows x1 0)⟩, ⟨S197x768, ctx (attBlk x0 1) (vRows x1 1)⟩]
    concatenates_S197x768_S197x768_S394x768_d0

/-- Both sequences' attention-weighted values at an index. -/
theorem ctx2_apply (x0 : Vec Ideal S2x12x197x197 .f32) (x1 : Vec Ideal S394x768 .f32) (b : Fin 2) (n : Fin 197) (k : Fin 768) :
    ctx2 x0 x1 (ix2 (row b n) k) = ∑ j : Fin 197, x0 (ix4 b (headOf k) n j) * x1 (ix2 (row b j) k) := by
  have hb : ctx2 x0 x1 (ix2 (row b n) k) = ctx (attBlk x0 b) (vRows x1 b) (ix2 n k) := by
    unfold ctx2
    match b with
    | ⟨0, _⟩ =>
      refine concatenate_pair_apply_left (t := S394x768) (s₁ := S197x768) (s₂ := S197x768) 0 _ _ _ (ix2 _ k) rfl (ix2 n k) fun a => ?_
      match a with
      | ⟨0, _⟩ => show n.val = 0 * 197 + n.val; omega
      | ⟨1, _⟩ => rfl
    | ⟨1, _⟩ =>
      refine concatenate_pair_apply_right (t := S394x768) (s₁ := S197x768) (s₂ := S197x768) 0 _ _ _ (ix2 _ k) rfl rfl (ix2 n k) (fun a ha => ?_) ?_
      · match a with
        | ⟨0, _⟩ => exact absurd rfl ha
        | ⟨1, _⟩ => rfl
      · show n.val + 197 = 1 * 197 + n.val; omega
  rw [hb, ctx_apply]
  simp only [attBlk_apply, vRows_apply]

/-- The hidden state after attention, as the region computes it. -/
def h1Pay (x0 : Vec Ideal S2x12x197x197 .f32) (x1 x2 : Vec Ideal S394x768 .f32) (x3 : Vec Ideal S768x768 .f32) (x4 : Vec Ideal S1x768 .f32) :
    FVec Ideal S394x768 .f32 :=
  addf x2 (addf (matmul (φ₁ := .f32) (φ₂ := .f32) dot_S394x768_S768x768_S394x768_1_0_0_1_n_n none (ctx2 x0 x1) (x3 : FVec Ideal S768x768 .f32) (constant S394x768 .f32 0x00000000#32))
    (broadcastTo S394x768 (shapeCast S1x768 x4 shapeCasts_S1x768_S1x768) broadcasts_S1x768_S394x768))

/-- The region leaves it. -/
theorem out1_6_eq (x0 : Vec Ideal S2x12x197x197 .f32) (x1 x2 : Vec Ideal S394x768 .f32) (x3 : Vec Ideal S768x768 .f32)
    (x4 : Vec Ideal S1x768 .f32) (x5 : Vec Ideal S196x196 .f32) : out1_6 (F := Ideal) x0 x1 x2 x3 x4 x5 = h1Pay x0 x1 x2 x3 x4 := by
  unfold_out out1_6
  rw [View.canon_unit_zero hz2, View.ld_unit_zero (S := S394x768) hz2, View.ld_unit_zero (S := S768x768) hz2, View.ld_unit_zero (S := S1x768) hz2]
  rfl

/-- The hidden state after attention at an index. -/
theorem h1Pay_apply (x0 : Vec Ideal S2x12x197x197 .f32) (x1 x2 : Vec Ideal S394x768 .f32) (x3 : Vec Ideal S768x768 .f32)
    (x4 : Vec Ideal S1x768 .f32) (b : Fin 2) (n : Fin 197) (c : Fin 768) :
    h1Pay x0 x1 x2 x3 x4 (ix2 (row b n) c) = x2 (ix2 (row b n) c) +
      ((∑ k : Fin 768, (∑ j : Fin 197, x0 (ix4 b (headOf k) n j) * x1 (ix2 (row b j) k)) * x3 (ix2 k c)) + x4 (ix2 0 c)) := by
  unfold h1Pay
  rw [addf_apply, addf_apply, shapeCast_self]
  refine congrArg (x2 (ix2 (row b n) c) + ·) (congrArg₂ (· + ·) ?_ ?_)
  · refine (Ideal.matmul_plain_apply none _ x3 _ (row b n) c).trans ?_
    rw [constant_apply, Ideal.ofBits_zero_f32, zero_add]
    refine Finset.sum_congr rfl fun k _ => ?_
    rw [ctx2_apply]
  · refine broadcastTo_apply x4 _ _ (ix2 0 c) fun a => ?_
    match a with
    | ⟨0, _⟩ => rfl
    | ⟨1, _⟩ => rfl

/-- The scores, one row for each head of each sequence, as the region stacks them. -/
def scores (x0 : Vec Ideal S2x12x197x197 .f32) : FVec Ideal S24x196 .f32 :=
  concatenate S24x196 0 (List.ofFn fun r : Fin 24 => (⟨S1x196, extractStridedSlice S1x196 ![0, 1]
      (attBlk x0 ⟨r.val / 12, by omega⟩ ⟨r.val % 12, by omega⟩) slices_S197x197_o0_1_S1x196⟩ : (s : Shape) × (s.Idx → Ideal .f32)))
    concatenates_S1x196_S1x196_S1x196_S1x196_S1x196_S1x196_S1x196_S1x196_S1x196_S1x196_S1x196_S1x196_S1x196_S1x196_S1x196_S1x196_S1x196_S1x196_S1x196_S1x196_S1x196_S1x196_S1x196_S1x196_S24x196_d0

/-- A score at an index: the weight the class token's row gives the patch. -/
theorem scores_apply (x0 : Vec Ideal S2x12x197x197 .f32) (r : Fin 24) (l : Fin 196) :
    scores x0 (ix2 r l) = x0 (ix4 ⟨r.val / 12, by omega⟩ ⟨r.val % 12, by omega⟩ 0 ⟨l.val + 1, by omega⟩) := by
  unfold scores
  refine (concatenate_ofFn_unit_apply (α := Ideal .f32) (s₁ := S1x196) (t := S24x196) 0 (fun r : Fin 24 => extractStridedSlice S1x196 ![0, 1]
    (attBlk x0 ⟨r.val / 12, by omega⟩ ⟨r.val % 12, by omega⟩) slices_S197x197_o0_1_S1x196) _ rfl rfl (ix2 r l) r rfl (ix2 0 l) fun b hb => ?_).trans ?_
  · match b with
    | ⟨0, _⟩ => exact absurd rfl hb
    | ⟨1, _⟩ => rfl
  · refine (extractStridedSlice_apply _ _ _ _ (ix2 0 ⟨l.val + 1, by omega⟩) fun a => ?_).trans (attBlk_apply x0 _ _ _ _)
    match a with
    | ⟨0, _⟩ => rfl
    | ⟨1, _⟩ => exact Nat.add_comm _ _

end Cert.Proof.Av
-- ==== Proof.Select.lean ====
/- The selection: the lanes a row's rounds of "take the first greatest lane, then mask it" pick are, in order, the
   first lanes of the stable sort of the row in decreasing order. -/
module

public import Idealize.ShloMosaic.Lib.SortPrefix
public import Idealize.ShloMosaic.PureOps.Ideal

@[expose] public section

noncomputable section

namespace Cert.Proof.Select

open Idealize.ShloMosaic

/-! ## A stable sort by a key breaks ties by position -/

/-- Two comparators that agree on a later element against an earlier one sort a list alike. -/
theorem stableSort_eq_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort by a key is the sort by the key and then the position. -/
theorem sortedFrom_key {n : Nat} {κ : Type} [DecidableEq κ] (lt : κ → κ → Bool) (key : Fin n → κ) (k : Fin n) :
    sortedFrom (fun i j => lt (key i) (key j)) k
      = sortedFrom (fun i j : Fin n => lt (key i) (key j) || (decide (key i = key j) && decide (i < j))) k := by
  have e : sortPositions n (fun i j => lt (key i) (key j))
      = sortPositions n (fun i j : Fin n => lt (key i) (key j) || (decide (key i = key j) && decide (i < j))) := by
    refine stableSort_eq_of_pairwise _ _ _ ?_
    refine (List.pairwise_lt_finRange n).imp fun {a b} hab => ?_
    have : ¬ b < a := not_lt.mpr hab.le
    simp [this]
  unfold sortedFrom
  simp only [List.get_eq_getElem, e]
  rfl

/-! ## The rounds -/

variable {n : Nat}

/-- Lane `p` is the first greatest of the row `w`. -/
def IsPick (w : Fin n → EReal) (p : Fin n) : Prop := ∀ q, w q ≤ w p ∧ (q < p → w q < w p)

/-- A row has at most one first greatest lane. -/
theorem IsPick.unique {w : Fin n → EReal} {p q : Fin n} (hp : IsPick w p) (hq : IsPick w q) : p = q := by
  rcases lt_trichotomy p q with h | h | h
  · exact absurd ((hq p).2 h) (not_lt.mpr (hp q).1)
  · exact h
  · exact absurd ((hp q).2 h) (not_lt.mpr (hq p).1)

/-- A row with a lane has a first greatest one. -/
theorem exists_isPick (hn : 0 < n) (w : Fin n → EReal) : ∃ p, IsPick w p := by
  haveI : Nonempty (Fin n) := ⟨⟨0, hn⟩⟩
  obtain ⟨m, -, hm⟩ := Finset.exists_max_image (Finset.univ : Finset (Fin n)) w Finset.univ_nonempty
  classical
  have hne : (Finset.univ.filter fun q => w q = w m).Nonempty := ⟨m, by simp⟩
  refine ⟨(Finset.univ.filter fun q => w q = w m).min' hne, fun q => ?_⟩
  have h1 := (Finset.mem_filter.mp (Finset.min'_mem _ hne)).2
  rw [h1]
  refine ⟨hm q (Finset.mem_univ _), fun hq => lt_of_le_of_ne (hm q (Finset.mem_univ _)) fun e => ?_⟩
  exact absurd (Finset.min'_le _ q (by simp [e])) (not_le.mpr hq)

/-- The rounds: each picks the first greatest lane of the row as it then stands and sets it to `c`. -/
structure Rounds (c : EReal) (s : Fin n → EReal) (w : ℕ → Fin n → EReal) (σ : ℕ → Fin n) : Prop where
  zero : w 0 = s
  succ : ∀ t l, w (t + 1) l = if l = σ t then c else w t l
  pick : ∀ t, IsPick (w t) (σ t)
  above : ∀ l, c < s l

namespace Rounds

variable {c : EReal} {s : Fin n → EReal} {w : ℕ → Fin n → EReal} {σ : ℕ → Fin n} (h : Rounds c s w σ)
include h

/-- A lane picked in an earlier round stands at the mask value. -/
theorem masked {t : ℕ} {l : Fin n} (hl : ∃ i < t, σ i = l) : w t l = c := by
  induction t with
  | zero => obtain ⟨i, hi, -⟩ := hl; omega
  | succ t ih =>
    rw [h.succ]
    split
    · rfl
    · rename_i hne
      obtain ⟨i, hi, e⟩ := hl
      exact ih ⟨i, by rcases Nat.lt_succ_iff_lt_or_eq.mp hi with h | h; exacts [h, absurd (h ▸ e.symm) hne], e⟩

/-- A lane not picked yet stands at its score. -/
theorem unmasked {t : ℕ} {l : Fin n} (hl : ∀ i < t, σ i ≠ l) : w t l = s l := by
  induction t with
  | zero => rw [h.zero]
  | succ t ih =>
    rw [h.succ, if_neg (fun e => hl t (Nat.lt_succ_self t) e.symm)]
    exact ih fun i hi => hl i (Nat.lt_succ_of_lt hi)

/-- While lanes are left, a round picks a new one. -/
theorem fresh {t : ℕ} (ht : t < n) : ∀ i < t, σ i ≠ σ t := by
  intro i hi e
  have hc : (Finset.image σ (Finset.range t)).card < (Finset.univ : Finset (Fin n)).card := by
    refine lt_of_le_of_lt Finset.card_image_le ?_
    simpa using ht
  obtain ⟨l, -, hl⟩ := Finset.exists_mem_notMem_of_card_lt_card hc
  have hl' : ∀ i < t, σ i ≠ l := fun i hi e => hl (Finset.mem_image.mpr ⟨i, Finset.mem_range.mpr hi, e⟩)
  have h1 := (h.pick t l).1
  rw [h.unmasked hl', h.masked ⟨i, hi, e⟩] at h1
  exact absurd h1 (not_le.mpr (h.above l))

/-- The picks of the rounds are distinct. -/
theorem inj {i j : ℕ} (hi : i < n) (hj : j < n) (e : σ i = σ j) : i = j := by
  rcases lt_trichotomy i j with hij | hij | hij
  · exact absurd e (h.fresh hj i hij)
  · exact hij
  · exact absurd e.symm (h.fresh hi j hij)

/-- A lane no earlier round picked has a score at most the pick's, and less where it lies before the pick. -/
theorem dom {t : ℕ} (ht : t < n) {l : Fin n} (hl : ∀ i < t, σ i ≠ l) : s l ≤ s (σ t) ∧ (l < σ t → s l < s (σ t)) := by
  have h1 := h.pick t l
  rwa [h.unmasked hl, h.unmasked (h.fresh ht)] at h1

/-- The picks of the first `k` rounds are the first `k` positions of the stable sort by a comparator that puts the
    greater score first. -/
theorem sortedFrom_eq (B : Fin n → Fin n → Bool) (hB : ∀ i j, B i j = decide (s j < s i)) {k : ℕ} (hk : k ≤ n)
    (t : Fin k) : sortedFrom B (t.castLE hk) = σ t := by
  classical
  have eB : B = fun i j => decide (s j < s i) := funext fun i => funext fun j => hB i j
  rw [eB, sortedFrom_key (fun a b => decide (b < a)) s]
  refine (StrictTotalBefore.of_key_then_position (fun a b : EReal => decide (b < a)) s (by simp)
    (fun a b c hab hbc => ?_) (fun a b => ?_)).sortedFrom_eq_of_prefix hk (fun t : Fin k => σ t) ?_ ?_ ?_ t
  · simp only [decide_eq_true_eq] at *; exact hbc.trans hab
  · simp only [decide_eq_true_eq]; rcases lt_trichotomy a b with h | h | h <;> simp [h]
  · exact fun i j e => Fin.ext (h.inj (lt_of_lt_of_le i.2 hk) (lt_of_lt_of_le j.2 hk) e)
  · intro i j hij
    have hd := h.dom (lt_of_lt_of_le i.2 hk) (l := σ j) fun a ha e =>
      absurd (h.inj (lt_trans ha (lt_of_lt_of_le i.2 hk)) (lt_of_lt_of_le j.2 hk) e) (by have := Fin.lt_def.mp hij; omega)
    simp only [Bool.or_eq_false_iff, Bool.and_eq_false_iff, decide_eq_false_iff_not]
    refine ⟨not_lt.mpr hd.1, ?_⟩
    by_cases hl : σ j < σ i
    · exact Or.inl (hd.2 hl).ne
    · exact Or.inr hl
  · intro i p hp
    have hd := h.dom (lt_of_lt_of_le i.2 hk) (l := p) fun a ha e => hp ⟨a, ha.trans i.2⟩ e
    simp only [Bool.or_eq_false_iff, Bool.and_eq_false_iff, decide_eq_false_iff_not]
    refine ⟨not_lt.mpr hd.1, ?_⟩
    by_cases hl : p < σ i
    · exact Or.inl (hd.2 hl).ne
    · exact Or.inr hl

end Rounds

end Cert.Proof.Select

end
-- ==== Proof.Pick.lean ====
/- One round of the kernel's selection on a stack of rows of 196 lanes, read at an index: the lane it picks in each row is
   the first one with the greatest entry, its mark is one there and zero elsewhere, and the next stack holds the mask's
   value there. The rounds together are the selection of Proof/Select.lean. -/
module

public import proofs.«01_k».proof.Proof.Select
public import Idealize.ShloMosaic.Lib.Pipeline.Value
public import Idealize.ShloMosaic.Lib.MatmulPlain
public import Idealize.ShloMosaic.Lib.ValueIdx
public import Idealize.ShloMosaic.Lib.KernelVsHost

@[expose] public section

set_option maxRecDepth 16384

noncomputable section

namespace Cert.Proof.Pick

open Cert.Proof.Select
open Idealize.ShloMosaic Idealize.ShloMosaic.ValueIdx
open scoped BigOperators

/-- A stack of `R` rows of 196 lanes. -/
abbrev SR (R : ℕ) : Shape := ⟨2, ![R, 196]⟩
/-- One entry for each row. -/
abbrev SV (R : ℕ) : Shape := ⟨1, ![R]⟩
/-- The same as a column. -/
abbrev SC (R : ℕ) : Shape := ⟨2, ![R, 1]⟩

/-- What the operations of a round ask of the shapes. -/
structure Fits (R : ℕ) : Prop where
  red : (SR R).Reduces [1] (SV R)
  cast : (SV R).ShapeCasts (SC R)
  bcast : (SC R).Broadcasts (SR R)

variable {R : ℕ} (f : Fits R)

/-- Each row's entry of a vector, over the row's lanes. -/
def spread {α : Type} (v : (SV R).Idx → α) : (SR R).Idx → α := broadcastTo (SR R) (shapeCast (SC R) v f.cast) f.bcast

/-- Where a row's entry is at least the row's greatest. -/
def atMax (s : FVec Ideal (SR R) .f32) : IVec (SR R) 1 :=
  cmpf .oge s (spread f (multiReduction .maximumf [1] (SV R) s 0xFF800000#32 f.red (.inl rfl) rfl))

/-- The first marked lane of each row. -/
def firstOf (io : IVec (SR R) 32) (g : IVec (SR R) 1) : IVec (SV R) 32 :=
  multiReductionI .minsi [1] (SV R) (select g io (broadcast (SR R) 196#32)) 2147483647#32 f.red rfl

/-- The lane picked in each row, marked. -/
def mark (io : IVec (SR R) 32) (s : FVec Ideal (SR R) .f32) : IVec (SR R) 1 := cmpi .eq io (spread f (firstOf f io (atMax f s)))

/-- The mark as a number. -/
def hot (io : IVec (SR R) 32) (s : FVec Ideal (SR R) .f32) : FVec Ideal (SR R) .f32 := sitofp .f32 (extui 32 (mark f io s) (by decide))

/-- The next stack: the mask's value where the mark is. -/
def next (io : IVec (SR R) 32) (s : FVec Ideal (SR R) .f32) : FVec Ideal (SR R) .f32 :=
  select (mark f io s) (broadcast (SR R) (Scalar.ofBits .f32 0xF149F2CA#32)) s

/-- The stack after `t` rounds. -/
def stack (io : IVec (SR R) 32) (s : FVec Ideal (SR R) .f32) : ℕ → FVec Ideal (SR R) .f32
  | 0 => s
  | t + 1 => next f io (stack io s t)

/-- The marks of the first `t` rounds, added up. -/
def total (io : IVec (SR R) 32) (s : FVec Ideal (SR R) .f32) : ℕ → FVec Ideal (SR R) .f32
  | 0 => broadcast (SR R) (Scalar.ofBits .f32 0x00000000#32)
  | t + 1 => addf (total io s t) (hot f io (stack f io s t))

/-- A row's entry over its lanes, at an index. -/
theorem spread_apply {α : Type} (v : (SV R).Idx → α) (r : Fin R) (l : Fin 196) : spread f v (ix2 r l) = v (ix1 r) := by
  unfold spread
  refine (broadcastTo_apply _ _ _ (ix2 r 0) fun a => ?_).trans ?_
  · match a with
    | ⟨0, _⟩ =>
      show r.val = if R = 1 then 0 else r.val
      split
      · have := r.isLt; omega
      · rfl
    | ⟨1, _⟩ => rfl
  · refine shapeCast_apply _ _ _ (ix1 r) ?_
    rw [Shape.rowMajor_val_two, Shape.rowMajor_val_one]
    show r.val = r.val * 1 + 0
    omega

/-- The index a reduction along the lanes folds over. -/
theorem lift_eq (r : Fin R) (l : Fin 196) : f.red.lift (ix1 r) l = ix2 r l := by
  funext a; apply Fin.ext
  match a with
  | ⟨0, _⟩ => rfl
  | ⟨1, _⟩ => rfl

/-- The mask's starting value is the least. -/
theorem bot_eq : (FloatOps.ofBits (F := Ideal) .f32 0xFF800000#32 : EReal) = ⊥ := by
  show Ideal.ofBits .f32 0xFF800000#32 = ⊥
  simp [Ideal.ofBits, Ideal.ieee]

/-- The greatest entry of a row is the picked lane's. -/
theorem max_apply (s : FVec Ideal (SR R) .f32) (r : Fin R) (p : Fin 196) (hp : IsPick (fun l => s (ix2 r l)) p) :
    multiReduction .maximumf [1] (SV R) s 0xFF800000#32 f.red (.inl rfl) rfl (ix1 r) = s (ix2 r p) := by
  refine (Ideal.multiReduction_maximumf_single s 0xFF800000#32 f.red (.inl rfl) rfl (ix1 r)).trans ?_
  rw [bot_eq]
  refine le_antisymm ?_ ?_
  · refine (Finset.fold_max_le _).2 ⟨bot_le, fun l _ => ?_⟩
    exact (congrArg s (lift_eq f r l)).trans_le (hp l).1
  · refine (Finset.le_fold_max _).2 (.inr ⟨p, Finset.mem_univ _, ?_⟩)
    exact (congrArg s (lift_eq f r p)).ge

/-- The lanes at least the greatest are those with the picked lane's entry. -/
theorem atMax_apply (s : FVec Ideal (SR R) .f32) (r : Fin R) (p : Fin 196) (hp : IsPick (fun l => s (ix2 r l)) p) (l : Fin 196) :
    atMax f s (ix2 r l) = BitVec.ofBool (decide (s (ix2 r p) ≤ s (ix2 r l))) := by
  unfold atMax
  rw [cmpf_apply, spread_apply, max_apply f s r p hp]
  rfl

/-- A fold of signed minima of a value that occurs and is least is that value. -/
theorem fold_minsi (v : Fin 196 → BitVec 32) (p : Fin 196) (i0 : BitVec 32) (h0 : (v p).toInt ≤ i0.toInt)
    (h : ∀ l, (v p).toInt ≤ (v l).toInt) : (Finset.univ : Finset (Fin 196)).fold IntOp.minsi i0 v = v p := by
  have key : ∀ S : Finset (Fin 196), (v p).toInt ≤ (S.fold IntOp.minsi i0 v).toInt ∧ (p ∈ S → S.fold IntOp.minsi i0 v = v p) := by
    intro S
    induction S using Finset.induction_on with
    | empty => exact ⟨by simpa using h0, fun hp => absurd hp (Finset.notMem_empty p)⟩
    | insert a S ha ih =>
      rw [Finset.fold_insert ha]
      have e : ∀ x y : BitVec 32, IntOp.minsi x y = if x.toInt < y.toInt then x else y := fun x y => by
        unfold IntOp.minsi; rw [BitVec.slt_eq_decide]; simp
      rw [e]
      refine ⟨?_, fun hp => ?_⟩
      · split
        · exact h a
        · exact ih.1
      · rcases Finset.mem_insert.1 hp with rfl | hp
        · split
          · rfl
          · rename_i hn
            exact BitVec.eq_of_toInt_eq (le_antisymm (not_lt.mp hn) ih.1)
        · rw [ih.2 hp]
          split
          · rename_i hn
            exact absurd (h a) (not_le.mpr hn)
          · rfl
  exact (key _).2 (Finset.mem_univ p)

/-- A lane's word read signed. -/
theorem toInt_lane (l : Fin 196) : (BitVec.ofNat 32 l.val).toInt = l.val := by
  revert l; decide +kernel

/-- The first marked lane is the pick. -/
theorem firstOf_apply (io : IVec (SR R) 32) (hio : ∀ r l, io (ix2 r l) = BitVec.ofNat 32 l.val) (s : FVec Ideal (SR R) .f32)
    (r : Fin R) (p : Fin 196) (hp : IsPick (fun l => s (ix2 r l)) p) :
    firstOf f io (atMax f s) (ix1 r) = BitVec.ofNat 32 p.val := by
  unfold firstOf
  refine (multiReductionI_eq_fold .minsi _ 2147483647#32 f.red rfl (ix1 r)).trans ?_
  refine (Shape.Reduces.fold_filter_drop_single f.red _ _ _ (ix1 r)).trans ?_
  have hv : ∀ l : Fin 196, (select (atMax f s) io (broadcast (SR R) 196#32) ∘ f.red.lift (ix1 r)) l
      = if s (ix2 r p) ≤ s (ix2 r l) then BitVec.ofNat 32 l.val else 196#32 := by
    intro l
    show select (atMax f s) io (broadcast (SR R) 196#32) (f.red.lift (ix1 r) l) = _
    rw [lift_eq f, select_apply, atMax_apply f s r p hp l, hio]
    by_cases h : s (ix2 r p) ≤ s (ix2 r l)
    · rw [if_pos h, decide_eq_true h]; rfl
    · rw [if_neg h, decide_eq_false h]; rfl
  have hvp := hv p
  rw [if_pos le_rfl] at hvp
  refine (fold_minsi _ p _ ?_ fun l => ?_).trans hvp
  · rw [hvp, toInt_lane]
    have := p.isLt
    rw [show (2147483647#32 : BitVec 32).toInt = 2147483647 from by decide]
    omega
  · rw [hvp, hv l, toInt_lane]
    split
    · rename_i h
      rw [toInt_lane]
      by_contra hn
      have hlt : l < p := by
        rw [Fin.lt_def]; omega
      exact absurd h (not_le.mpr ((hp l).2 hlt))
    · have := p.isLt
      rw [show (196#32 : BitVec 32).toInt = 196 from by decide]
      omega

/-- The mark is where the pick is. -/
theorem mark_apply (io : IVec (SR R) 32) (hio : ∀ r l, io (ix2 r l) = BitVec.ofNat 32 l.val) (s : FVec Ideal (SR R) .f32)
    (r : Fin R) (p : Fin 196) (hp : IsPick (fun l => s (ix2 r l)) p) (l : Fin 196) :
    mark f io s (ix2 r l) = BitVec.ofBool (decide (l = p)) := by
  unfold mark
  show IntOp.cmpi .eq (io (ix2 r l)) (spread f (firstOf f io (atMax f s)) (ix2 r l)) = _
  rw [spread_apply, firstOf_apply f io hio s r p hp, hio]
  show BitVec.ofBool (BitVec.ofNat 32 l.val == BitVec.ofNat 32 p.val) = _
  congr 1
  rw [Bool.eq_iff_iff, beq_iff_eq, decide_eq_true_iff]
  refine ⟨fun e => Fin.ext ?_, fun e => by rw [e]⟩
  have h := congrArg BitVec.toInt e
  rw [toInt_lane, toInt_lane] at h
  exact_mod_cast h

/-- The mark as a number is one where the pick is. -/
theorem hot_apply (io : IVec (SR R) 32) (hio : ∀ r l, io (ix2 r l) = BitVec.ofNat 32 l.val) (s : FVec Ideal (SR R) .f32)
    (r : Fin R) (p : Fin 196) (hp : IsPick (fun l => s (ix2 r l)) p) (l : Fin 196) :
    hot f io s (ix2 r l) = if l = p then 1 else 0 := by
  unfold hot
  rw [sitofp_apply, extui_apply, mark_apply f io hio s r p hp]
  show ((((BitVec.ofBool (decide (l = p))).setWidth 32).toInt : ℝ) : EReal) = _
  by_cases h : l = p
  · rw [decide_eq_true h, if_pos h, show ((BitVec.ofBool true).setWidth 32).toInt = 1 from by decide]; simp
  · rw [decide_eq_false h, if_neg h, show ((BitVec.ofBool false).setWidth 32).toInt = 0 from by decide]; simp

/-- The value the mask writes. -/
def low : EReal := Ideal.ofBits .f32 0xF149F2CA#32

/-- It is negative. -/
theorem low_lt : low < 0 := by
  unfold low
  simp [Ideal.ofBits, Ideal.ieee]
  exact_mod_cast (by positivity : (0 : ℝ) < 13234890 * 2 ^ 76)

/-- The next stack at an index. -/
theorem next_apply (io : IVec (SR R) 32) (hio : ∀ r l, io (ix2 r l) = BitVec.ofNat 32 l.val) (s : FVec Ideal (SR R) .f32)
    (r : Fin R) (p : Fin 196) (hp : IsPick (fun l => s (ix2 r l)) p) (l : Fin 196) :
    next f io s (ix2 r l) = if l = p then low else s (ix2 r l) := by
  unfold next
  rw [select_apply, mark_apply f io hio s r p hp]
  by_cases h : l = p
  · rw [decide_eq_true h, if_pos h]; rfl
  · rw [decide_eq_false h, if_neg h]; rfl

/-- The lane the round after `t` rounds picks in row `r`. -/
def pick (io : IVec (SR R) 32) (s : FVec Ideal (SR R) .f32) (r : Fin R) (t : ℕ) : Fin 196 :=
  (exists_isPick (by decide) fun l => stack f io s t (ix2 r l)).choose

/-- It is the first lane with the greatest entry. -/
theorem pick_spec (io : IVec (SR R) 32) (s : FVec Ideal (SR R) .f32) (r : Fin R) (t : ℕ) :
    IsPick (fun l => stack f io s t (ix2 r l)) (pick f io s r t) :=
  (exists_isPick (by decide) fun l => stack f io s t (ix2 r l)).choose_spec

/-- A row's rounds are the rounds of the selection, where the row's entries are above the mask's value. -/
theorem rounds (io : IVec (SR R) 32) (hio : ∀ r l, io (ix2 r l) = BitVec.ofNat 32 l.val) (s : FVec Ideal (SR R) .f32) (r : Fin R)
    (hs : ∀ l, 0 ≤ s (ix2 r l)) :
    Rounds low (fun l => s (ix2 r l)) (fun t l => stack f io s t (ix2 r l)) (pick f io s r) where
  zero := rfl
  succ t l := next_apply f io hio _ r _ (pick_spec f io s r t) l
  pick := pick_spec f io s r
  above l := lt_of_lt_of_le low_lt (hs l)

/-- The marks of a round at an index. -/
theorem hot_stack (io : IVec (SR R) 32) (hio : ∀ r l, io (ix2 r l) = BitVec.ofNat 32 l.val) (s : FVec Ideal (SR R) .f32) (r : Fin R)
    (t : ℕ) (l : Fin 196) : hot f io (stack f io s t) (ix2 r l) = if l = pick f io s r t then 1 else 0 :=
  hot_apply f io hio _ r _ (pick_spec f io s r t) l

/-- The marks of the first `t` rounds at an index: how many of them picked the lane. -/
theorem total_apply (io : IVec (SR R) 32) (hio : ∀ r l, io (ix2 r l) = BitVec.ofNat 32 l.val) (s : FVec Ideal (SR R) .f32) (r : Fin R)
    (t : ℕ) (l : Fin 196) : total f io s t (ix2 r l) = ∑ i ∈ Finset.range t, if l = pick f io s r i then (1 : EReal) else 0 := by
  induction t with
  | zero => exact Ideal.ofBits_zero_f32
  | succ t ih =>
    rw [Finset.sum_range_succ, ← ih, ← hot_stack f io hio s r t l]
    rfl

end Cert.Proof.Pick
-- ==== Proof.Chain.lean ====
/- The attention region's selection, read off its stored values: the named values are the stacks, marks and sums of the
   rounds of Proof/Pick.lean, first on the 24 rows of scores and then on the two rows of weighted counts. -/
module

public import proofs.«01_k».proof.Proof.Av
public import proofs.«01_k».proof.Proof.Pick

@[expose] public section

set_option maxRecDepth 16384

noncomputable section

namespace Cert.Proof.Chain

open Cert.KernelIdeal Cert.KernelIdeal.Gen Cert.Proof.Pick Cert.Proof.Qkv Cert.Proof.Av
open Idealize.ShloMosaic Idealize.ShloMosaic.ValueIdx
open scoped BigOperators

/-- The shapes of the 24 rows of scores fit. -/
theorem fit24 : Fits 24 := ⟨reduces_S24x196_S24, shapeCasts_S24_S24x1, broadcasts_S24x1_S24x196⟩

/-- The shapes of the two rows of counts fit. -/
theorem fit2 : Fits 2 := ⟨reduces_S2x196_S2, shapeCasts_S2_S2x1, broadcasts_S2x1_S2x196⟩

/-- Each lane's number, on 24 rows. -/
def io24 : IVec S24x196 32 := iota .tc S24x196 32 [1] iota_S24x196_d1_w32

/-- Each lane's number, on two rows. -/
def io2 : IVec S2x196 32 := iota .tc S2x196 32 [1] iota_S2x196_d1_w32

/-- A lane's number at an index. -/
theorem io24_apply (r : Fin 24) (l : Fin 196) : io24 (ix2 r l) = BitVec.ofNat 32 l.val := by
  show BitVec.ofNat 32 (0 * 196 + l.val) = _
  rw [Nat.zero_mul, Nat.zero_add]

/-- A lane's number at an index. -/
theorem io2_apply (r : Fin 2) (l : Fin 196) : io2 (ix2 r l) = BitVec.ofNat 32 l.val := by
  show BitVec.ofNat 32 (0 * 196 + l.val) = _
  rw [Nat.zero_mul, Nat.zero_add]

/-! One stored value as rounds from the stack it starts with; `m` is the sum so far. -/

/-- Stored value 87 is the rounds it stands for. -/
theorem pay87_eq (io : IVec S24x196 32) (s : FVec Ideal S24x196 .f32) : k1_pay87 (F := Ideal) io s (atMax fit24 s) (broadcast S24x196 196#32) = (next fit24 io (next fit24 io (next fit24 io s))) := rfl

/-- Stored value 88 is the rounds it stands for. -/
theorem pay88_eq (io : IVec S24x196 32) (s : FVec Ideal S24x196 .f32) : k1_pay88 (F := Ideal) io s (atMax fit24 s) (broadcast S24x196 196#32) = firstOf fit24 io (atMax fit24 (next fit24 io (next fit24 io (next fit24 io s)))) := rfl

/-- Stored value 86 is the sum so far with the next marks added. -/
theorem pay86_eq (io : IVec S24x196 32) (s : FVec Ideal S24x196 .f32) (m : FVec Ideal S24x196 .f32) : k1_pay86 (F := Ideal) io m s (atMax fit24 s) (broadcast S24x196 196#32) = (addf (addf (addf m (hot fit24 io s)) (hot fit24 io (next fit24 io s))) (hot fit24 io (next fit24 io (next fit24 io s)))) := rfl

/-- Stored value 95 is the rounds it stands for. -/
theorem pay95_eq (io : IVec S24x196 32) (s : FVec Ideal S24x196 .f32) : k1_pay95 (F := Ideal) io s (firstOf fit24 io (atMax fit24 s)) = (next fit24 io (next fit24 io (next fit24 io s))) := rfl

/-- Stored value 96 is the rounds it stands for. -/
theorem pay96_eq (io : IVec S24x196 32) (s : FVec Ideal S24x196 .f32) : k1_pay96 (F := Ideal) io s (firstOf fit24 io (atMax fit24 s)) = mark fit24 io (next fit24 io (next fit24 io (next fit24 io s))) := rfl

/-- Stored value 94 is the sum so far with the next marks added. -/
theorem pay94_eq (io : IVec S24x196 32) (s : FVec Ideal S24x196 .f32) (m : FVec Ideal S24x196 .f32) : k1_pay94 (F := Ideal) io m s (firstOf fit24 io (atMax fit24 s)) = (addf (addf (addf m (hot fit24 io s)) (hot fit24 io (next fit24 io s))) (hot fit24 io (next fit24 io (next fit24 io s)))) := rfl

/-- Stored value 101 is the rounds it stands for. -/
theorem pay101_eq (io : IVec S24x196 32) (s : FVec Ideal S24x196 .f32) : k1_pay101 (F := Ideal) io s (mark fit24 io s) = (next fit24 io (next fit24 io (next fit24 io s))) := rfl

/-- Stored value 102 is the rounds it stands for. -/
theorem pay102_eq (io : IVec S24x196 32) (s : FVec Ideal S24x196 .f32) : k1_pay102 (F := Ideal) io s (mark fit24 io s) = mark fit24 io (next fit24 io (next fit24 io (next fit24 io s))) := rfl

/-- Stored value 103 is the sum so far with the next marks added. -/
theorem pay103_eq (io : IVec S24x196 32) (s : FVec Ideal S24x196 .f32) (m : FVec Ideal S24x196 .f32) : k1_pay103 (F := Ideal) io m s (mark fit24 io s) = (addf (addf (addf (addf m (hot fit24 io s)) (hot fit24 io (next fit24 io s))) (hot fit24 io (next fit24 io (next fit24 io s)))) (hot fit24 io (next fit24 io (next fit24 io (next fit24 io s))))) := rfl

/-- Stored value 111 is the rounds it stands for. -/
theorem pay111_eq (io : IVec S24x196 32) (s : FVec Ideal S24x196 .f32) : k1_pay111 (F := Ideal) io s (mark fit24 io s) = (next fit24 io (next fit24 io (next fit24 io (next fit24 io s)))) := rfl

/-- Stored value 110 is the sum so far with the next marks added. -/
theorem pay110_eq (io : IVec S24x196 32) (s : FVec Ideal S24x196 .f32) (m : FVec Ideal S24x196 .f32) : k1_pay110 (F := Ideal) io s (mark fit24 io s) m = (addf (addf (addf m (hot fit24 io (next fit24 io s))) (hot fit24 io (next fit24 io (next fit24 io s)))) (hot fit24 io (next fit24 io (next fit24 io (next fit24 io s))))) := rfl

/-- Stored value 118 is the rounds it stands for. -/
theorem pay118_eq (io : IVec S24x196 32) (s : FVec Ideal S24x196 .f32) : k1_pay118 (F := Ideal) io s = (next fit24 io (next fit24 io (next fit24 io s))) := rfl

/-- Stored value 119 is the rounds it stands for. -/
theorem pay119_eq (io : IVec S24x196 32) (s : FVec Ideal S24x196 .f32) : k1_pay119 (F := Ideal) io s = (shapeCast S24x1 (multiReduction .maximumf [1] S24 (next fit24 io (next fit24 io (next fit24 io s))) 0xFF800000#32 reduces_S24x196_S24 (.inl rfl) rfl) shapeCasts_S24_S24x1) := rfl

/-- Stored value 117 is the sum so far with the next marks added. -/
theorem pay117_eq (io : IVec S24x196 32) (s : FVec Ideal S24x196 .f32) (m : FVec Ideal S24x196 .f32) : k1_pay117 (F := Ideal) io m s = (addf (addf (addf m (hot fit24 io s)) (hot fit24 io (next fit24 io s))) (hot fit24 io (next fit24 io (next fit24 io s)))) := rfl

/-- Stored value 126 is the rounds it stands for. -/
theorem pay126_eq (io : IVec S24x196 32) (s : FVec Ideal S24x196 .f32) : k1_pay126 (F := Ideal) io s (shapeCast S24x1 (multiReduction .maximumf [1] S24 s 0xFF800000#32 reduces_S24x196_S24 (.inl rfl) rfl) shapeCasts_S24_S24x1) = (next fit24 io (next fit24 io (next fit24 io s))) := rfl

/-- Stored value 127 is the rounds it stands for. -/
theorem pay127_eq (io : IVec S24x196 32) (s : FVec Ideal S24x196 .f32) : k1_pay127 (F := Ideal) io s (shapeCast S24x1 (multiReduction .maximumf [1] S24 s 0xFF800000#32 reduces_S24x196_S24 (.inl rfl) rfl) shapeCasts_S24_S24x1) = atMax fit24 (next fit24 io (next fit24 io (next fit24 io s))) := rfl

/-- Stored value 125 is the sum so far with the next marks added. -/
theorem pay125_eq (io : IVec S24x196 32) (s : FVec Ideal S24x196 .f32) (m : FVec Ideal S24x196 .f32) : k1_pay125 (F := Ideal) io m s (shapeCast S24x1 (multiReduction .maximumf [1] S24 s 0xFF800000#32 reduces_S24x196_S24 (.inl rfl) rfl) shapeCasts_S24_S24x1) = (addf (addf (addf m (hot fit24 io s)) (hot fit24 io (next fit24 io s))) (hot fit24 io (next fit24 io (next fit24 io s)))) := rfl

/-- Stored value 133 is the sum so far with the next marks added. -/
theorem pay133_eq (io : IVec S24x196 32) (s : FVec Ideal S24x196 .f32) (m : FVec Ideal S24x196 .f32) : k1_pay133 (F := Ideal) io m s (atMax fit24 s) 196#32 = (addf (addf (addf m (hot fit24 io s)) (hot fit24 io (next fit24 io s))) (hot fit24 io (next fit24 io (next fit24 io s)))) := rfl

/-- Stored value 134 is the rounds it stands for. -/
theorem pay134_eq (io : IVec S24x196 32) (s : FVec Ideal S24x196 .f32) : k1_pay134 (F := Ideal) io s (atMax fit24 s) 196#32 = select (atMax fit24 (next fit24 io (next fit24 io (next fit24 io s)))) io (broadcast S24x196 196#32) := rfl

/-- Stored value 144 is the rounds it stands for. -/
theorem pay144_eq (io : IVec S2x196 32) (s : FVec Ideal S2x196 .f32) : k1_pay144 (F := Ideal) io s (multiReduction .maximumf [1] S2 s 0xFF800000#32 reduces_S2x196_S2 (.inl rfl) rfl) = hot fit2 io s := rfl

/-- Stored value 147 is the rounds it stands for. -/
theorem pay147_eq (io : IVec S2x196 32) (s : FVec Ideal S2x196 .f32) : k1_pay147 (F := Ideal) io s (multiReduction .maximumf [1] S2 s 0xFF800000#32 reduces_S2x196_S2 (.inl rfl) rfl) = hot fit2 io (next fit2 io s) := rfl

/-- Stored value 150 is the rounds it stands for. -/
theorem pay150_eq (io : IVec S2x196 32) (s : FVec Ideal S2x196 .f32) : k1_pay150 (F := Ideal) io s (multiReduction .maximumf [1] S2 s 0xFF800000#32 reduces_S2x196_S2 (.inl rfl) rfl) = hot fit2 io (next fit2 io (next fit2 io s)) := rfl

/-- Stored value 151 is the rounds it stands for. -/
theorem pay151_eq (io : IVec S2x196 32) (s : FVec Ideal S2x196 .f32) : k1_pay151 (F := Ideal) io s (multiReduction .maximumf [1] S2 s 0xFF800000#32 reduces_S2x196_S2 (.inl rfl) rfl) = (next fit2 io (next fit2 io (next fit2 io s))) := rfl

/-- Stored value 152 is the rounds it stands for. -/
theorem pay152_eq (io : IVec S2x196 32) (s : FVec Ideal S2x196 .f32) : k1_pay152 (F := Ideal) io s (multiReduction .maximumf [1] S2 s 0xFF800000#32 reduces_S2x196_S2 (.inl rfl) rfl) = (select (atMax fit2 (next fit2 io (next fit2 io (next fit2 io s)))) io (broadcast S2x196 196#32)) := rfl

/-- Stored value 154 is the rounds it stands for. -/
theorem pay154_eq (io : IVec S2x196 32) (s : FVec Ideal S2x196 .f32) : k1_pay154 (F := Ideal) io (select (atMax fit2 s) io (broadcast S2x196 196#32)) = hot fit2 io s := rfl

/-- Stored value 157 is the rounds it stands for. -/
theorem pay157_eq (io : IVec S2x196 32) (s : FVec Ideal S2x196 .f32) : k1_pay157 (F := Ideal) io s (select (atMax fit2 s) io (broadcast S2x196 196#32)) = hot fit2 io (next fit2 io s) := rfl

/-- Stored value 160 is the rounds it stands for. -/
theorem pay160_eq (io : IVec S2x196 32) (s : FVec Ideal S2x196 .f32) : k1_pay160 (F := Ideal) io s (select (atMax fit2 s) io (broadcast S2x196 196#32)) = hot fit2 io (next fit2 io (next fit2 io s)) := rfl

/-- Stored value 161 is the rounds it stands for. -/
theorem pay161_eq (io : IVec S2x196 32) (s : FVec Ideal S2x196 .f32) : k1_pay161 (F := Ideal) io s (select (atMax fit2 s) io (broadcast S2x196 196#32)) = (next fit2 io (next fit2 io (next fit2 io s))) := rfl

/-- Stored value 162 is the rounds it stands for. -/
theorem pay162_eq (io : IVec S2x196 32) (s : FVec Ideal S2x196 .f32) : k1_pay162 (F := Ideal) io s (select (atMax fit2 s) io (broadcast S2x196 196#32)) = mark fit2 io (next fit2 io (next fit2 io (next fit2 io s))) := rfl

/-- Stored value 164 is the rounds it stands for. -/
theorem pay164_eq (io : IVec S2x196 32) (s : FVec Ideal S2x196 .f32) : k1_pay164 (F := Ideal) (k1_pay163 io s (select (atMax fit2 s) io (broadcast S2x196 196#32))) = hot fit2 io (next fit2 io (next fit2 io (next fit2 io s))) := rfl

/-- Stored value 167 is the rounds it stands for. -/
theorem pay167_eq (io : IVec S2x196 32) (s : FVec Ideal S2x196 .f32) : k1_pay167 (F := Ideal) io s (mark fit2 io s) = hot fit2 io (next fit2 io s) := rfl

/-- Stored value 170 is the rounds it stands for. -/
theorem pay170_eq (io : IVec S2x196 32) (s : FVec Ideal S2x196 .f32) : k1_pay170 (F := Ideal) io s (mark fit2 io s) = hot fit2 io (next fit2 io (next fit2 io s)) := rfl

/-- Stored value 173 is the rounds it stands for. -/
theorem pay173_eq (io : IVec S2x196 32) (s : FVec Ideal S2x196 .f32) : k1_pay173 (F := Ideal) io s (mark fit2 io s) = hot fit2 io (next fit2 io (next fit2 io (next fit2 io s))) := rfl

/-- Stored value 174 is the rounds it stands for. -/
theorem pay174_eq (io : IVec S2x196 32) (s : FVec Ideal S2x196 .f32) : k1_pay174 (F := Ideal) io s (mark fit2 io s) = (next fit2 io (next fit2 io (next fit2 io (next fit2 io s)))) := rfl

/-- Stored value 175 is the rounds it stands for. -/
theorem pay175_eq (io : IVec S2x196 32) (s : FVec Ideal S2x196 .f32) : k1_pay175 (F := Ideal) io s (mark fit2 io s) = multiReduction .maximumf [1] S2 (next fit2 io (next fit2 io (next fit2 io (next fit2 io s)))) 0xFF800000#32 reduces_S2x196_S2 (.inl rfl) rfl := rfl

/-- Stored value 177 is the rounds it stands for. -/
theorem pay177_eq (io : IVec S2x196 32) (s : FVec Ideal S2x196 .f32) : k1_pay177 (F := Ideal) io s (multiReduction .maximumf [1] S2 s 0xFF800000#32 reduces_S2x196_S2 (.inl rfl) rfl) = hot fit2 io s := rfl

/-- Stored value 180 is the rounds it stands for. -/
theorem pay180_eq (io : IVec S2x196 32) (s : FVec Ideal S2x196 .f32) : k1_pay180 (F := Ideal) io s (multiReduction .maximumf [1] S2 s 0xFF800000#32 reduces_S2x196_S2 (.inl rfl) rfl) = hot fit2 io (next fit2 io s) := rfl

/-- Stored value 183 is the rounds it stands for. -/
theorem pay183_eq (io : IVec S2x196 32) (s : FVec Ideal S2x196 .f32) : k1_pay183 (F := Ideal) io s (multiReduction .maximumf [1] S2 s 0xFF800000#32 reduces_S2x196_S2 (.inl rfl) rfl) = hot fit2 io (next fit2 io (next fit2 io s)) := rfl

/-- Stored value 185 is the rounds it stands for. -/
theorem pay185_eq (io : IVec S2x196 32) (s : FVec Ideal S2x196 .f32) : k1_pay185 (F := Ideal) io (k1_pay184 io s (multiReduction .maximumf [1] S2 s 0xFF800000#32 reduces_S2x196_S2 (.inl rfl) rfl)) = hot fit2 io (next fit2 io (next fit2 io (next fit2 io s))) := rfl

/-- The first stack's marks, from the rows that make it up. -/
theorem pay79_eq (v4 : FVec Ideal S1x196 .f32) (v9 : FVec Ideal S1x196 .f32) (v14 : FVec Ideal S1x196 .f32) (v19 : FVec Ideal S1x196 .f32) (v24 : FVec Ideal S1x196 .f32) (v29 : FVec Ideal S1x196 .f32) (v34 : FVec Ideal S1x196 .f32) (v39 : FVec Ideal S1x196 .f32) (v44 : FVec Ideal S1x196 .f32) (v49 : FVec Ideal S1x196 .f32) (v54 : FVec Ideal S1x196 .f32) (v59 : FVec Ideal S1x196 .f32) (v67 : FVec Ideal S1x196 .f32) (v72 : FVec Ideal S1x196 .f32) (v77 : FVec Ideal S1x196 .f32) (v82 : FVec Ideal S1x196 .f32) (v87 : FVec Ideal S1x196 .f32) (v92 : FVec Ideal S1x196 .f32) (v97 : FVec Ideal S1x196 .f32) (v102 : FVec Ideal S1x196 .f32) (v107 : FVec Ideal S1x196 .f32) (v112 : FVec Ideal S1x196 .f32) (v117 : FVec Ideal S1x196 .f32) (v120 : Vec Ideal S1x1x197x197 .f32) : k1_pay79 (F := Ideal) v4 v9 v14 v19 v24 v29 v34 v39 v44 v49 v54 v59 v67 v72 v77 v82 v87 v92 v97 v102 v107 v112 v117 v120 = atMax fit24 (next fit24 io24 (k1_pay75 v4 v9 v14 v19 v24 v29 v34 v39 v44 v49 v54 v59 v67 v72 v77 v82 v87 v92 v97 v102 v107 v112 v117 v120)) := rfl

/-- The first stack. -/
theorem pay78_eq (v4 : FVec Ideal S1x196 .f32) (v9 : FVec Ideal S1x196 .f32) (v14 : FVec Ideal S1x196 .f32) (v19 : FVec Ideal S1x196 .f32) (v24 : FVec Ideal S1x196 .f32) (v29 : FVec Ideal S1x196 .f32) (v34 : FVec Ideal S1x196 .f32) (v39 : FVec Ideal S1x196 .f32) (v44 : FVec Ideal S1x196 .f32) (v49 : FVec Ideal S1x196 .f32) (v54 : FVec Ideal S1x196 .f32) (v59 : FVec Ideal S1x196 .f32) (v67 : FVec Ideal S1x196 .f32) (v72 : FVec Ideal S1x196 .f32) (v77 : FVec Ideal S1x196 .f32) (v82 : FVec Ideal S1x196 .f32) (v87 : FVec Ideal S1x196 .f32) (v92 : FVec Ideal S1x196 .f32) (v97 : FVec Ideal S1x196 .f32) (v102 : FVec Ideal S1x196 .f32) (v107 : FVec Ideal S1x196 .f32) (v112 : FVec Ideal S1x196 .f32) (v117 : FVec Ideal S1x196 .f32) (v120 : Vec Ideal S1x1x197x197 .f32) : k1_pay78 (F := Ideal) v4 v9 v14 v19 v24 v29 v34 v39 v44 v49 v54 v59 v67 v72 v77 v82 v87 v92 v97 v102 v107 v112 v117 v120 = next fit24 io24 (k1_pay75 v4 v9 v14 v19 v24 v29 v34 v39 v44 v49 v54 v59 v67 v72 v77 v82 v87 v92 v97 v102 v107 v112 v117 v120) := rfl

/-- The first round's marks, added to zero. -/
theorem pay77_eq (v4 : FVec Ideal S1x196 .f32) (v9 : FVec Ideal S1x196 .f32) (v14 : FVec Ideal S1x196 .f32) (v19 : FVec Ideal S1x196 .f32) (v24 : FVec Ideal S1x196 .f32) (v29 : FVec Ideal S1x196 .f32) (v34 : FVec Ideal S1x196 .f32) (v39 : FVec Ideal S1x196 .f32) (v44 : FVec Ideal S1x196 .f32) (v49 : FVec Ideal S1x196 .f32) (v54 : FVec Ideal S1x196 .f32) (v59 : FVec Ideal S1x196 .f32) (v67 : FVec Ideal S1x196 .f32) (v72 : FVec Ideal S1x196 .f32) (v77 : FVec Ideal S1x196 .f32) (v82 : FVec Ideal S1x196 .f32) (v87 : FVec Ideal S1x196 .f32) (v92 : FVec Ideal S1x196 .f32) (v97 : FVec Ideal S1x196 .f32) (v102 : FVec Ideal S1x196 .f32) (v107 : FVec Ideal S1x196 .f32) (v112 : FVec Ideal S1x196 .f32) (v117 : FVec Ideal S1x196 .f32) (v120 : Vec Ideal S1x1x197x197 .f32) : k1_pay77 (F := Ideal) v4 v9 v14 v19 v24 v29 v34 v39 v44 v49 v54 v59 v67 v72 v77 v82 v87 v92 v97 v102 v107 v112 v117 v120 = total fit24 io24 (k1_pay75 v4 v9 v14 v19 v24 v29 v34 v39 v44 v49 v54 v59 v67 v72 v77 v82 v87 v92 v97 v102 v107 v112 v117 v120) 1 := rfl

/-- The rows stacked are the scores. -/
theorem rows_eq (x0 : Vec Ideal S2x12x197x197 .f32) (x1 x2 : Vec Ideal S394x768 .f32) (x3 : Vec Ideal S768x768 .f32) (x4 : Vec Ideal S1x768 .f32) (x5 : Vec Ideal S196x196 .f32) : k1_pay75 (F := Ideal) (k1_pay200 x0 x1 x2 x3 x4 x5) (k1_pay201 x0 x1 x2 x3 x4 x5) (k1_pay202 x0 x1 x2 x3 x4 x5) (k1_pay203 x0 x1 x2 x3 x4 x5) (k1_pay204 x0 x1 x2 x3 x4 x5) (k1_pay206 x0 x1 x2 x3 x4 x5) (k1_pay207 x0 x1 x2 x3 x4 x5) (k1_pay208 x0 x1 x2 x3 x4 x5) (k1_pay209 x0 x1 x2 x3 x4 x5) (k1_pay210 x0 x1 x2 x3 x4 x5) (k1_pay211 x0 x1 x2 x3 x4 x5) (k1_pay213 x0 x1 x2 x3 x4 x5) (k1_pay215 x0 x1 x2 x3 x4 x5) (k1_pay216 x0 x1 x2 x3 x4 x5) (k1_pay217 x0 x1 x2 x3 x4 x5) (k1_pay218 x0 x1 x2 x3 x4 x5) (k1_pay219 x0 x1 x2 x3 x4 x5) (k1_pay220 x0 x1 x2 x3 x4 x5) (k1_pay221 x0 x1 x2 x3 x4 x5) (k1_pay222 x0 x1 x2 x3 x4 x5) (k1_pay223 x0 x1 x2 x3 x4 x5) (k1_pay224 x0 x1 x2 x3 x4 x5) (k1_pay225 x0 x1 x2 x3 x4 x5) (View.ld x0 r1_25) = scores x0 := rfl

/-- The stack of scores after `t` rounds. -/
abbrev S (x0 : Vec Ideal S2x12x197x197 .f32) (t : ℕ) : FVec Ideal S24x196 .f32 := stack fit24 io24 (scores x0) t

/-- The marks of the first `t` rounds on the scores, added up. -/
abbrev T (x0 : Vec Ideal S2x12x197x197 .f32) (t : ℕ) : FVec Ideal S24x196 .f32 := total fit24 io24 (scores x0) t

/-- Stored value 226. -/
theorem n226 (x0 : Vec Ideal S2x12x197x197 .f32) (x1 x2 : Vec Ideal S394x768 .f32) (x3 : Vec Ideal S768x768 .f32) (x4 : Vec Ideal S1x768 .f32) (x5 : Vec Ideal S196x196 .f32) : k1_pay226 (F := Ideal) x0 x1 x2 x3 x4 x5 = io24 := rfl

/-- Stored value 227. -/
theorem n227 (x0 : Vec Ideal S2x12x197x197 .f32) (x1 x2 : Vec Ideal S394x768 .f32) (x3 : Vec Ideal S768x768 .f32) (x4 : Vec Ideal S1x768 .f32) (x5 : Vec Ideal S196x196 .f32) : k1_pay227 (F := Ideal) x0 x1 x2 x3 x4 x5 = S x0 1 := by
  unfold k1_pay227; rw [pay78_eq, rows_eq x0 x1 x2 x3 x4 x5]; rfl

/-- Stored value 228. -/
theorem n228 (x0 : Vec Ideal S2x12x197x197 .f32) (x1 x2 : Vec Ideal S394x768 .f32) (x3 : Vec Ideal S768x768 .f32) (x4 : Vec Ideal S1x768 .f32) (x5 : Vec Ideal S196x196 .f32) : k1_pay228 (F := Ideal) x0 x1 x2 x3 x4 x5 = atMax fit24 (S x0 1) := by
  unfold k1_pay228; rw [pay79_eq, rows_eq x0 x1 x2 x3 x4 x5]; rfl

/-- Stored value 229. -/
theorem n229 (x0 : Vec Ideal S2x12x197x197 .f32) (x1 x2 : Vec Ideal S394x768 .f32) (x3 : Vec Ideal S768x768 .f32) (x4 : Vec Ideal S1x768 .f32) (x5 : Vec Ideal S196x196 .f32) : k1_pay229 (F := Ideal) x0 x1 x2 x3 x4 x5 = broadcast S24x196 196#32 := rfl

/-- Stored value 230. -/
theorem n230 (x0 : Vec Ideal S2x12x197x197 .f32) (x1 x2 : Vec Ideal S394x768 .f32) (x3 : Vec Ideal S768x768 .f32) (x4 : Vec Ideal S1x768 .f32) (x5 : Vec Ideal S196x196 .f32) : k1_pay230 (F := Ideal) x0 x1 x2 x3 x4 x5 = S x0 4 := by
  unfold k1_pay230; rw [n226 x0 x1 x2 x3 x4 x5, n227 x0 x1 x2 x3 x4 x5, n228 x0 x1 x2 x3 x4 x5, n229 x0 x1 x2 x3 x4 x5]; exact pay87_eq io24 (S x0 1)

/-- Stored value 231. -/
theorem n231 (x0 : Vec Ideal S2x12x197x197 .f32) (x1 x2 : Vec Ideal S394x768 .f32) (x3 : Vec Ideal S768x768 .f32) (x4 : Vec Ideal S1x768 .f32) (x5 : Vec Ideal S196x196 .f32) : k1_pay231 (F := Ideal) x0 x1 x2 x3 x4 x5 = firstOf fit24 io24 (atMax fit24 (S x0 4)) := by
  unfold k1_pay231; rw [n226 x0 x1 x2 x3 x4 x5, n227 x0 x1 x2 x3 x4 x5, n228 x0 x1 x2 x3 x4 x5, n229 x0 x1 x2 x3 x4 x5]; exact pay88_eq io24 (S x0 1)

/-- Stored value 232. -/
theorem n232 (x0 : Vec Ideal S2x12x197x197 .f32) (x1 x2 : Vec Ideal S394x768 .f32) (x3 : Vec Ideal S768x768 .f32) (x4 : Vec Ideal S1x768 .f32) (x5 : Vec Ideal S196x196 .f32) : k1_pay232 (F := Ideal) x0 x1 x2 x3 x4 x5 = S x0 7 := by
  unfold k1_pay232; rw [n226 x0 x1 x2 x3 x4 x5, n230 x0 x1 x2 x3 x4 x5, n231 x0 x1 x2 x3 x4 x5]; exact pay95_eq io24 (S x0 4)

/-- Stored value 233. -/
theorem n233 (x0 : Vec Ideal S2x12x197x197 .f32) (x1 x2 : Vec Ideal S394x768 .f32) (x3 : Vec Ideal S768x768 .f32) (x4 : Vec Ideal S1x768 .f32) (x5 : Vec Ideal S196x196 .f32) : k1_pay233 (F := Ideal) x0 x1 x2 x3 x4 x5 = mark fit24 io24 (S x0 7) := by
  unfold k1_pay233; rw [n226 x0 x1 x2 x3 x4 x5, n230 x0 x1 x2 x3 x4 x5, n231 x0 x1 x2 x3 x4 x5]; exact pay96_eq io24 (S x0 4)

/-- Stored value 234. -/
theorem n234 (x0 : Vec Ideal S2x12x197x197 .f32) (x1 x2 : Vec Ideal S394x768 .f32) (x3 : Vec Ideal S768x768 .f32) (x4 : Vec Ideal S1x768 .f32) (x5 : Vec Ideal S196x196 .f32) : k1_pay234 (F := Ideal) x0 x1 x2 x3 x4 x5 = S x0 10 := by
  unfold k1_pay234; rw [n226 x0 x1 x2 x3 x4 x5, n232 x0 x1 x2 x3 x4 x5, n233 x0 x1 x2 x3 x4 x5]; exact pay101_eq io24 (S x0 7)

/-- Stored value 235. -/
theorem n235 (x0 : Vec Ideal S2x12x197x197 .f32) (x1 x2 : Vec Ideal S394x768 .f32) (x3 : Vec Ideal S768x768 .f32) (x4 : Vec Ideal S1x768 .f32) (x5 : Vec Ideal S196x196 .f32) : k1_pay235 (F := Ideal) x0 x1 x2 x3 x4 x5 = mark fit24 io24 (S x0 10) := by
  unfold k1_pay235; rw [n226 x0 x1 x2 x3 x4 x5, n232 x0 x1 x2 x3 x4 x5, n233 x0 x1 x2 x3 x4 x5]; exact pay102_eq io24 (S x0 7)

/-- Stored value 236. -/
theorem n236 (x0 : Vec Ideal S2x12x197x197 .f32) (x1 x2 : Vec Ideal S394x768 .f32) (x3 : Vec Ideal S768x768 .f32) (x4 : Vec Ideal S1x768 .f32) (x5 : Vec Ideal S196x196 .f32) : k1_pay236 (F := Ideal) x0 x1 x2 x3 x4 x5 = S x0 14 := by
  unfold k1_pay236; rw [n226 x0 x1 x2 x3 x4 x5, n234 x0 x1 x2 x3 x4 x5, n235 x0 x1 x2 x3 x4 x5]; exact pay111_eq io24 (S x0 10)

/-- Stored value 237. -/
theorem n237 (x0 : Vec Ideal S2x12x197x197 .f32) (x1 x2 : Vec Ideal S394x768 .f32) (x3 : Vec Ideal S768x768 .f32) (x4 : Vec Ideal S1x768 .f32) (x5 : Vec Ideal S196x196 .f32) : k1_pay237 (F := Ideal) x0 x1 x2 x3 x4 x5 = S x0 17 := by
  unfold k1_pay237; rw [n226 x0 x1 x2 x3 x4 x5, n236 x0 x1 x2 x3 x4 x5]; exact pay118_eq io24 (S x0 14)

/-- Stored value 238. -/
theorem n238 (x0 : Vec Ideal S2x12x197x197 .f32) (x1 x2 : Vec Ideal S394x768 .f32) (x3 : Vec Ideal S768x768 .f32) (x4 : Vec Ideal S1x768 .f32) (x5 : Vec Ideal S196x196 .f32) : k1_pay238 (F := Ideal) x0 x1 x2 x3 x4 x5 = shapeCast S24x1 (multiReduction .maximumf [1] S24 (S x0 17) 0xFF800000#32 reduces_S24x196_S24 (.inl rfl) rfl) shapeCasts_S24_S24x1 := by
  unfold k1_pay238; rw [n226 x0 x1 x2 x3 x4 x5, n236 x0 x1 x2 x3 x4 x5]; exact pay119_eq io24 (S x0 14)

/-- Stored value 239. -/
theorem n239 (x0 : Vec Ideal S2x12x197x197 .f32) (x1 x2 : Vec Ideal S394x768 .f32) (x3 : Vec Ideal S768x768 .f32) (x4 : Vec Ideal S1x768 .f32) (x5 : Vec Ideal S196x196 .f32) : k1_pay239 (F := Ideal) x0 x1 x2 x3 x4 x5 = S x0 20 := by
  unfold k1_pay239; rw [n226 x0 x1 x2 x3 x4 x5, n237 x0 x1 x2 x3 x4 x5, n238 x0 x1 x2 x3 x4 x5]; exact pay126_eq io24 (S x0 17)

/-- Stored value 240. -/
theorem n240 (x0 : Vec Ideal S2x12x197x197 .f32) (x1 x2 : Vec Ideal S394x768 .f32) (x3 : Vec Ideal S768x768 .f32) (x4 : Vec Ideal S1x768 .f32) (x5 : Vec Ideal S196x196 .f32) : k1_pay240 (F := Ideal) x0 x1 x2 x3 x4 x5 = atMax fit24 (S x0 20) := by
  unfold k1_pay240; rw [n226 x0 x1 x2 x3 x4 x5, n237 x0 x1 x2 x3 x4 x5, n238 x0 x1 x2 x3 x4 x5]; exact pay127_eq io24 (S x0 17)

/-- Stored value 241. -/
theorem n241 (x0 : Vec Ideal S2x12x197x197 .f32) (x1 x2 : Vec Ideal S394x768 .f32) (x3 : Vec Ideal S768x768 .f32) (x4 : Vec Ideal S1x768 .f32) (x5 : Vec Ideal S196x196 .f32) : k1_pay241 (F := Ideal) x0 x1 x2 x3 x4 x5 = T x0 23 := by
  unfold k1_pay241
  rw [n226 x0 x1 x2 x3 x4 x5, n227 x0 x1 x2 x3 x4 x5, n228 x0 x1 x2 x3 x4 x5, n229 x0 x1 x2 x3 x4 x5, n230 x0 x1 x2 x3 x4 x5, n231 x0 x1 x2 x3 x4 x5, n232 x0 x1 x2 x3 x4 x5, n233 x0 x1 x2 x3 x4 x5, n234 x0 x1 x2 x3 x4 x5, n235 x0 x1 x2 x3 x4 x5, n236 x0 x1 x2 x3 x4 x5, n237 x0 x1 x2 x3 x4 x5, n238 x0 x1 x2 x3 x4 x5, n239 x0 x1 x2 x3 x4 x5, n240 x0 x1 x2 x3 x4 x5, pay77_eq, rows_eq x0 x1 x2 x3 x4 x5, pay86_eq, pay94_eq, pay103_eq, pay110_eq, pay117_eq, pay125_eq, pay133_eq]
  rfl

/-- Stored value 242. -/
theorem n242 (x0 : Vec Ideal S2x12x197x197 .f32) (x1 x2 : Vec Ideal S394x768 .f32) (x3 : Vec Ideal S768x768 .f32) (x4 : Vec Ideal S1x768 .f32) (x5 : Vec Ideal S196x196 .f32) : k1_pay242 (F := Ideal) x0 x1 x2 x3 x4 x5 = select (atMax fit24 (S x0 23)) io24 (broadcast S24x196 196#32) := by
  unfold k1_pay242; rw [n226 x0 x1 x2 x3 x4 x5, n239 x0 x1 x2 x3 x4 x5, n240 x0 x1 x2 x3 x4 x5]; exact pay134_eq io24 (S x0 20)

/-- One sequence's row lies in the two. -/
theorem slicesRow (b : Fin 2) : S2x196.Slices ![b.val, 0] S1x196 := by
  revert b; decide

/-- Twelve heads' marks added up, one row for each of the two sequences. -/
def counts (m : FVec Ideal S24x196 .f32) : FVec Ideal S2x196 .f32 :=
  concatenate S2x196 0 [
    ⟨S1x196, shapeCast S1x196 (multiReduction .add [0] S196 (extractStridedSlice S12x196 ![0, 0] m slices_S24x196_o0_0_S12x196) 0x00000000#32 reduces_S12x196_S196 (.inl rfl) rfl) shapeCasts_S196_S1x196⟩,
    ⟨S1x196, shapeCast S1x196 (multiReduction .add [0] S196 (extractStridedSlice S12x196 ![12, 0] m slices_S24x196_o12_0_S12x196) 0x00000000#32 reduces_S12x196_S196 (.inl rfl) rfl) shapeCasts_S196_S1x196⟩]
    concatenates_S1x196_S1x196_S2x196_d0

/-- The counts weighted by the table. -/
def weigh (m : FVec Ideal S24x196 .f32) (c : Vec Ideal S196x196 .f32) : FVec Ideal S2x196 .f32 :=
  matmul (φ₁ := .f32) (φ₂ := .f32) dot_S2x196_S196x196_S2x196_1_0_0_1_n_n (some .fp32) (counts m) (c : FVec Ideal S196x196 .f32) (constant S2x196 .f32 0x00000000#32)

/-- The weighted counts. -/
theorem pay135_eq (m : FVec Ideal S24x196 .f32) (s : FVec Ideal S24x196 .f32) (c : Vec Ideal S196x196 .f32) : k1_pay135 (F := Ideal) io24 m (select (atMax fit24 s) io24 (broadcast S24x196 196#32)) c = (weigh (addf m (hot fit24 io24 s)) c) := rfl

/-- The first ranking round's marks. -/
theorem pay137_eq (m : FVec Ideal S24x196 .f32) (s : FVec Ideal S24x196 .f32) (c : Vec Ideal S196x196 .f32) : k1_pay137 (F := Ideal) io24 m (select (atMax fit24 s) io24 (broadcast S24x196 196#32)) c = hot fit2 io2 (weigh (addf m (hot fit24 io24 s)) c) := by
  rw [← pay135_eq]; rfl

/-- The second ranking round's marks. -/
theorem pay140_eq (m : FVec Ideal S24x196 .f32) (s : FVec Ideal S24x196 .f32) (c : Vec Ideal S196x196 .f32) : k1_pay140 (F := Ideal) io24 m (select (atMax fit24 s) io24 (broadcast S24x196 196#32)) c = hot fit2 io2 (next fit2 io2 (weigh (addf m (hot fit24 io24 s)) c)) := by
  rw [← pay135_eq]; rfl

/-- The ranking's stack after two rounds. -/
theorem pay141_eq (m : FVec Ideal S24x196 .f32) (s : FVec Ideal S24x196 .f32) (c : Vec Ideal S196x196 .f32) : k1_pay141 (F := Ideal) io24 m (select (atMax fit24 s) io24 (broadcast S24x196 196#32)) c = next fit2 io2 (next fit2 io2 (weigh (addf m (hot fit24 io24 s)) c)) := by
  rw [← pay135_eq]; rfl

/-- That stack's greatest entries. -/
theorem pay142_eq (m : FVec Ideal S24x196 .f32) (s : FVec Ideal S24x196 .f32) (c : Vec Ideal S196x196 .f32) : k1_pay142 (F := Ideal) io24 m (select (atMax fit24 s) io24 (broadcast S24x196 196#32)) c = multiReduction .maximumf [1] S2 (next fit2 io2 (next fit2 io2 (weigh (addf m (hot fit24 io24 s)) c))) 0xFF800000#32 reduces_S2x196_S2 (.inl rfl) rfl := by
  rw [← pay135_eq]; rfl

/-- The ranking's stack after `t` rounds. -/
abbrev U (x0 : Vec Ideal S2x12x197x197 .f32) (x5 : Vec Ideal S196x196 .f32) (t : ℕ) : FVec Ideal S2x196 .f32 :=
  stack fit2 io2 (weigh (T x0 24) x5) t

/-- The ranking's marks of round `t`. -/
abbrev H (x0 : Vec Ideal S2x12x197x197 .f32) (x5 : Vec Ideal S196x196 .f32) (t : ℕ) : FVec Ideal S2x196 .f32 :=
  hot fit2 io2 (U x0 x5 t)

/-- Stored value 243. -/
theorem n243 (x0 : Vec Ideal S2x12x197x197 .f32) (x1 x2 : Vec Ideal S394x768 .f32) (x3 : Vec Ideal S768x768 .f32) (x4 : Vec Ideal S1x768 .f32) (x5 : Vec Ideal S196x196 .f32) : k1_pay243 (F := Ideal) x0 x1 x2 x3 x4 x5 = io2 := rfl

/-- Stored value 244. -/
theorem n244 (x0 : Vec Ideal S2x12x197x197 .f32) (x1 x2 : Vec Ideal S394x768 .f32) (x3 : Vec Ideal S768x768 .f32) (x4 : Vec Ideal S1x768 .f32) (x5 : Vec Ideal S196x196 .f32) : k1_pay244 (F := Ideal) x0 x1 x2 x3 x4 x5 = H x0 x5 0 := by
  unfold k1_pay244; rw [n226 x0 x1 x2 x3 x4 x5, n241 x0 x1 x2 x3 x4 x5, n242 x0 x1 x2 x3 x4 x5, View.ld_unit_zero (S := S196x196) hz2]; exact pay137_eq (T x0 23) (S x0 23) x5

/-- Stored value 245. -/
theorem n245 (x0 : Vec Ideal S2x12x197x197 .f32) (x1 x2 : Vec Ideal S394x768 .f32) (x3 : Vec Ideal S768x768 .f32) (x4 : Vec Ideal S1x768 .f32) (x5 : Vec Ideal S196x196 .f32) : k1_pay245 (F := Ideal) x0 x1 x2 x3 x4 x5 = H x0 x5 1 := by
  unfold k1_pay245; rw [n226 x0 x1 x2 x3 x4 x5, n241 x0 x1 x2 x3 x4 x5, n242 x0 x1 x2 x3 x4 x5, View.ld_unit_zero (S := S196x196) hz2]; exact pay140_eq (T x0 23) (S x0 23) x5

/-- Stored value 246. -/
theorem n246 (x0 : Vec Ideal S2x12x197x197 .f32) (x1 x2 : Vec Ideal S394x768 .f32) (x3 : Vec Ideal S768x768 .f32) (x4 : Vec Ideal S1x768 .f32) (x5 : Vec Ideal S196x196 .f32) : k1_pay246 (F := Ideal) x0 x1 x2 x3 x4 x5 = U x0 x5 2 := by
  unfold k1_pay246; rw [n226 x0 x1 x2 x3 x4 x5, n241 x0 x1 x2 x3 x4 x5, n242 x0 x1 x2 x3 x4 x5, View.ld_unit_zero (S := S196x196) hz2]; exact pay141_eq (T x0 23) (S x0 23) x5

/-- Stored value 247. -/
theorem n247 (x0 : Vec Ideal S2x12x197x197 .f32) (x1 x2 : Vec Ideal S394x768 .f32) (x3 : Vec Ideal S768x768 .f32) (x4 : Vec Ideal S1x768 .f32) (x5 : Vec Ideal S196x196 .f32) : k1_pay247 (F := Ideal) x0 x1 x2 x3 x4 x5 = multiReduction .maximumf [1] S2 (U x0 x5 2) 0xFF800000#32 reduces_S2x196_S2 (.inl rfl) rfl := by
  unfold k1_pay247; rw [n226 x0 x1 x2 x3 x4 x5, n241 x0 x1 x2 x3 x4 x5, n242 x0 x1 x2 x3 x4 x5, View.ld_unit_zero (S := S196x196) hz2]; exact pay142_eq (T x0 23) (S x0 23) x5

/-- Stored value 248. -/
theorem n248 (x0 : Vec Ideal S2x12x197x197 .f32) (x1 x2 : Vec Ideal S394x768 .f32) (x3 : Vec Ideal S768x768 .f32) (x4 : Vec Ideal S1x768 .f32) (x5 : Vec Ideal S196x196 .f32) : k1_pay248 (F := Ideal) x0 x1 x2 x3 x4 x5 = H x0 x5 2 := by
  unfold k1_pay248; rw [n243 x0 x1 x2 x3 x4 x5, n246 x0 x1 x2 x3 x4 x5, n247 x0 x1 x2 x3 x4 x5]; exact pay144_eq io2 (U x0 x5 2)

/-- Stored value 249. -/
theorem n249 (x0 : Vec Ideal S2x12x197x197 .f32) (x1 x2 : Vec Ideal S394x768 .f32) (x3 : Vec Ideal S768x768 .f32) (x4 : Vec Ideal S1x768 .f32) (x5 : Vec Ideal S196x196 .f32) : k1_pay249 (F := Ideal) x0 x1 x2 x3 x4 x5 = H x0 x5 3 := by
  unfold k1_pay249; rw [n243 x0 x1 x2 x3 x4 x5, n246 x0 x1 x2 x3 x4 x5, n247 x0 x1 x2 x3 x4 x5]; exact pay147_eq io2 (U x0 x5 2)

/-- Stored value 250. -/
theorem n250 (x0 : Vec Ideal S2x12x197x197 .f32) (x1 x2 : Vec Ideal S394x768 .f32) (x3 : Vec Ideal S768x768 .f32) (x4 : Vec Ideal S1x768 .f32) (x5 : Vec Ideal S196x196 .f32) : k1_pay250 (F := Ideal) x0 x1 x2 x3 x4 x5 = H x0 x5 4 := by
  unfold k1_pay250; rw [n243 x0 x1 x2 x3 x4 x5, n246 x0 x1 x2 x3 x4 x5, n247 x0 x1 x2 x3 x4 x5]; exact pay150_eq io2 (U x0 x5 2)

/-- Stored value 251. -/
theorem n251 (x0 : Vec Ideal S2x12x197x197 .f32) (x1 x2 : Vec Ideal S394x768 .f32) (x3 : Vec Ideal S768x768 .f32) (x4 : Vec Ideal S1x768 .f32) (x5 : Vec Ideal S196x196 .f32) : k1_pay251 (F := Ideal) x0 x1 x2 x3 x4 x5 = U x0 x5 5 := by
  unfold k1_pay251; rw [n243 x0 x1 x2 x3 x4 x5, n246 x0 x1 x2 x3 x4 x5, n247 x0 x1 x2 x3 x4 x5]; exact pay151_eq io2 (U x0 x5 2)

/-- Stored value 252. -/
theorem n252 (x0 : Vec Ideal S2x12x197x197 .f32) (x1 x2 : Vec Ideal S394x768 .f32) (x3 : Vec Ideal S768x768 .f32) (x4 : Vec Ideal S1x768 .f32) (x5 : Vec Ideal S196x196 .f32) : k1_pay252 (F := Ideal) x0 x1 x2 x3 x4 x5 = select (atMax fit2 (U x0 x5 5)) io2 (broadcast S2x196 196#32) := by
  unfold k1_pay252; rw [n243 x0 x1 x2 x3 x4 x5, n246 x0 x1 x2 x3 x4 x5, n247 x0 x1 x2 x3 x4 x5]; exact pay152_eq io2 (U x0 x5 2)

/-- Stored value 253. -/
theorem n253 (x0 : Vec Ideal S2x12x197x197 .f32) (x1 x2 : Vec Ideal S394x768 .f32) (x3 : Vec Ideal S768x768 .f32) (x4 : Vec Ideal S1x768 .f32) (x5 : Vec Ideal S196x196 .f32) : k1_pay253 (F := Ideal) x0 x1 x2 x3 x4 x5 = H x0 x5 5 := by
  unfold k1_pay253; rw [n243 x0 x1 x2 x3 x4 x5, n252 x0 x1 x2 x3 x4 x5]; exact pay154_eq io2 (U x0 x5 5)

/-- Stored value 254. -/
theorem n254 (x0 : Vec Ideal S2x12x197x197 .f32) (x1 x2 : Vec Ideal S394x768 .f32) (x3 : Vec Ideal S768x768 .f32) (x4 : Vec Ideal S1x768 .f32) (x5 : Vec Ideal S196x196 .f32) : k1_pay254 (F := Ideal) x0 x1 x2 x3 x4 x5 = H x0 x5 6 := by
  unfold k1_pay254; rw [n243 x0 x1 x2 x3 x4 x5, n251 x0 x1 x2 x3 x4 x5, n252 x0 x1 x2 x3 x4 x5]; exact pay157_eq io2 (U x0 x5 5)

/-- Stored value 255. -/
theorem n255 (x0 : Vec Ideal S2x12x197x197 .f32) (x1 x2 : Vec Ideal S394x768 .f32) (x3 : Vec Ideal S768x768 .f32) (x4 : Vec Ideal S1x768 .f32) (x5 : Vec Ideal S196x196 .f32) : k1_pay255 (F := Ideal) x0 x1 x2 x3 x4 x5 = H x0 x5 7 := by
  unfold k1_pay255; rw [n243 x0 x1 x2 x3 x4 x5, n251 x0 x1 x2 x3 x4 x5, n252 x0 x1 x2 x3 x4 x5]; exact pay160_eq io2 (U x0 x5 5)

/-- Stored value 256. -/
theorem n256 (x0 : Vec Ideal S2x12x197x197 .f32) (x1 x2 : Vec Ideal S394x768 .f32) (x3 : Vec Ideal S768x768 .f32) (x4 : Vec Ideal S1x768 .f32) (x5 : Vec Ideal S196x196 .f32) : k1_pay256 (F := Ideal) x0 x1 x2 x3 x4 x5 = U x0 x5 8 := by
  unfold k1_pay256; rw [n243 x0 x1 x2 x3 x4 x5, n251 x0 x1 x2 x3 x4 x5, n252 x0 x1 x2 x3 x4 x5]; exact pay161_eq io2 (U x0 x5 5)

/-- Stored value 257. -/
theorem n257 (x0 : Vec Ideal S2x12x197x197 .f32) (x1 x2 : Vec Ideal S394x768 .f32) (x3 : Vec Ideal S768x768 .f32) (x4 : Vec Ideal S1x768 .f32) (x5 : Vec Ideal S196x196 .f32) : k1_pay257 (F := Ideal) x0 x1 x2 x3 x4 x5 = mark fit2 io2 (U x0 x5 8) := by
  unfold k1_pay257; rw [n243 x0 x1 x2 x3 x4 x5, n251 x0 x1 x2 x3 x4 x5, n252 x0 x1 x2 x3 x4 x5]; exact pay162_eq io2 (U x0 x5 5)

/-- Stored value 258. -/
theorem n258 (x0 : Vec Ideal S2x12x197x197 .f32) (x1 x2 : Vec Ideal S394x768 .f32) (x3 : Vec Ideal S768x768 .f32) (x4 : Vec Ideal S1x768 .f32) (x5 : Vec Ideal S196x196 .f32) : k1_pay258 (F := Ideal) x0 x1 x2 x3 x4 x5 = H x0 x5 8 := by
  unfold k1_pay258; rw [n243 x0 x1 x2 x3 x4 x5, n251 x0 x1 x2 x3 x4 x5, n252 x0 x1 x2 x3 x4 x5]; exact pay164_eq io2 (U x0 x5 5)

/-- Stored value 259. -/
theorem n259 (x0 : Vec Ideal S2x12x197x197 .f32) (x1 x2 : Vec Ideal S394x768 .f32) (x3 : Vec Ideal S768x768 .f32) (x4 : Vec Ideal S1x768 .f32) (x5 : Vec Ideal S196x196 .f32) : k1_pay259 (F := Ideal) x0 x1 x2 x3 x4 x5 = H x0 x5 9 := by
  unfold k1_pay259; rw [n243 x0 x1 x2 x3 x4 x5, n256 x0 x1 x2 x3 x4 x5, n257 x0 x1 x2 x3 x4 x5]; exact pay167_eq io2 (U x0 x5 8)

/-- Stored value 260. -/
theorem n260 (x0 : Vec Ideal S2x12x197x197 .f32) (x1 x2 : Vec Ideal S394x768 .f32) (x3 : Vec Ideal S768x768 .f32) (x4 : Vec Ideal S1x768 .f32) (x5 : Vec Ideal S196x196 .f32) : k1_pay260 (F := Ideal) x0 x1 x2 x3 x4 x5 = H x0 x5 10 := by
  unfold k1_pay260; rw [n243 x0 x1 x2 x3 x4 x5, n256 x0 x1 x2 x3 x4 x5, n257 x0 x1 x2 x3 x4 x5]; exact pay170_eq io2 (U x0 x5 8)

/-- Stored value 261. -/
theorem n261 (x0 : Vec Ideal S2x12x197x197 .f32) (x1 x2 : Vec Ideal S394x768 .f32) (x3 : Vec Ideal S768x768 .f32) (x4 : Vec Ideal S1x768 .f32) (x5 : Vec Ideal S196x196 .f32) : k1_pay261 (F := Ideal) x0 x1 x2 x3 x4 x5 = H x0 x5 11 := by
  unfold k1_pay261; rw [n243 x0 x1 x2 x3 x4 x5, n256 x0 x1 x2 x3 x4 x5, n257 x0 x1 x2 x3 x4 x5]; exact pay173_eq io2 (U x0 x5 8)

/-- Stored value 262. -/
theorem n262 (x0 : Vec Ideal S2x12x197x197 .f32) (x1 x2 : Vec Ideal S394x768 .f32) (x3 : Vec Ideal S768x768 .f32) (x4 : Vec Ideal S1x768 .f32) (x5 : Vec Ideal S196x196 .f32) : k1_pay262 (F := Ideal) x0 x1 x2 x3 x4 x5 = U x0 x5 12 := by
  unfold k1_pay262; rw [n243 x0 x1 x2 x3 x4 x5, n256 x0 x1 x2 x3 x4 x5, n257 x0 x1 x2 x3 x4 x5]; exact pay174_eq io2 (U x0 x5 8)

/-- Stored value 263. -/
theorem n263 (x0 : Vec Ideal S2x12x197x197 .f32) (x1 x2 : Vec Ideal S394x768 .f32) (x3 : Vec Ideal S768x768 .f32) (x4 : Vec Ideal S1x768 .f32) (x5 : Vec Ideal S196x196 .f32) : k1_pay263 (F := Ideal) x0 x1 x2 x3 x4 x5 = multiReduction .maximumf [1] S2 (U x0 x5 12) 0xFF800000#32 reduces_S2x196_S2 (.inl rfl) rfl := by
  unfold k1_pay263; rw [n243 x0 x1 x2 x3 x4 x5, n256 x0 x1 x2 x3 x4 x5, n257 x0 x1 x2 x3 x4 x5]; exact pay175_eq io2 (U x0 x5 8)

/-- Stored value 264. -/
theorem n264 (x0 : Vec Ideal S2x12x197x197 .f32) (x1 x2 : Vec Ideal S394x768 .f32) (x3 : Vec Ideal S768x768 .f32) (x4 : Vec Ideal S1x768 .f32) (x5 : Vec Ideal S196x196 .f32) : k1_pay264 (F := Ideal) x0 x1 x2 x3 x4 x5 = H x0 x5 12 := by
  unfold k1_pay264; rw [n243 x0 x1 x2 x3 x4 x5, n262 x0 x1 x2 x3 x4 x5, n263 x0 x1 x2 x3 x4 x5]; exact pay177_eq io2 (U x0 x5 12)

/-- Stored value 265. -/
theorem n265 (x0 : Vec Ideal S2x12x197x197 .f32) (x1 x2 : Vec Ideal S394x768 .f32) (x3 : Vec Ideal S768x768 .f32) (x4 : Vec Ideal S1x768 .f32) (x5 : Vec Ideal S196x196 .f32) : k1_pay265 (F := Ideal) x0 x1 x2 x3 x4 x5 = H x0 x5 13 := by
  unfold k1_pay265; rw [n243 x0 x1 x2 x3 x4 x5, n262 x0 x1 x2 x3 x4 x5, n263 x0 x1 x2 x3 x4 x5]; exact pay180_eq io2 (U x0 x5 12)

/-- Stored value 266. -/
theorem n266 (x0 : Vec Ideal S2x12x197x197 .f32) (x1 x2 : Vec Ideal S394x768 .f32) (x3 : Vec Ideal S768x768 .f32) (x4 : Vec Ideal S1x768 .f32) (x5 : Vec Ideal S196x196 .f32) : k1_pay266 (F := Ideal) x0 x1 x2 x3 x4 x5 = H x0 x5 14 := by
  unfold k1_pay266; rw [n243 x0 x1 x2 x3 x4 x5, n262 x0 x1 x2 x3 x4 x5, n263 x0 x1 x2 x3 x4 x5]; exact pay183_eq io2 (U x0 x5 12)

/-- Stored value 267. -/
theorem n267 (x0 : Vec Ideal S2x12x197x197 .f32) (x1 x2 : Vec Ideal S394x768 .f32) (x3 : Vec Ideal S768x768 .f32) (x4 : Vec Ideal S1x768 .f32) (x5 : Vec Ideal S196x196 .f32) : k1_pay267 (F := Ideal) x0 x1 x2 x3 x4 x5 = H x0 x5 15 := by
  unfold k1_pay267; rw [n243 x0 x1 x2 x3 x4 x5, n262 x0 x1 x2 x3 x4 x5, n263 x0 x1 x2 x3 x4 x5]; exact pay185_eq io2 (U x0 x5 12)

/-- One sequence's rows of marks, one for each round. -/
def rowsOf (b : Fin 2) (v : Fin 16 → FVec Ideal S2x196 .f32) : FVec Ideal S1x16x196 .f32 :=
  shapeCast S1x16x196 (concatenate S16x196 0 (List.ofFn fun t : Fin 16 => (⟨S1x196, extractStridedSlice S1x196 ![b.val, 0] (v t) (slicesRow b)⟩ : (s : Shape) × (s.Idx → Ideal .f32)))
    concatenates_S1x196_S1x196_S1x196_S1x196_S1x196_S1x196_S1x196_S1x196_S1x196_S1x196_S1x196_S1x196_S1x196_S1x196_S1x196_S1x196_S16x196_d0) shapeCasts_S16x196_S1x16x196

/-- Those rows at an index. -/
theorem rowsOf_apply (b : Fin 2) (v : Fin 16 → FVec Ideal S2x196 .f32) (t : Fin 16) (l : Fin 196) :
    rowsOf b v (ix3 0 t l) = v t (ix2 b l) := by
  unfold rowsOf
  refine (shapeCast_apply _ _ _ (ix2 t l) ?_).trans ?_
  · rw [Shape.rowMajor_val_two, Shape.rowMajor_val_three]
    show t.val * 196 + l.val = (0 * 16 + t.val) * 196 + l.val
    omega
  · refine (concatenate_ofFn_unit_apply (α := Ideal .f32) (s₁ := S1x196) (t := S16x196) 0 (fun t : Fin 16 => extractStridedSlice S1x196 ![b.val, 0]
      (v t) (slicesRow b)) _ rfl rfl (ix2 t l) t rfl (ix2 0 l) fun a ha => ?_).trans ?_
    · match a with
      | ⟨0, _⟩ => exact absurd rfl ha
      | ⟨1, _⟩ => rfl
    · refine extractStridedSlice_apply _ _ _ _ (ix2 b l) fun a => ?_
      match a with
      | ⟨0, _⟩ => rfl
      | ⟨1, _⟩ => exact (Nat.zero_add _).symm

/-- The marks the region leaves: at a sequence, a round and a lane. -/
def marks (x0 : Vec Ideal S2x12x197x197 .f32) (x5 : Vec Ideal S196x196 .f32) : FVec Ideal S2x16x196 .f32 := fun i => H x0 x5 (i 1).val (ix2 (i 0) (i 2))

/-- One sequence's marks lie in the array of both. -/
theorem inbMarks (b : Fin 2) : ∀ a, (![b.val, 0, 0] : Fin 3 → Nat) a + S1x16x196.size a ≤ S2x16x196.size a := by
  revert b; decide

/-- Sequence `b`'s rows are those marks. -/
theorem piece_eq (x0 : Vec Ideal S2x12x197x197 .f32) (x5 : Vec Ideal S196x196 .f32) (b : Fin 2)
    (j : S1x16x196.Idx) : rowsOf b (fun t => H x0 x5 t.val) j = marks x0 x5 ((Rect.unit (s := S2x16x196) ![b.val, 0, 0] S1x16x196.size (inbMarks b)).emb j) := by
  have hj : j = ix3 0 (j 1) (j 2) := by
    funext a
    match a with
    | ⟨0, _⟩ => exact Fin.ext (by have := (j 0).isLt; show (j 0).val = 0; change (j 0).val < 1 at this; omega)
    | ⟨1, _⟩ => rfl
    | ⟨2, _⟩ => rfl
  rw [hj]
  have key : ∀ (t : Fin 16) (l : Fin 196), rowsOf b (fun t => H x0 x5 t.val) (ix3 0 t l)
      = marks x0 x5 ((Rect.unit (s := S2x16x196) ![b.val, 0, 0] S1x16x196.size (inbMarks b)).emb (ix3 0 t l)) := by
    intro t l
    have e : (Rect.unit (s := S2x16x196) ![b.val, 0, 0] S1x16x196.size (inbMarks b)).emb (ix3 0 t l) = ix3 b t l := by
      funext a; apply Fin.ext
      match a with
      | ⟨0, _⟩ => show b.val + 1 * 0 = b.val; omega
      | ⟨1, _⟩ => show 0 + 1 * t.val = t.val; omega
      | ⟨2, _⟩ => show 0 + 1 * l.val = l.val; omega
    rw [e, rowsOf_apply]
    rfl
  exact key (j 1) (j 2)

/-- The region leaves the marks. -/
theorem out1_7_eq (x0 : Vec Ideal S2x12x197x197 .f32) (x1 x2 : Vec Ideal S394x768 .f32) (x3 : Vec Ideal S768x768 .f32) (x4 : Vec Ideal S1x768 .f32) (x5 : Vec Ideal S196x196 .f32) : out1_7 (F := Ideal) x0 x1 x2 x3 x4 x5 = marks x0 x5 := by
  have e0 : ∀ v : Fin 16 → FVec Ideal S2x196 .f32, k1_pay186 (v 0) (v 1) (v 2) (v 3) (v 4) (v 5) (v 6) (v 7) (v 8) (v 9) (v 10) (v 11) (v 12) (v 13) (v 14) (v 15) = rowsOf 0 v := fun v => rfl
  have e1 : ∀ v : Fin 16 → FVec Ideal S2x196 .f32, k1_pay1 (v 12) (v 13) (v 14) (v 15) (k1_pay187 (v 0)) (k1_pay188 (v 1)) (k1_pay189 (v 2)) (k1_pay190 (v 3)) (k1_pay191 (v 4)) (k1_pay192 (v 5)) (k1_pay193 (v 6)) (k1_pay194 (v 7)) (k1_pay195 (v 8)) (k1_pay196 (v 9)) (k1_pay197 (v 10)) (k1_pay198 (v 11)) = rowsOf 1 v := fun v => rfl
  have h0 := e0 fun t => H x0 x5 t.val
  have h1 := e1 fun t => H x0 x5 t.val
  funext y
  unfold out1_7
  rw [n244 x0 x1 x2 x3 x4 x5, n245 x0 x1 x2 x3 x4 x5, n248 x0 x1 x2 x3 x4 x5, n249 x0 x1 x2 x3 x4 x5, n250 x0 x1 x2 x3 x4 x5, n253 x0 x1 x2 x3 x4 x5, n254 x0 x1 x2 x3 x4 x5, n255 x0 x1 x2 x3 x4 x5, n258 x0 x1 x2 x3 x4 x5, n259 x0 x1 x2 x3 x4 x5, n260 x0 x1 x2 x3 x4 x5, n261 x0 x1 x2 x3 x4 x5, n264 x0 x1 x2 x3 x4 x5, n265 x0 x1 x2 x3 x4 x5, n266 x0 x1 x2 x3 x4 x5, n267 x0 x1 x2 x3 x4 x5]
  refine View.canon_apply_of_pieces (Val := Elt Ideal) (e := .f32) (marks x0 x5) _ ?_ y (cover1_7 _ _ y)
  refine List.forall_mem_cons.2 ⟨fun j => (congrFun h1 j).trans (piece_eq x0 x5 1 j), ?_⟩
  refine List.forall_mem_cons.2 ⟨fun j => (congrFun h0 j).trans (piece_eq x0 x5 0 j), ?_⟩
  exact fun _ h => absurd h List.not_mem_nil

end Cert.Proof.Chain
-- ==== Proof.Order.lean ====
/- The reference's two selections read at an index: the positions of the greatest entries of a row, and of a row sorted by its
   negated entries, are those of the stable sort that puts the greater entry first. -/
module

public import proofs.«01_k».proof.Proof.Gen.ReferenceIdeal.Read
public import proofs.«01_k».proof.Proof.Select
public import Idealize.ShloMosaic.Lib.ValueIdx

@[expose] public section

set_option maxRecDepth 16384

noncomputable section

namespace Cert.Proof.Order

open Cert.ReferenceIdeal Cert.ReferenceIdeal.Read Cert.Proof.Select
open Idealize.ShloMosaic Idealize.ShloMosaic.ValueIdx
open scoped BigOperators

/-- The position the stable sort of a row, greater entry first, puts at place `k`. -/
def rank (s : Fin 196 → EReal) (k : Fin 196) : Fin 196 := sortedFrom (fun i j => decide (s j < s i)) k

/-- A bit that tells a condition is one exactly where it holds. -/
theorem ofBool_beq (b : Bool) : (BitVec.ofBool b == 1#1) = b := by cases b <;> rfl

/-- The greater-than comparator. -/
theorem gt_beq (a b : Ideal .f32) : (FloatOps.cmpfTotal (F := Ideal) (φ := .f32) .gt a b == 1#1) = decide (LT.lt (α := EReal) b a) :=
  ofBool_beq _

/-- A row of the scores along its lanes. -/
theorem along_three (b : Fin 2) (h : Fin 12) (k l : Fin 196) :
    Shape.Idx.along (s := S2x12x196) (ix3 b h k) (2 : Fin 3) l = ix3 b h l := by
  funext a
  match a with
  | ⟨0, _⟩ => rfl
  | ⟨1, _⟩ => rfl
  | ⟨2, _⟩ => rfl

/-- A row of the board along its lanes. -/
theorem along_two (b : Fin 2) (k l : Fin 196) : Shape.Idx.along (s := S2x196) (ix2 b k) (1 : Fin 2) l = ix2 b l := by
  funext a
  match a with
  | ⟨0, _⟩ => rfl
  | ⟨1, _⟩ => rfl

/-- What a sort of the scores' rows carries along, at an index. -/
theorem sort_three {α β : Type} (cmp : α × β → α × β → BitVec 1) (x : S2x12x196.Idx → α) (y : S2x12x196.Idx → β) (b : Fin 2) (h : Fin 12) (k : Fin 196) :
    (Host.sort2 S2x12x196 2 cmp x y).2 (ix3 b h k)
      = y (ix3 b h (sortedFrom (fun i j => cmp (x (ix3 b h i), y (ix3 b h i)) (x (ix3 b h j), y (ix3 b h j)) == 1#1) k)) := by
  unfold Host.sort2
  rw [dif_pos (show 2 < S2x12x196.rank by decide)]
  show (fun f : Fin 196 → S2x12x196.Idx => y (f (sortedFrom (fun i j => cmp (x (f i), y (f i)) (x (f j), y (f j)) == 1#1) k)))
    (fun l => Shape.Idx.along (s := S2x12x196) (ix3 b h k) (2 : Fin 3) l) = _
  rw [funext (along_three b h k)]

/-- What a sort of the board's rows carries along, at an index. -/
theorem sort_two {α β : Type} (cmp : α × β → α × β → BitVec 1) (x : S2x196.Idx → α) (y : S2x196.Idx → β) (b : Fin 2) (k : Fin 196) :
    (Host.sort2 S2x196 1 cmp x y).2 (ix2 b k)
      = y (ix2 b (sortedFrom (fun i j => cmp (x (ix2 b i), y (ix2 b i)) (x (ix2 b j), y (ix2 b j)) == 1#1) k)) := by
  unfold Host.sort2
  rw [dif_pos (show 1 < S2x196.rank by decide)]
  show (fun f : Fin 196 → S2x196.Idx => y (f (sortedFrom (fun i j => cmp (x (f i), y (f i)) (x (f j), y (f j)) == 1#1) k)))
    (fun l => Shape.Idx.along (s := S2x196) (ix2 b k) (1 : Fin 2) l) = _
  rw [funext (along_two b k)]

/-- The positions of the greatest entries, at an index. -/
theorem topK_apply (x : FVec Ideal S2x12x196 .f32) (hx : S2x12x196.Slices (fun _ => 0) S2x12x24) (b : Fin 2) (h : Fin 12) (k : Fin 24) :
    (Host.topK S2x12x24 2 (FloatOps.cmpfTotal .gt) x hx).2 (ix3 b h k)
      = BitVec.ofNat 32 (rank (fun l => x (ix3 b h l)) (k.castLE (by decide))).val := by
  show extractStridedSlice S2x12x24 (fun _ => 0) (Host.sort2 S2x12x196 2 (fun l r => FloatOps.cmpfTotal (F := Ideal) (φ := .f32) .gt l.1 r.1) x
    (fun i => if hd : 2 < S2x12x196.rank then iotaInDim S2x12x196 32 ⟨2, hd⟩ i else 0#32)).2 hx (ix3 b h k) = _
  refine (extractStridedSlice_apply _ _ hx _ (ix3 b h (k.castLE (by decide))) fun a => ?_).trans ?_
  · match a with
    | ⟨0, _⟩ => exact (Nat.zero_add _).symm
    | ⟨1, _⟩ => exact (Nat.zero_add _).symm
    | ⟨2, _⟩ => exact (Nat.zero_add _).symm
  · rw [sort_three]
    simp only [gt_beq]
    rw [dif_pos (show 2 < S2x12x196.rank by decide)]
    rfl

/-- The comparator of the sort by negated entries. -/
theorem neg_beq (a b : EReal) (u v : BitVec 32) : (comparator_f32_i32_d1 (F := Ideal) (-a, u) (-b, v) == 1#1) = decide (b < a) := by
  have key : ∀ c : EReal, Scalar.select (FloatOps.cmpf (F := Ideal) (φ := .f32) .une c c) (FloatOps.ofBits (F := Ideal) .f32 0x7FC00000#32)
      (Scalar.select (FloatOps.cmpf (F := Ideal) (φ := .f32) .oeq c (FloatOps.ofBits (F := Ideal) .f32 0x00000000#32)) (FloatOps.ofBits (F := Ideal) .f32 0x00000000#32) c) = c := by
    intro c
    have e1 : FloatOps.cmpf (F := Ideal) (φ := .f32) .une c c = 0#1 := by
      show BitVec.ofBool (decide (c ≠ c)) = 0#1
      simp
    rw [e1]
    refine (if_neg (by decide)).trans ?_
    by_cases h : c = FloatOps.ofBits (F := Ideal) .f32 0x00000000#32
    · have e2 : FloatOps.cmpf (F := Ideal) (φ := .f32) .oeq c (FloatOps.ofBits (F := Ideal) .f32 0x00000000#32) = 1#1 := by
        show BitVec.ofBool (decide (c = _)) = 1#1
        rw [decide_eq_true h]; rfl
      rw [e2]
      exact (if_pos rfl).trans h.symm
    · have e2 : FloatOps.cmpf (F := Ideal) (φ := .f32) .oeq c (FloatOps.ofBits (F := Ideal) .f32 0x00000000#32) = 0#1 := by
        show BitVec.ofBool (decide (c = _)) = 0#1
        rw [decide_eq_false h]; rfl
      rw [e2]
      exact if_neg (by decide)
  unfold comparator_f32_i32_d1
  dsimp only
  rw [key, key]
  refine (ofBool_beq (decide (LT.lt (α := EReal) (-a) (-b)))).trans ?_
  exact decide_eq_decide.mpr EReal.neg_lt_neg_iff

/-- The positions of a row sorted by its negated entries, at an index. -/
theorem argsort_apply (x : FVec Ideal S2x196 .f32) (b : Fin 2) (k : Fin 196) :
    (Host.sort2 S2x196 1 (comparator_f32_i32_d1 (F := Ideal)) (Host.negf x) (iotaInDim S2x196 32 1)).2 (ix2 b k)
      = BitVec.ofNat 32 (rank (fun l => x (ix2 b l)) k).val := by
  rw [sort_two]
  refine congrArg (fun B : Fin 196 → Fin 196 → Bool => BitVec.ofNat 32 (sortedFrom B k).val) (funext fun i => funext fun j => ?_)
  exact neg_beq (x (ix2 b i)) (x (ix2 b j)) _ _

/-- The rank of a row is what the rounds pick. -/
theorem rank_eq {c : EReal} {s : Fin 196 → EReal} {w : ℕ → Fin 196 → EReal} {σ : ℕ → Fin 196} (h : Rounds c s w σ) (k : Fin 196) :
    rank s k = σ k.val :=
  h.sortedFrom_eq (fun i j => decide (s j < s i)) (fun _ _ => rfl) (le_refl 196) k

/-! ## Nothing selected from is negative -/

/-- An exponential is not negative. -/
theorem exp_nonneg (x : EReal) : 0 ≤ Ideal.exp x := by
  unfold Ideal.exp
  split
  · exact le_refl _
  · exact le_top
  · exact EReal.coe_nonneg.mpr (Real.exp_pos _).le

/-- A quotient of numbers not negative, by one not zero, is not negative. -/
theorem div_nonneg {x y : EReal} (hx : 0 ≤ x) (hy : 0 ≤ y) (hy0 : y ≠ 0) : 0 ≤ Ideal.div x y := by
  unfold Ideal.div
  rw [if_neg hy0]
  exact mul_nonneg hx (EReal.inv_nonneg_of_nonneg hy)

end Cert.Proof.Order
-- ==== Proof.Vote.lean ====
/- The votes: how often the heads' leading scores picked each lane, in the reference and in the kernel. -/
module

public import proofs.«01_k».proof.Proof.Chain
public import proofs.«01_k».proof.Proof.Order

@[expose] public section

set_option maxRecDepth 16384

noncomputable section

namespace Cert.Proof.Vote

open Cert.KernelIdeal Cert.KernelIdeal.Gen Cert.Proof.Qkv Cert.Proof.Av Cert.Proof.Pick Cert.Proof.Chain Cert.Proof.Order
open Cert.ReferenceIdeal.Read
open Idealize.ShloMosaic Idealize.ShloMosaic.ValueIdx
open scoped BigOperators

/-- The row of a sequence's head. -/
def headRow (b : Fin 2) (h : Fin 12) : Fin 24 := ⟨b.val * 12 + h.val, by have := b.isLt; have := h.isLt; omega⟩

/-- The lane a head picks in a round. -/
abbrev choice (a : Vec Ideal S2x12x197x197 .f32) (b : Fin 2) (h : Fin 12) (t : ℕ) : Fin 196 := pick fit24 io24 (scores a) (headRow b h) t

/-- Numbers of lanes are equal as words only if equal. -/
theorem word_eq (i j : Fin 196) : IntOp.cmpi .eq (BitVec.ofNat 32 i.val) (BitVec.ofNat 32 j.val) = if j = i then 1#1 else 0#1 := by
  by_cases h : j = i
  · rw [if_pos h, h]
    show BitVec.ofBool (BitVec.ofNat 32 i.val == BitVec.ofNat 32 i.val) = 1#1
    simp
  · rw [if_neg h]
    have hn : BitVec.ofNat 32 i.val ≠ BitVec.ofNat 32 j.val := fun e => h (Fin.ext (by
      have := congrArg BitVec.toNat e
      rw [BitVec.toNat_ofNat, BitVec.toNat_ofNat, Nat.mod_eq_of_lt (by have := i.isLt; omega), Nat.mod_eq_of_lt (by have := j.isLt; omega)] at this
      exact this.symm))
    show BitVec.ofBool (BitVec.ofNat 32 i.val == BitVec.ofNat 32 j.val) = 0#1
    rw [beq_eq_false_iff_ne.mpr hn]; rfl

/-- A bit as a float. -/
theorem bit_eq (p : Prop) [Decidable p] : (FloatOps.uitofp (F := Ideal) .f32 (if p then 1#1 else 0#1) : EReal) = if p then 1 else 0 := by
  by_cases h : p
  · rw [if_pos h, if_pos h]
    show ((((1#1 : BitVec 1).toNat : ℝ)) : EReal) = 1
    simp
  · rw [if_neg h, if_neg h]
    show ((((0#1 : BitVec 1).toNat : ℝ)) : EReal) = 0
    simp

/-- A sum over the 288 choices is a sum over heads and rounds. -/
theorem sum_choices (g : ℕ → ℕ → EReal) : ∑ k : Fin 288, g (k.val / 24) (k.val % 24) = ∑ h : Fin 12, ∑ t ∈ Finset.range 24, g h.val t := by
  rw [← Equiv.sum_comp (finProdFinEquiv (m := 12) (n := 24)) (fun k : Fin 288 => g (k.val / 24) (k.val % 24)), Fintype.sum_prod_type]
  refine Finset.sum_congr rfl fun h _ => ?_
  rw [← Fin.sum_univ_eq_sum_range]
  refine Finset.sum_congr rfl fun t _ => ?_
  have e : ((finProdFinEquiv (m := 12) (n := 24)) (h, t)).val = t.val + 24 * h.val := rfl
  have := t.isLt
  rw [e, show (t.val + 24 * h.val) / 24 = h.val by omega, show (t.val + 24 * h.val) % 24 = t.val by omega]

/-- The counts at an index, of sums of marks. -/
theorem counts_apply (m : FVec Ideal S24x196 .f32) (b : Fin 2) (p : Fin 196) : counts m (ix2 b p) = ∑ h : Fin 12, m (ix2 (headRow b h) p) := by
  have hred : ∀ (o : Fin 2 → Nat) (ho : S24x196.Slices o S12x196) (q : Fin 12 → Fin 24) (hq : ∀ h, (q h).val = o 0 + h.val) (h1 : o 1 = 0) (p : Fin 196),
      shapeCast S1x196 (multiReduction (φ := .f32) .add [0] S196 (extractStridedSlice S12x196 o m ho) 0x00000000#32 reduces_S12x196_S196 (.inl rfl) rfl) shapeCasts_S196_S1x196 (ix2 0 p)
        = ∑ h : Fin 12, m (ix2 (q h) p) := by
    intro o ho q hq h1 p
    refine (shapeCast_apply _ shapeCasts_S196_S1x196 (ix2 0 p) (ix1 p) ?_).trans ?_
    · rw [Shape.rowMajor_val_one, Shape.rowMajor_val_two]
      show p.val = 0 * 196 + p.val; omega
    · refine (Ideal.multiReduction_add_single _ _ reduces_S12x196_S196 _ _ (ix1 p)).trans (Finset.sum_congr rfl fun h _ => ?_)
      refine extractStridedSlice_apply o m ho _ (ix2 (q h) p) fun a => ?_
      match a with
      | ⟨0, _⟩ => show (q h).val = o 0 + h.val; exact hq h
      | ⟨1, _⟩ => show p.val = o 1 + p.val; omega
  unfold counts
  match b with
  | ⟨0, hb⟩ =>
    refine (concatenate_pair_apply_left (t := S2x196) (s₁ := S1x196) (s₂ := S1x196) (0 : Fin 2) _ _ concatenates_S1x196_S1x196_S2x196_d0 (ix2 (n0 := 2) ⟨0, hb⟩ p) rfl (ix2 0 p)
      fun a => match a with | ⟨0, _⟩ => rfl | ⟨1, _⟩ => rfl).trans ?_
    exact hred ![0, 0] slices_S24x196_o0_0_S12x196 (headRow ⟨0, hb⟩) (fun h => rfl) rfl p
  | ⟨1, hb⟩ =>
    refine (concatenate_pair_apply_right (t := S2x196) (s₁ := S1x196) (s₂ := S1x196) (0 : Fin 2) _ _ concatenates_S1x196_S1x196_S2x196_d0 (ix2 (n0 := 2) ⟨1, hb⟩ p) rfl rfl (ix2 0 p)
      (fun a => match a with | ⟨0, _⟩ => fun h => absurd rfl h | ⟨1, _⟩ => fun _ => rfl) rfl).trans ?_
    exact hred ![12, 0] slices_S24x196_o12_0_S12x196 (headRow ⟨1, hb⟩) (fun h => rfl) rfl p

variable (x0 : FVec Ideal S394x768 .f32) (x1 x2 : FVec Ideal S768 .f32) (x3 : FVec Ideal S768x768 .f32) (x4 : FVec Ideal S768 .f32) (x5 : FVec Ideal S768x768 .f32)
  (x6 : FVec Ideal S768 .f32)

/-- The scores the reference ranks are the kernel's. -/
theorem v113_apply (b : Fin 2) (h : Fin 12) (l : Fin 196) :
    val_main_v113 (F := Ideal) x0 x1 x2 x3 x4 x5 x6 (ix3 b h l) = scores (val_main_v56 (F := Ideal) x0 x1 x2 x3 x4 x5 x6) (ix2 (headRow b h) l) := by
  rw [val_main_v113_apply, val_main_v112_apply, scores_apply]
  refine congrArg _ (funext fun a => Fin.ext ?_)
  have := b.isLt; have := h.isLt; have := l.isLt
  match a with
  | ⟨0, _⟩ => show ((b.val * 12 + h.val) * 196 + l.val) / 2352 = (b.val * 12 + h.val) / 12; omega
  | ⟨1, _⟩ => show ((b.val * 12 + h.val) * 196 + l.val) / 196 % 12 = (b.val * 12 + h.val) % 12; omega
  | ⟨2, _⟩ => rfl
  | ⟨3, _⟩ => show 1 + ((b.val * 12 + h.val) * 196 + l.val) % 196 = l.val + 1; omega

/-- The reference's leading scores are the kernel's choices. -/
theorem indices_apply (hs : ∀ i, 0 ≤ val_main_v56 (F := Ideal) x0 x1 x2 x3 x4 x5 x6 i) (b : Fin 2) (h : Fin 12) (k : Fin 24) :
    val_main_indices (F := Ideal) x0 x1 x2 x3 x4 x5 x6 (ix3 b h k) = BitVec.ofNat 32 (choice (val_main_v56 (F := Ideal) x0 x1 x2 x3 x4 x5 x6) b h k.val).val := by
  unfold val_main_indices
  rw [topK_apply]
  simp only [v113_apply]
  rw [rank_eq (rounds fit24 io24 io24_apply (scores (val_main_v56 (F := Ideal) x0 x1 x2 x3 x4 x5 x6)) (headRow b h) fun l => by rw [scores_apply]; exact hs _)]
  rfl

/-- The reference's votes are the kernel's counts. -/
theorem votes_eq (hs : ∀ i, 0 ≤ val_main_v56 (F := Ideal) x0 x1 x2 x3 x4 x5 x6 i) (b : Fin 2) (p : Fin 196) :
    val_main_v116 (F := Ideal) x0 x1 x2 x3 x4 x5 x6 (ix2 b p) = counts (Chain.T (val_main_v56 (F := Ideal) x0 x1 x2 x3 x4 x5 x6) 24) (ix2 b p) := by
  have hz : (FloatOps.ofBits (F := Ideal) .f32 0x00000000#32 : EReal) = 0 := Ideal.ofBits_zero_f32
  rw [val_main_v116_apply, val_main_cst_17_apply, hz, zero_add, counts_apply]
  simp only [Chain.T, total_apply fit24 io24 io24_apply]
  have key : ∀ k : Fin 288, val_main_v115 (F := Ideal) x0 x1 x2 x3 x4 x5 x6 (idx_main_v116 (ix2 b p) k)
      = if p = choice (val_main_v56 (F := Ideal) x0 x1 x2 x3 x4 x5 x6) b ⟨k.val / 24 % 12, Nat.mod_lt _ (by decide)⟩ (k.val % 24) then (1 : EReal) else 0 := by
    intro k
    rw [val_main_v115_apply, val_main_call0_v4_apply, val_main_call0_v3_apply, val_main_call0_v1_apply, val_main_call0_v2_apply, val_main_call0_v0_apply, val_main_v114_apply]
    have e : idx_main_v114 (idx_main_call0_v0 (idx_main_call0_v2 (idx_main_v116 (ix2 b p) k))) = ix3 b ⟨k.val / 24 % 12, Nat.mod_lt _ (by decide)⟩ ⟨k.val % 24, Nat.mod_lt _ (by decide)⟩ := by
      refine funext fun a => Fin.ext ?_
      have := b.isLt; have := k.isLt
      match a with
      | ⟨0, _⟩ => show (b.val * 288 + k.val) / 288 = b.val; omega
      | ⟨1, _⟩ => show (b.val * 288 + k.val) / 24 % 12 = k.val / 24 % 12; omega
      | ⟨2, _⟩ => show (b.val * 288 + k.val) % 24 = k.val % 24; omega
    rw [e, indices_apply x0 x1 x2 x3 x4 x5 x6 hs]
    refine (congrArg _ (word_eq _ p)).trans (bit_eq _)
  rw [Finset.sum_congr rfl fun k _ => key k]
  refine (sum_choices fun h t => if p = choice (val_main_v56 (F := Ideal) x0 x1 x2 x3 x4 x5 x6) b ⟨h % 12, Nat.mod_lt _ (by decide)⟩ t then (1 : EReal) else 0).trans ?_
  refine Finset.sum_congr rfl fun h _ => Finset.sum_congr rfl fun t _ => ?_
  have e : (⟨h.val % 12, Nat.mod_lt _ (by decide)⟩ : Fin 12) = h := Fin.ext (Nat.mod_eq_of_lt h.isLt)
  rw [e]

/-- The counts are at least zero. -/
theorem counts_nonneg (a : Vec Ideal S2x12x197x197 .f32) (i) : 0 ≤ counts (Chain.T a 24) i := by
  obtain ⟨b, p, rfl⟩ : ∃ b p, i = ix2 b p := ⟨_, _, eq_ix2 i⟩
  rw [counts_apply]
  refine Finset.sum_nonneg fun h _ => ?_
  rw [show Chain.T a 24 = total fit24 io24 (scores a) 24 from rfl, total_apply fit24 io24 io24_apply]
  refine Finset.sum_nonneg fun t _ => ?_
  split
  · exact zero_le_one
  · exact le_rfl

end Cert.Proof.Vote
-- ==== Proof.Stretch.lean ====
/- What the program's host code leaves between its regions, as the reference's own stages: the normalised rows, the softmax of
   the logits, the second normalisation, and the reshaped weights. -/
module

public import proofs.«01_k».proof.Proof.Gen.KernelIdeal.Frame
public import proofs.«01_k».proof.Proof.Gen.ReferenceIdeal.Read

@[expose] public section

set_option maxRecDepth 16384

noncomputable section

namespace Cert.Proof.Stretch

open Cert.KernelIdeal Cert.KernelIdeal.Gen Cert.ReferenceIdeal.Read
open Idealize.ShloMosaic Idealize.ShloMosaic.ValueIdx

variable {F : FTy → Type} [FloatOps F]

/-- The rows of both sequences, one above the other. -/
abbrev flat (y : FVec F S2x197x768 .f32) : FVec F S394x768 .f32 := shapeCast S394x768 y shapeCasts_S2x197x768_S394x768

/-- The rows of both sequences, apart. -/
abbrev apart (y : FVec F S394x768 .f32) : FVec F S2x197x768 .f32 := shapeCast S2x197x768 y shapeCasts_S394x768_S2x197x768

/-- The mean along the last axis. -/
def mean (y : FVec F S2x197x768 .f32) : FVec F S2x197x1 .f32 :=
  Host.divf (broadcastInDim S2x197x1 ![0, 1] bcast_S2x197_S2x197x1_0_1 (Host.reduceAdd y (constant S_ .f32 0x00000000#32) reducesTo_S2x197x768_S2x197_d2 h_S_))
    (broadcastInDim S2x197x1 ![] bcast_S_S2x197x1 (constant S_ .f32 0x44400000#32))

/-- The rows less their mean. -/
def centred (y : FVec F S2x197x768 .f32) : FVec F S2x197x768 .f32 :=
  subf y (broadcastInDim S2x197x768 ![0, 1, 2] bcast_S2x197x1_S2x197x768_0_1_2 (mean y))

/-- The rows' standard deviation. -/
def spreadOf (y : FVec F S2x197x768 .f32) : FVec F S2x197x1 .f32 :=
  Host.sqrt (addf (mean (mulf (centred y) (centred y))) (broadcastInDim S2x197x1 ![] bcast_S_S2x197x1 (constant S_ .f32 0x358637BD#32)))

/-- The layer normalisation. -/
def ln (y : FVec F S2x197x768 .f32) (s b : FVec F S768 .f32) : FVec F S2x197x768 .f32 :=
  addf (mulf (Host.divf (centred y) (broadcastInDim S2x197x768 ![0, 1, 2] bcast_S2x197x1_S2x197x768_0_1_2 (spreadOf y)))
      (broadcastInDim S2x197x768 ![0, 1, 2] bcast_S1x1x768_S2x197x768_0_1_2 (broadcastInDim S1x1x768 ![2] bcast_S768_S1x1x768_2 s)))
    (broadcastInDim S2x197x768 ![0, 1, 2] bcast_S1x1x768_S2x197x768_0_1_2 (broadcastInDim S1x1x768 ![2] bcast_S768_S1x1x768_2 b))

/-- The exponentials of the logits less their greatest. -/
def shifted (y : FVec F S2x12x197x197 .f32) : FVec F S2x12x197x197 .f32 :=
  Host.exp (subf y (broadcastInDim S2x12x197x197 ![0, 1, 2, 3] bcast_S2x12x197x1_S2x12x197x197_0_1_2_3
    (broadcastInDim S2x12x197x1 ![0, 1, 2] bcast_S2x12x197_S2x12x197x1_0_1_2
      (maximumf (broadcastInDim S2x12x197 ![] bcast_S_S2x12x197 (constant S_ .f32 0xFF800000#32))
        (Host.reduce FloatOps.maximumf y (constant S_ .f32 0xFF800000#32) reducesTo_S2x12x197x197_S2x12x197_d3 h_S_)))))

/-- The softmax along the last axis. -/
def soft (y : FVec F S2x12x197x197 .f32) : FVec F S2x12x197x197 .f32 :=
  Host.divf (shifted y) (broadcastInDim S2x12x197x197 ![0, 1, 2, 3] bcast_S2x12x197x1_S2x12x197x197_0_1_2_3
    (broadcastInDim S2x12x197x1 ![0, 1, 2] bcast_S2x12x197_S2x12x197x1_0_1_2
      (Host.reduceAdd (shifted y) (constant S_ .f32 0x00000000#32) reducesTo_S2x12x197x197_S2x12x197_d3 h_S_)))

section Host

variable (V : Valuation τ sig (Elt F))

/-- The first stretch leaves the normalised rows. -/
theorem s0_v25 : StableHlo.after hostOps0 V (Proc.devRef .tc main_v25)
    = flat (ln (apart (V (Proc.devRef .tc main_arg0))) (V (Proc.devRef .tc main_arg1)) (V (Proc.devRef .tc main_arg2))) := by
  after_results
  rfl

/-- The first stretch leaves the query bias as a row. -/
theorem s0_v26 : StableHlo.after hostOps0 V (Proc.devRef .tc main_v26) = (shapeCast S1x768 (V (Proc.devRef .tc main_arg4) : FVec F S768 .f32) shapeCasts_S768_S1x768 : FVec F S1x768 .f32) := by
  after_results
  rfl

/-- The first stretch leaves the key bias as a row. -/
theorem s0_v27 : StableHlo.after hostOps0 V (Proc.devRef .tc main_v27) = (shapeCast S1x768 (V (Proc.devRef .tc main_arg6) : FVec F S768 .f32) shapeCasts_S768_S1x768 : FVec F S1x768 .f32) := by
  after_results
  rfl

/-- The first stretch leaves the value bias as a row. -/
theorem s0_v28 : StableHlo.after hostOps0 V (Proc.devRef .tc main_v28) = (shapeCast S1x768 (V (Proc.devRef .tc main_arg8) : FVec F S768 .f32) shapeCasts_S768_S1x768 : FVec F S1x768 .f32) := by
  after_results
  rfl

/-- The first stretch leaves the table. -/
theorem s0_cst : StableHlo.after hostOps0 V (Proc.devRef .tc main_cst) = (fun i => FloatOps.ofBits .f32 (lit0 (S196x196.rowMajor i)) : FVec F S196x196 .f32) := by
  after_results
  rfl

/-- The second stretch leaves the softmax of the logits. -/
theorem s1_v40 : StableHlo.after hostOps1 V (Proc.devRef .tc main_v40) = soft (V (Proc.devRef .tc main_v29_0)) := by
  after_results
  rfl

/-- The second stretch leaves the output bias as a row. -/
theorem s1_v41 : StableHlo.after hostOps1 V (Proc.devRef .tc main_v41) = (shapeCast S1x768 (V (Proc.devRef .tc main_arg10) : FVec F S768 .f32) shapeCasts_S768_S1x768 : FVec F S1x768 .f32) := by
  after_results
  rfl

/-- The third stretch leaves the rows normalised again. -/
theorem s2_v68 : StableHlo.after hostOps2 V (Proc.devRef .tc main_v68)
    = flat (ln (apart (V (Proc.devRef .tc main_v42_0))) (V (Proc.devRef .tc main_arg11)) (V (Proc.devRef .tc main_arg12))) := by
  after_results
  rfl

/-- The third stretch leaves the hidden bias as a row. -/
theorem s2_v69 : StableHlo.after hostOps2 V (Proc.devRef .tc main_v69) = (shapeCast S1x3072 (V (Proc.devRef .tc main_arg14) : FVec F S3072 .f32) shapeCasts_S3072_S1x3072 : FVec F S1x3072 .f32) := by
  after_results
  rfl

/-- The third stretch leaves the second output bias as a row. -/
theorem s2_v70 : StableHlo.after hostOps2 V (Proc.devRef .tc main_v70) = (shapeCast S1x768 (V (Proc.devRef .tc main_arg16) : FVec F S768 .f32) shapeCasts_S768_S1x768 : FVec F S1x768 .f32) := by
  after_results
  rfl

end Host

section Ref

variable (x0 : FVec F S394x768 .f32) (x1 x2 : FVec F S768 .f32) (x3 : FVec F S768x768 .f32) (x4 : FVec F S768 .f32) (x5 : FVec F S768x768 .f32)
  (x6 : FVec F S768 .f32) (x7 : FVec F S768x768 .f32) (x8 : FVec F S768 .f32) (x9 : FVec F S768x768 .f32) (x10 x11 x12 : FVec F S768 .f32)

/-- The reference's first normalisation. -/
theorem r24 : val_main_v24 (F := F) x0 x1 x2 = ln (apart x0) x1 x2 := by
  unfold val_main_v24 val_main_v23 val_main_v22 val_main_v21 val_main_v20 val_main_v19 val_main_v18 val_main_v17 val_main_v16 val_main_v15 val_main_v14 val_main_cst_3 val_main_v13 val_main_v12 val_main_v11 val_main_v10 val_main_cst_2 val_main_v9 val_main_v8 val_main_cst_1 val_main_v7 val_main_v6 val_main_v5 val_main_v4 val_main_v3 val_main_cst_0 val_main_v2 val_main_v1 val_main_cst val_main_v0
  rfl

/-- The reference's softmax. -/
theorem r56 : val_main_v56 (F := F) x0 x1 x2 x3 x4 x5 x6 = soft (val_main_v45 (F := F) x0 x1 x2 x3 x4 x5 x6) := by
  unfold val_main_v56 val_main_v55 val_main_v54 val_main_v53 val_main_cst_7 val_main_v52 val_main_v51 val_main_v50 val_main_v49 val_main_v48 val_main_v47 val_main_cst_6 val_main_v46 val_main_cst_5
  generalize val_main_v45 (F := F) x0 x1 x2 x3 x4 x5 x6 = y
  rfl

/-- The reference's second normalisation. -/
theorem r88 : val_main_v88 (F := F) x0 x1 x2 x3 x4 x5 x6 x7 x8 x9 x10 x11 x12 = ln (val_main_v64 (F := F) x0 x1 x2 x3 x4 x5 x6 x7 x8 x9 x10) x11 x12 := by
  unfold val_main_v88 val_main_v87 val_main_v86 val_main_v85 val_main_v84 val_main_v83 val_main_v82 val_main_v81 val_main_v80 val_main_v79 val_main_v78 val_main_cst_12 val_main_v77 val_main_v76 val_main_v75 val_main_v74 val_main_cst_11 val_main_v73 val_main_v72 val_main_cst_10 val_main_v71 val_main_v70 val_main_v69 val_main_v68 val_main_v67 val_main_cst_9 val_main_v66 val_main_v65 val_main_cst_8
  generalize val_main_v64 (F := F) x0 x1 x2 x3 x4 x5 x6 x7 x8 x9 x10 = y
  rfl

end Ref

end Cert.Proof.Stretch
-- ==== Proof.Layer.lean ====
/- The attention half of the layer: what the first two regions leave of it is the reference's own stages, laid out with the two
   sequences' rows one above the other. -/
module

public import proofs.«01_k».proof.Proof.Av
public import proofs.«01_k».proof.Proof.Stretch

@[expose] public section

set_option maxRecDepth 16384

noncomputable section

namespace Cert.Proof.Layer

open Cert.KernelIdeal Cert.KernelIdeal.Gen Cert.ReferenceIdeal.Read Cert.Proof.Qkv Cert.Proof.Av Cert.Proof.Stretch
open Idealize.ShloMosaic Idealize.ShloMosaic.ValueIdx
open scoped BigOperators

/-- A bias as a row. -/
abbrev asRow (b : FVec Ideal S768 .f32) : FVec Ideal S1x768 .f32 := shapeCast S1x768 b shapeCasts_S768_S1x768

/-- A bias as a row, at an index. -/
theorem asRow_apply (b : FVec Ideal S768 .f32) (c : Fin 768) : asRow b (ix2 0 c) = b (ix1 c) := by
  refine shapeCast_apply _ _ _ (ix1 c) ?_
  rw [Shape.rowMajor_val_two, Shape.rowMajor_val_one]
  show c.val = 0 * 768 + c.val
  omega

/-- The stacked rows at an index. -/
theorem flat_apply (y : FVec Ideal S2x197x768 .f32) (b : Fin 2) (n : Fin 197) (c : Fin 768) : flat y (ix2 (row b n) c) = y (ix3 b n c) := by
  refine shapeCast_apply _ _ _ (ix3 b n c) ?_
  rw [Shape.rowMajor_val_two, Shape.rowMajor_val_three]
  rfl

/-- The rows apart at an index. -/
theorem apart_apply (y : FVec Ideal S394x768 .f32) (b : Fin 2) (n : Fin 197) (c : Fin 768) : apart y (ix3 b n c) = y (ix2 (row b n) c) := by
  refine shapeCast_apply _ _ _ (ix2 (row b n) c) ?_
  rw [Shape.rowMajor_val_two, Shape.rowMajor_val_three]
  rfl

/-- An index of the stacked rows is a sequence, a row and a column. -/
theorem split_row (i : S394x768.Idx) : ∃ b n c, i = ix2 (row b n) c := by
  obtain ⟨r, c, rfl⟩ : ∃ r c, i = ix2 r c := ⟨_, _, eq_ix2 i⟩
  have hr := r.isLt
  refine ⟨⟨r.val / 197, by omega⟩, ⟨r.val % 197, Nat.mod_lt _ (by decide)⟩, c, ?_⟩
  congr 1
  exact Fin.ext (Nat.div_add_mod' r.val 197).symm

/-- Arrays that agree at every sequence, row and column are one the other stacked. -/
theorem eq_flat {f : FVec Ideal S394x768 .f32} {g : FVec Ideal S2x197x768 .f32} (h : ∀ b n c, f (ix2 (row b n) c) = g (ix3 b n c)) : f = flat g := by
  funext i
  obtain ⟨b, n, c, rfl⟩ := split_row i
  rw [h, flat_apply]

/-- Stacking the rows apart gives them back. -/
theorem apart_flat (y : FVec Ideal S2x197x768 .f32) : apart (flat y) = y := by
  funext i
  obtain ⟨b, n, c, rfl⟩ : ∃ b n c, i = ix3 b n c := ⟨_, _, _, eq_ix3 i⟩
  rw [apart_apply, flat_apply]

variable (x0 : FVec Ideal S394x768 .f32) (x1 x2 : FVec Ideal S768 .f32) (x3 : FVec Ideal S768x768 .f32) (x4 : FVec Ideal S768 .f32) (x5 : FVec Ideal S768x768 .f32)
  (x6 : FVec Ideal S768 .f32) (x7 : FVec Ideal S768x768 .f32) (x8 : FVec Ideal S768 .f32) (x9 : FVec Ideal S768x768 .f32) (x10 x11 x12 : FVec Ideal S768 .f32)

/-- The reference's bias over the rows, at an index. -/
theorem v27_apply (b : Fin 2) (n : Fin 197) (c : Fin 768) : val_main_v27 (F := Ideal) x4 (ix3 b n c) = x4 (ix1 c) := by
  rw [val_main_v27_apply, val_main_v26_apply]
  exact congrArg x4 (funext fun a => match a with | ⟨0, _⟩ => rfl)

/-- The reference's projection at an index. -/
theorem v28_apply (b : Fin 2) (n : Fin 197) (c : Fin 768) : val_main_v28 (F := Ideal) x0 x1 x2 x3 x4 (ix3 b n c)
    = (∑ k : Fin 768, val_main_v24 (F := Ideal) x0 x1 x2 (ix3 b n k) * x3 (ix2 k c)) + x4 (ix1 c) := by
  rw [val_main_v28_apply, val_main_v25_apply, v27_apply]
  refine congrArg (· + x4 (ix1 c)) (Finset.sum_congr rfl fun k _ => congrArg₂ (· * ·) (congrArg _ ?_) (congrArg _ ?_))
  · exact funext fun a => match a with | ⟨0, _⟩ => rfl | ⟨1, _⟩ => rfl | ⟨2, _⟩ => rfl
  · exact funext fun a => match a with | ⟨0, _⟩ => rfl | ⟨1, _⟩ => rfl

/-- A projection of the normalised rows is the reference's. -/
theorem proj_eq : k0_pay7 (F := Ideal) (flat (ln (apart x0) x1 x2)) x3 (asRow x4) = flat (val_main_v28 (F := Ideal) x0 x1 x2 x3 x4) := by
  refine eq_flat fun b n c => ?_
  rw [proj_apply, v28_apply, asRow_apply, r24]
  simp only [flat_apply]

/-- The reference's heads at an index. -/
theorem v30_apply (b : Fin 2) (h : Fin 12) (n : Fin 197) (d : Fin 64) :
    val_main_v30 (F := Ideal) x0 x1 x2 x3 x4 (ix4 b h n d) = val_main_v28 (F := Ideal) x0 x1 x2 x3 x4 (ix3 b n (col h d)) := by
  rw [val_main_v30_apply, val_main_v29_apply]
  have hb := b.isLt; have hh := h.isLt; have hn := n.isLt; have hd := d.isLt
  refine congrArg _ (funext fun a => Fin.ext ?_)
  match a with
  | ⟨0, _⟩ => show (((b.val * 197 + n.val) * 12 + h.val) * 64 + d.val) / 151296 = b.val; omega
  | ⟨1, _⟩ => show (((b.val * 197 + n.val) * 12 + h.val) * 64 + d.val) / 768 % 197 = n.val; omega
  | ⟨2, _⟩ => show (((b.val * 197 + n.val) * 12 + h.val) * 64 + d.val) % 768 = h.val * 64 + d.val; omega

/-- The keys are a projection like the queries. -/
theorem v36_eq : val_main_v36 (F := Ideal) x0 x1 x2 x5 x6 = val_main_v30 (F := Ideal) x0 x1 x2 x5 x6 := by
  unfold val_main_v36 val_main_v35 val_main_v34 val_main_v33 val_main_v32 val_main_v31 val_main_v30 val_main_v29 val_main_v28 val_main_v27 val_main_v26 val_main_v25
  rfl

/-- The values are a projection like the queries. -/
theorem v42_eq : val_main_v42 (F := Ideal) x0 x1 x2 x7 x8 = val_main_v30 (F := Ideal) x0 x1 x2 x7 x8 := by
  unfold val_main_v42 val_main_v41 val_main_v40 val_main_v39 val_main_v38 val_main_v37 val_main_v30 val_main_v29 val_main_v28 val_main_v27 val_main_v26 val_main_v25
  rfl

/-- The scale the kernel multiplies by. -/
theorem scale_eq : Ideal.ofBits .f32 0x3E000000#32 = ((1 / 8 : ℝ) : EReal) := by
  simp [Ideal.ofBits, Ideal.ieee]
  rw [← EReal.coe_mul]
  norm_num

/-- The scale the reference divides by. -/
theorem eight_eq : Ideal.ofBits .f32 0x41000000#32 = ((8 : ℝ) : EReal) := by
  simp [Ideal.ofBits, Ideal.ieee]
  rw [← EReal.coe_mul]
  norm_num

/-- The logits of stacked queries and keys at an index. -/
theorem logits_flat (q k : FVec Ideal S2x197x768 .f32) (b : Fin 2) (h : Fin 12) (i j : Fin 197) :
    logits (flat (F := Ideal) q) (flat (F := Ideal) k) (ix4 b h i j)
      = (∑ d : Fin 64, q (ix3 b i (col h d)) * k (ix3 b j (col h d))) * Ideal.ofBits .f32 0x3E000000#32 :=
  congrArg (· * _) (Finset.sum_congr rfl fun d _ => congrArg₂ (· * ·) (flat_apply q b i _) (flat_apply k b j _))

/-- The kernel's logits are the reference's. -/
theorem logits_eq : logits (flat (F := Ideal) (val_main_v28 (F := Ideal) x0 x1 x2 x3 x4)) (flat (F := Ideal) (val_main_v28 (F := Ideal) x0 x1 x2 x5 x6))
    = val_main_v45 (F := Ideal) x0 x1 x2 x3 x4 x5 x6 := by
  funext y
  obtain ⟨b, h, i, j, rfl⟩ : ∃ b h i j, y = ix4 b h i j := ⟨_, _, _, _, eq_ix4 y⟩
  have el : ∀ d, lidx_main_v43 (ix4 b h i j) d = ix4 b h i d :=
    fun d => funext fun a => match a with | ⟨0, _⟩ => rfl | ⟨1, _⟩ => rfl | ⟨2, _⟩ => rfl | ⟨3, _⟩ => rfl
  have er : ∀ d, ridx_main_v43 (ix4 b h i j) d = ix4 b h j d :=
    fun d => funext fun a => match a with | ⟨0, _⟩ => rfl | ⟨1, _⟩ => rfl | ⟨2, _⟩ => rfl | ⟨3, _⟩ => rfl
  rw [logits_flat, val_main_v45_apply, val_main_v43_apply, val_main_v44_apply, val_main_cst_4_apply, v36_eq]
  simp only [el, er, v30_apply]
  refine Eq.trans ?_ (congrArg (Ideal.div _) eight_eq.symm)
  rw [Ideal.div_coe (by norm_num), scale_eq]

/-- The reference's attention-weighted values at an index. -/
theorem v59_apply (b : Fin 2) (n : Fin 197) (k : Fin 768) : val_main_v59 (F := Ideal) x0 x1 x2 x3 x4 x5 x6 x7 x8 (ix3 b n k)
    = ∑ j : Fin 197, val_main_v56 (F := Ideal) x0 x1 x2 x3 x4 x5 x6 (ix4 b (headOf k) n j) * val_main_v28 (F := Ideal) x0 x1 x2 x7 x8 (ix3 b j k) := by
  have hb := b.isLt; have hn := n.isLt; have hk := k.isLt
  have e : idx_main_v58 (idx_main_v59 (ix3 b n k)) = ix4 b (headOf k) n ⟨k.val % 64, Nat.mod_lt _ (by decide)⟩ := by
    refine funext fun a => Fin.ext ?_
    match a with
    | ⟨0, _⟩ => show ((b.val * 197 + n.val) * 768 + k.val) / 151296 = b.val; omega
    | ⟨1, _⟩ => show ((b.val * 197 + n.val) * 768 + k.val) / 64 % 12 = k.val / 64; omega
    | ⟨2, _⟩ => show ((b.val * 197 + n.val) * 768 + k.val) / 768 % 197 = n.val; omega
    | ⟨3, _⟩ => show ((b.val * 197 + n.val) * 768 + k.val) % 64 = k.val % 64; omega
  rw [val_main_v59_apply, val_main_v58_apply, e, val_main_v57_apply, v42_eq]
  refine Finset.sum_congr rfl fun j _ => congrArg₂ (· * ·) (congrArg _ ?_) ?_
  · exact funext fun a => match a with | ⟨0, _⟩ => rfl | ⟨1, _⟩ => rfl | ⟨2, _⟩ => rfl | ⟨3, _⟩ => rfl
  · have e2 : ridx_main_v57 (ix4 b (headOf k) n ⟨k.val % 64, Nat.mod_lt _ (by decide)⟩) j = ix4 b (headOf k) j ⟨k.val % 64, Nat.mod_lt _ (by decide)⟩ :=
      funext fun a => match a with | ⟨0, _⟩ => rfl | ⟨1, _⟩ => rfl | ⟨2, _⟩ => rfl | ⟨3, _⟩ => rfl
    rw [e2, v30_apply]
    have : col (headOf k) ⟨k.val % 64, Nat.mod_lt _ (by decide)⟩ = k := Fin.ext (Nat.div_add_mod' k.val 64)
    rw [this]

/-- The kernel's hidden state after attention is the reference's. -/
theorem h1_eq : h1Pay (val_main_v56 (F := Ideal) x0 x1 x2 x3 x4 x5 x6) (flat (F := Ideal) (val_main_v28 (F := Ideal) x0 x1 x2 x7 x8)) x0 x9 (asRow x10)
    = flat (val_main_v64 (F := Ideal) x0 x1 x2 x3 x4 x5 x6 x7 x8 x9 x10) := by
  refine eq_flat fun b n c => ?_
  have e0 : val_main_v0 (F := Ideal) x0 = apart x0 := rfl
  have e10 : val_main_v63 (F := Ideal) x10 = val_main_v27 (F := Ideal) x10 := rfl
  rw [h1Pay_apply, val_main_v64_apply, val_main_v61_apply, val_main_v60_apply, e0, e10, apart_apply, v27_apply, asRow_apply, ← add_assoc]
  refine congrArg (· + x10 (ix1 c)) (congrArg (x0 (ix2 (row b n) c) + ·) (Finset.sum_congr rfl fun k _ => congrArg₂ (· * ·) ?_ (congrArg x9 ?_)))
  · have e : lidx_main_v60 (ix3 b n c) k = ix3 b n k := funext fun a => match a with | ⟨0, _⟩ => rfl | ⟨1, _⟩ => rfl | ⟨2, _⟩ => rfl
    rw [e, v59_apply]
    simp only [flat_apply]
  · exact funext fun a => match a with | ⟨0, _⟩ => rfl | ⟨1, _⟩ => rfl

end Cert.Proof.Layer
-- ==== Proof.Mlp.lean ====
/- The second half of the layer: the third region's hidden state is the reference's, and its selected rows are the products of the
   marks it is given with the rows of that state. -/
module

public import proofs.«01_k».proof.Proof.Layer

@[expose] public section

set_option maxRecDepth 16384

noncomputable section

namespace Cert.Proof.Mlp

open Cert.KernelIdeal Cert.KernelIdeal.Gen Cert.ReferenceIdeal.Read Cert.Proof.Qkv Cert.Proof.Stretch Cert.Proof.Layer
open Idealize.ShloMosaic Idealize.ShloMosaic.ValueIdx
open scoped BigOperators

/-- The activation, as the kernel multiplies it out. -/
def act (x : Ideal .f32) : Ideal .f32 :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A wide bias as a row. -/
abbrev asWide (b : FVec Ideal S3072 .f32) : FVec Ideal S1x3072 .f32 := shapeCast S1x3072 b shapeCasts_S3072_S1x3072

/-- A wide bias as a row, at an index. -/
theorem asWide_apply (b : FVec Ideal S3072 .f32) (c : Fin 3072) : asWide b (ix2 0 c) = b (ix1 c) := by
  refine shapeCast_apply _ _ _ (ix1 c) ?_
  rw [Shape.rowMajor_val_two, Shape.rowMajor_val_one]
  show c.val = 0 * 3072 + c.val
  omega

/-- The third region's hidden state at an index. -/
theorem pay3_apply (y : Vec Ideal S394x768 .f32) (w1 : Vec Ideal S768x3072 .f32) (b1 : Vec Ideal S1x3072 .f32) (h : Vec Ideal S394x768 .f32)
    (w2 : Vec Ideal S3072x768 .f32) (b2 : Vec Ideal S1x768 .f32) (r : Fin 394) (c : Fin 768) :
    k2_pay3 (F := Ideal) y w1 b1 h w2 b2 (ix2 r c)
      = h (ix2 r c) + ((∑ k : Fin 3072, act ((∑ j : Fin 768, y (ix2 r j) * w1 (ix2 j k)) + b1 (ix2 0 k)) * w2 (ix2 k c)) + b2 (ix2 0 c)) := by
  unfold k2_pay3
  rw [addf_apply, addf_apply, shapeCast_self, shapeCast_self, shapeCast_self, shapeCast_self]
  refine congrArg (h (ix2 r c) + ·) (congrArg₂ (· + ·) ?_ ?_)
  · refine (Ideal.matmul_plain_apply (φ₁ := .f32) (φ₂ := .f32) none _ w2 _ r c).trans ?_
    rw [constant_apply, Ideal.ofBits_zero_f32, zero_add]
    refine Finset.sum_congr rfl fun k _ => congrArg (· * w2 (ix2 k c)) ?_
    refine congrArg act (congrArg₂ (· + ·) ?_ ?_)
    · refine (Ideal.matmul_plain_apply (φ₁ := .f32) (φ₂ := .f32) none y w1 _ r k).trans ?_
      rw [constant_apply, Ideal.ofBits_zero_f32, zero_add]
    · refine broadcastTo_apply b1 _ _ (ix2 0 k) fun a => ?_
      match a with
      | ⟨0, _⟩ => rfl
      | ⟨1, _⟩ => rfl
  · refine broadcastTo_apply b2 _ _ (ix2 0 c) fun a => ?_
    match a with
    | ⟨0, _⟩ => rfl
    | ⟨1, _⟩ => rfl

/-- The third region's hidden state is its one payload. -/
theorem out2_7_eq (h y : Vec Ideal S394x768 .f32) (w1 : Vec Ideal S768x3072 .f32) (b1 : Vec Ideal S1x3072 .f32) (w2 : Vec Ideal S3072x768 .f32)
    (b2 : Vec Ideal S1x768 .f32) (m : Vec Ideal S2x16x196 .f32) : out2_7 (F := Ideal) h y w1 b1 w2 b2 m = k2_pay3 (F := Ideal) y w1 b1 h w2 b2 := by
  unfold out2_7
  rw [View.canon_unit_zero hz2]
  simp only [r2_0, r2_1, r2_2, r2_3, r2_4, View.ld_unit_zero (S := S394x768) hz2, View.ld_unit_zero (S := S768x3072) hz2,
    View.ld_unit_zero (S := S1x3072) hz2, View.ld_unit_zero (S := S3072x768) hz2, View.ld_unit_zero (S := S1x768) hz2]

/-- One sequence's selected rows, from its marks and the rows from `o`. -/
def partOf (m : FVec Ideal S1x16x196 .f32) (g : FVec Ideal S394x768 .f32) (o : ℕ) (hs : S394x768.Slices ![o, 0] S196x768) : FVec Ideal S1x16x768 .f32 :=
  shapeCast S1x16x768 (matmul dot_S16x196_S196x768_S16x768_1_0_0_1_n_n (some .fp32) (shapeCast S16x196 m shapeCasts_S1x16x196_S16x196)
      (extractStridedSlice S196x768 ![o, 0] g hs) (constant S16x768 .f32 0x00000000#32)) shapeCasts_S16x768_S1x16x768

/-- One sequence's selected rows: the products of its marks with its rows after the first. -/
theorem picked_apply (m : FVec Ideal S1x16x196 .f32) (g : FVec Ideal S394x768 .f32) (b : Fin 2) (o : ℕ) (ho : o = b.val * 197 + 1)
    (hs : S394x768.Slices ![o, 0] S196x768) (t : Fin 16) (c : Fin 768) :
    partOf m g o hs (ix3 0 t c)
      = ∑ l : Fin 196, m (ix3 0 t l) * g (ix2 (row b ⟨l.val + 1, by omega⟩) c) := by
  unfold partOf
  rw [shapeCast_apply _ _ _ (ix2 t c) (by
    rw [Shape.rowMajor_val_two, Shape.rowMajor_val_three]
    show t.val * 768 + c.val = (0 * 16 + t.val) * 768 + c.val
    omega)]
  refine (Ideal.matmul_plain_apply (φ₁ := .f32) (φ₂ := .f32) (some .fp32) _ _ _ t c).trans ?_
  rw [constant_apply, Ideal.ofBits_zero_f32, zero_add]
  refine Finset.sum_congr rfl fun l _ => congrArg₂ (· * ·) ?_ ?_
  · refine shapeCast_apply _ _ _ (ix3 0 t l) ?_
    rw [Shape.rowMajor_val_two, Shape.rowMajor_val_three]
    show (0 * 16 + t.val) * 196 + l.val = t.val * 196 + l.val
    omega
  · refine extractStridedSlice_apply _ g hs _ (ix2 (row b ⟨l.val + 1, by omega⟩) c) fun a => ?_
    match a with
    | ⟨0, _⟩ => show b.val * 197 + (l.val + 1) = o + l.val; omega
    | ⟨1, _⟩ => exact (Nat.zero_add _).symm

/-- The third region's selected rows, by sequence, place and column. -/
def chosen (m : Vec Ideal S2x16x196 .f32) (g : FVec Ideal S394x768 .f32) : Vec Ideal S2x16x768 .f32 := fun y =>
  ∑ l : Fin 196, m (ix3 (y 0) (y 1) l) * g (ix2 (row (y 0) ⟨l.val + 1, by omega⟩) (y 2))

/-- One sequence's marks lie in the array of both. -/
theorem inbM (b : Fin 2) : ∀ a, (![b.val, 0, 0] : Fin 3 → Nat) a + S1x16x196.size a ≤ S2x16x196.size a := by
  revert b; decide

/-- One sequence's selected rows lie in the array of both. -/
theorem inbC (b : Fin 2) : ∀ a, (![b.val, 0, 0] : Fin 3 → Nat) a + S1x16x768.size a ≤ S2x16x768.size a := by
  revert b; decide

/-- One sequence's products are its part of the selected rows. -/
theorem part_eq (m : Vec Ideal S2x16x196 .f32) (g : FVec Ideal S394x768 .f32) (b : Fin 2) (o : ℕ) (ho : o = b.val * 197 + 1)
    (hs : S394x768.Slices ![o, 0] S196x768) (j : S1x16x768.Idx) :
    partOf (View.ld m (Rect.unit (s := S2x16x196) ![b.val, 0, 0] S1x16x196.size (inbM b))) g o hs j
      = chosen m g ((Rect.unit (s := S2x16x768) ![b.val, 0, 0] S1x16x768.size (inbC b)).emb j) := by
  have key : ∀ (t : Fin 16) (c : Fin 768), partOf (View.ld m (Rect.unit (s := S2x16x196) ![b.val, 0, 0] S1x16x196.size (inbM b))) g o hs (ix3 0 t c)
      = chosen m g ((Rect.unit (s := S2x16x768) ![b.val, 0, 0] S1x16x768.size (inbC b)).emb (ix3 0 t c)) := by
    intro t c
    have e : (Rect.unit (s := S2x16x768) ![b.val, 0, 0] S1x16x768.size (inbC b)).emb (ix3 0 t c) = ix3 b t c := by
      funext a; apply Fin.ext
      match a with
      | ⟨0, _⟩ => show b.val + 1 * 0 = b.val; omega
      | ⟨1, _⟩ => show 0 + 1 * t.val = t.val; omega
      | ⟨2, _⟩ => show 0 + 1 * c.val = c.val; omega
    rw [e]
    refine (picked_apply _ g b o ho hs t c).trans (Finset.sum_congr rfl fun l _ => congrArg₂ (· * ·) ?_ rfl)
    show m ((Rect.unit (s := S2x16x196) ![b.val, 0, 0] S1x16x196.size (inbM b)).emb (ix3 0 t l)) = m (ix3 b t l)
    refine congrArg m (funext fun a => Fin.ext ?_)
    match a with
    | ⟨0, _⟩ => show b.val + 1 * 0 = b.val; omega
    | ⟨1, _⟩ => show 0 + 1 * t.val = t.val; omega
    | ⟨2, _⟩ => show 0 + 1 * l.val = l.val; omega
  have hj : j = ix3 0 (j 1) (j 2) := by
    funext a
    match a with
    | ⟨0, _⟩ => exact Fin.ext (by have := (j 0).isLt; show (j 0).val = 0; change (j 0).val < 1 at this; omega)
    | ⟨1, _⟩ => rfl
    | ⟨2, _⟩ => rfl
  rw [hj]
  exact key _ _

/-- The third region's selected rows are the products of the marks with its hidden state's rows. -/
theorem out2_8_eq (h y : Vec Ideal S394x768 .f32) (w1 : Vec Ideal S768x3072 .f32) (b1 : Vec Ideal S1x3072 .f32) (w2 : Vec Ideal S3072x768 .f32)
    (b2 : Vec Ideal S1x768 .f32) (m : Vec Ideal S2x16x196 .f32) :
    out2_8 (F := Ideal) h y w1 b1 w2 b2 m = chosen m (k2_pay3 (F := Ideal) y w1 b1 h w2 b2) := by
  unfold out2_8
  simp only [r2_0, r2_1, r2_2, r2_3, r2_4, View.ld_unit_zero (S := S394x768) hz2, View.ld_unit_zero (S := S768x3072) hz2,
    View.ld_unit_zero (S := S1x3072) hz2, View.ld_unit_zero (S := S3072x768) hz2, View.ld_unit_zero (S := S1x768) hz2]
  funext i
  refine View.canon_apply_of_pieces (Val := Elt Ideal) (e := .f32) (chosen m (k2_pay3 (F := Ideal) y w1 b1 h w2 b2)) _ ?_ i (cover2_8 _ _ i)
  refine List.forall_mem_cons.2 ⟨fun j => ?_, List.forall_mem_cons.2 ⟨fun j => ?_, fun _ h => absurd h List.not_mem_nil⟩⟩
  · exact part_eq m _ 1 198 rfl slices_S394x768_o198_0_S196x768 j
  · exact part_eq m _ 0 1 rfl slices_S394x768_o1_0_S196x768 j

variable (x0 : FVec Ideal S394x768 .f32) (x1 x2 : FVec Ideal S768 .f32) (x3 : FVec Ideal S768x768 .f32) (x4 : FVec Ideal S768 .f32) (x5 : FVec Ideal S768x768 .f32)
  (x6 : FVec Ideal S768 .f32) (x7 : FVec Ideal S768x768 .f32) (x8 : FVec Ideal S768 .f32) (x9 : FVec Ideal S768x768 .f32) (x10 x11 x12 : FVec Ideal S768 .f32)
  (x13 : FVec Ideal S768x3072 .f32) (x14 : FVec Ideal S3072 .f32) (x15 : FVec Ideal S3072x768 .f32) (x16 : FVec Ideal S768 .f32)

/-- The reference's wide rows before the activation, at an index. -/
theorem v92_apply (b : Fin 2) (n : Fin 197) (k : Fin 3072) : val_main_v92 (F := Ideal) x0 x1 x2 x3 x4 x5 x6 x7 x8 x9 x10 x11 x12 x13 x14 (ix3 b n k)
    = (∑ j : Fin 768, val_main_v88 (F := Ideal) x0 x1 x2 x3 x4 x5 x6 x7 x8 x9 x10 x11 x12 (ix3 b n j) * x13 (ix2 j k)) + x14 (ix1 k) := by
  rw [val_main_v92_apply, val_main_v89_apply, val_main_v91_apply, val_main_v90_apply]
  generalize val_main_v88 (F := Ideal) x0 x1 x2 x3 x4 x5 x6 x7 x8 x9 x10 x11 x12 = y
  refine congrArg₂ (· + ·) (Finset.sum_congr rfl fun j _ => congrArg₂ (· * ·) (congrArg y ?_) (congrArg x13 ?_)) (congrArg x14 ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The reference's activation at an index. -/
theorem v105_apply (i : Cert.ReferenceIdeal.S2x197x3072.Idx) : val_main_v105 (F := Ideal) x0 x1 x2 x3 x4 x5 x6 x7 x8 x9 x10 x11 x12 x13 x14 i
    = act (val_main_v92 (F := Ideal) x0 x1 x2 x3 x4 x5 x6 x7 x8 x9 x10 x11 x12 x13 x14 i) := by
  rw [val_main_v105_apply, val_main_v104_apply, val_main_v103_apply, val_main_v102_apply, val_main_v101_apply, val_main_v100_apply, val_main_v99_apply,
    val_main_v98_apply, val_main_v97_apply, val_main_v96_apply, val_main_v95_apply, val_main_v94_apply, val_main_v93_apply]
  generalize val_main_v92 (F := Ideal) x0 x1 x2 x3 x4 x5 x6 x7 x8 x9 x10 x11 x12 x13 x14 i = y
  unfold act
  rw [mul_comm y (y * y)]
  rfl

/-- The third region's hidden state is the reference's. -/
theorem state_eq : k2_pay3 (F := Ideal) (flat (F := Ideal) (val_main_v88 (F := Ideal) x0 x1 x2 x3 x4 x5 x6 x7 x8 x9 x10 x11 x12)) x13 (asWide x14)
      (flat (F := Ideal) (val_main_v64 (F := Ideal) x0 x1 x2 x3 x4 x5 x6 x7 x8 x9 x10)) x15 (asRow x16)
    = flat (F := Ideal) (val_main_v110 (F := Ideal) x0 x1 x2 x3 x4 x5 x6 x7 x8 x9 x10 x11 x12 x13 x14 x15 x16) := by
  refine eq_flat fun b n c => ?_
  have e16 : val_main_v109 (F := Ideal) x16 = val_main_v27 (F := Ideal) x16 := rfl
  have el : ∀ k, lidx_main_v106 (ix3 b n c) k = ix3 b n k := fun k => funext fun a => match a with | ⟨0, _⟩ => rfl | ⟨1, _⟩ => rfl | ⟨2, _⟩ => rfl
  have er : ∀ k, ridx_main_v106 (ix3 b n c) k = ix2 k c := fun k => funext fun a => match a with | ⟨0, _⟩ => rfl | ⟨1, _⟩ => rfl
  rw [pay3_apply, val_main_v110_apply, val_main_v107_apply, val_main_v106_apply, e16, v27_apply, asRow_apply, flat_apply, ← add_assoc]
  simp only [el, er, v105_apply, v92_apply, flat_apply, asWide_apply]
  rfl

/-- Result 0 of the reference is that state. -/
theorem v111_eq : val_main_v111 (F := Ideal) x0 x1 x2 x3 x4 x5 x6 x7 x8 x9 x10 x11 x12 x13 x14 x15 x16
    = flat (F := Ideal) (val_main_v110 (F := Ideal) x0 x1 x2 x3 x4 x5 x6 x7 x8 x9 x10 x11 x12 x13 x14 x15 x16) := rfl

end Cert.Proof.Mlp
-- ==== Proof.Gather.lean ====
/- The selected tokens: the kernel's product of its marks with the state is the reference's gather by the ranking. -/
module

public import proofs.«01_k».proof.Proof.Vote
public import proofs.«01_k».proof.Proof.Layer
public import proofs.«01_k».proof.Proof.Mlp

@[expose] public section

set_option maxRecDepth 16384

noncomputable section

namespace Cert.Proof.Gather

open Cert.ReferenceIdeal Cert.ReferenceIdeal.Read Cert.Proof.Qkv Cert.Proof.Pick Cert.Proof.Chain Cert.Proof.Order Cert.Proof.Layer Cert.Proof.Mlp
open Idealize.ShloMosaic Idealize.ShloMosaic.ValueIdx
open scoped BigOperators

/-- The reference's gather at an index: the state at the sequence, at the token its index there names, and at the column. -/
theorem gather_apply (y : FVec Ideal S2x197x768 .f32) (e : IVec S2x16x768x1 32) (b : Fin 2) (t : Fin 16) (c : Fin 768) :
    Host.gather gather_S2x197x768_S2x16x768x1_S2x16x768_n_1_02_02_1_3_111 y e (ix3 b t c)
      = y (ix3 b ⟨min (e (ix4 b t c 0)).toInt.toNat 196, by omega⟩ c) := by
  unfold Host.gather
  congr 1
  funext a
  refine Fin.ext ?_
  show GatherDims.start gather_S2x197x768_S2x16x768x1_S2x16x768_n_1_02_02_1_3_111 (ix3 b t c) e a
    + GatherDims.batchCoord gather_S2x197x768_S2x16x768x1_S2x16x768_n_1_02_02_1_3_111 (ix3 b t c) a
    + GatherDims.offCoord gather_S2x197x768_S2x16x768x1_S2x16x768_n_1_02_02_1_3_111 (ix3 b t c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  have h0 : (0 : Fin 3) ∈ (gather_S2x197x768_S2x16x768x1_S2x16x768_n_1_02_02_1_3_111).operandBatchingDims := show (0 : Fin 3) ∈ ([0, 2] : List (Fin 3)) by decide
  have h2 : (2 : Fin 3) ∈ (gather_S2x197x768_S2x16x768x1_S2x16x768_n_1_02_02_1_3_111).operandBatchingDims := show (2 : Fin 3) ∈ ([0, 2] : List (Fin 3)) by decide
  rcases ha with rfl | rfl | rfl
  · rw [GatherDims.start_batching _ _ _ _ h0, GatherDims.offCoord_eq_zero _ _ _ (fun h => ((GatherDims.mem_sKept _ _).mp h).2 h0)]
    simp only [Nat.zero_add, Nat.add_zero]
    unfold GatherDims.batchCoord
    rw [dif_pos h0]
    rfl
  · rw [GatherDims.batchCoord_eq_zero _ _ _ (fun h => absurd (show (1 : Fin 3) ∈ ([0, 2] : List (Fin 3)) from h) (by decide)),
      GatherDims.offCoord_eq_zero _ _ _ (fun h => ((GatherDims.mem_sKept _ _).mp h).1 (List.mem_singleton.mpr rfl))]
    simp only [Nat.add_zero]
    unfold GatherDims.start
    have h1 : (1 : Fin 3) ∈ (gather_S2x197x768_S2x16x768x1_S2x16x768_n_1_02_02_1_3_111).startIndexMap := List.mem_singleton.mpr rfl
    rw [dif_pos h1]
    have hsi : GatherDims.siIdx gather_S2x197x768_S2x16x768x1_S2x16x768_n_1_02_02_1_3_111 (ix3 b t c)
        ⟨List.idxOf (1 : Fin 3) (gather_S2x197x768_S2x16x768x1_S2x16x768_n_1_02_02_1_3_111).startIndexMap, List.idxOf_lt_length_iff.2 h1⟩ = ix4 b t c 0 := by
      funext q; refine Fin.ext ?_
      match q with
      | ⟨0, _⟩ => rfl
      | ⟨1, _⟩ => rfl
      | ⟨2, _⟩ => rfl
      | ⟨3, _⟩ => rfl
    rw [hsi]
    rfl
  · rw [GatherDims.start_batching _ _ _ _ h2, GatherDims.offCoord_eq_zero _ _ _ (fun h => ((GatherDims.mem_sKept _ _).mp h).2 h2)]
    simp only [Nat.zero_add, Nat.add_zero]
    unfold GatherDims.batchCoord
    rw [dif_pos h2]
    rfl

/-- A conjunction of bits that are all one is one. -/
theorem fold_and {ι : Type} [DecidableEq ι] (s : Finset ι) (f : ι → BitVec 1) (h : ∀ i, f i = 1#1) : s.fold IntOp.andi 1#1 f = 1#1 := by
  induction s using Finset.induction_on with
  | empty => rfl
  | insert a s ha ih => rw [Finset.fold_insert ha, ih, h]; rfl

/-- A word of a token's number is not negative, is at most the last, and reads as the number. -/
theorem word_ok : ∀ n : Fin 197, Scalar.select (IntOp.cmpi .slt (BitVec.ofNat 32 n.val) 0#32) (IntOp.addi (BitVec.ofNat 32 n.val) 197#32) (BitVec.ofNat 32 n.val) = BitVec.ofNat 32 n.val
    ∧ IntOp.andi (IntOp.cmpi .sge (BitVec.ofNat 32 n.val) 0#32) (IntOp.cmpi .sle (BitVec.ofNat 32 n.val) 196#32) = 1#1
    ∧ min (BitVec.ofNat 32 n.val).toInt.toNat 196 = n.val := by decide +kernel

variable (x0 : FVec Ideal S394x768 .f32) (x1 x2 : FVec Ideal S768 .f32) (x3 : FVec Ideal S768x768 .f32) (x4 : FVec Ideal S768 .f32) (x5 : FVec Ideal S768x768 .f32)
  (x6 : FVec Ideal S768 .f32) (x7 : FVec Ideal S768x768 .f32) (x8 : FVec Ideal S768 .f32) (x9 : FVec Ideal S768x768 .f32) (x10 x11 x12 : FVec Ideal S768 .f32)
  (x13 : FVec Ideal S768x3072 .f32) (x14 : FVec Ideal S3072 .f32) (x15 : FVec Ideal S3072x768 .f32) (x16 : FVec Ideal S768 .f32)

/-- The token the reference's ranking puts at a place. -/
def token (b : Fin 2) (t : Fin 16) : Fin 197 :=
  ⟨(rank (fun l => val_main_v154 (F := Ideal) x0 x1 x2 x3 x4 x5 x6 (ix2 b l)) (t.castLE (by decide))).val + 1, Nat.succ_lt_succ (Fin.isLt _)⟩

/-- The token's number as the reference's gather takes it. -/
theorem v161_apply (b : Fin 2) (t : Fin 16) (c : Fin 768) :
    val_main_v161 (F := Ideal) x0 x1 x2 x3 x4 x5 x6 (ix3 b t c) = BitVec.ofNat 32 (token x0 x1 x2 x3 x4 x5 x6 b t).val := by
  rw [val_main_v161_apply, val_main_v160_apply, val_main_v159_apply, val_main_v158_apply, val_main_v157_apply, val_main_c_27_apply]
  have e : idx_main_v159 (idx_main_v160 (idx_main_v161 (ix3 b t c))) = ix2 b (t.castLE (by decide)) :=
    funext fun a => match a with | ⟨0, _⟩ => rfl | ⟨1, _⟩ => rfl
  rw [e]
  unfold val_main_v156 val_main_v155 val_main_call2_v0
  rw [argsort_apply]
  show _ + 1#32 = BitVec.ofNat 32 (_ + 1)
  rw [BitVec.ofNat_add]

/-- The index the reference's gather takes, its negative ones moved up. -/
theorem v5_apply (b : Fin 2) (t : Fin 16) (c : Fin 768) :
    val_main_call3_v5 (F := Ideal) x0 x1 x2 x3 x4 x5 x6 (ix4 b t c 0) = BitVec.ofNat 32 (token x0 x1 x2 x3 x4 x5 x6 b t).val := by
  have e : idx_main_call3_v5 (ix4 b t c 0) = ix3 b t c := by
    refine funext fun a => Fin.ext ?_
    have := b.isLt; have := t.isLt; have := c.isLt
    match a with
    | ⟨0, _⟩ => show (((b.val * 16 + t.val) * 768 + c.val) * 1 + 0) / 12288 = b.val; omega
    | ⟨1, _⟩ => show (((b.val * 16 + t.val) * 768 + c.val) * 1 + 0) / 768 % 16 = t.val; omega
    | ⟨2, _⟩ => show (((b.val * 16 + t.val) * 768 + c.val) * 1 + 0) % 768 = c.val; omega
  rw [val_main_call3_v5_apply, e, val_main_call3_v4_apply, val_main_call3_v3_apply, val_main_call3_v2_apply, val_main_call3_c_0_apply,
    val_main_call3_v1_apply, val_main_call3_v0_apply, val_main_call3_c_apply, v161_apply]
  exact (word_ok _).1

/-- Every index of the gather is in bounds. -/
theorem v12_apply (j : S2x16x768.Idx) : val_main_call3_v12 (F := Ideal) x0 x1 x2 x3 x4 x5 x6 j = 1#1 := by
  have h : ∀ i, val_main_call3_v11 (F := Ideal) x0 x1 x2 x3 x4 x5 x6 i = 1#1 := fun i => by
    obtain ⟨b, t, c, z, rfl⟩ : ∃ b t c z, i = ix4 b t c z := ⟨_, _, _, _, eq_ix4 i⟩
    obtain rfl : z = 0 := Subsingleton.elim _ _
    rw [val_main_call3_v11_apply, val_main_call3_v10_apply, val_main_call3_v9_apply, val_main_call3_v8_apply, val_main_call3_c_1_apply,
      val_main_call3_v7_apply, val_main_call3_v6_apply, val_main_call3_c_2_apply, v5_apply]
    exact (word_ok _).2.1
  unfold val_main_call3_v12
  generalize val_main_call3_v11 (F := Ideal) x0 x1 x2 x3 x4 x5 x6 = y at h
  rw [Host.reduce_eq_fold_single _ _ _ Cert.ReferenceIdeal.Gen.reducesTo_S2x16x768x1_S2x16x768_d3 (by decide), val_main_call3_c_3_apply]
  exact fold_and _ _ fun k => h _

/-- The reference's selected tokens: the state at the tokens of the ranking. -/
theorem v162_apply (b : Fin 2) (t : Fin 16) (c : Fin 768) :
    val_main_v162 (F := Ideal) x0 x1 x2 x3 x4 x5 x6 x7 x8 x9 x10 x11 x12 x13 x14 x15 x16 (ix3 b t c)
      = val_main_v110 (F := Ideal) x0 x1 x2 x3 x4 x5 x6 x7 x8 x9 x10 x11 x12 x13 x14 x15 x16 (ix3 b (token x0 x1 x2 x3 x4 x5 x6 b t) c) := by
  rw [val_main_v162_apply, v12_apply]
  refine (if_pos rfl).trans ?_
  have h5 := v5_apply x0 x1 x2 x3 x4 x5 x6 b t c
  unfold val_main_call3_v13
  generalize val_main_call3_v5 (F := Ideal) x0 x1 x2 x3 x4 x5 x6 = e at h5
  generalize val_main_v110 (F := Ideal) x0 x1 x2 x3 x4 x5 x6 x7 x8 x9 x10 x11 x12 x13 x14 x15 x16 = y
  rw [gather_apply]
  refine congrArg y (congrArg (fun n => ix3 b n c) (Fin.ext ?_))
  show min (e (ix4 b t c 0)).toInt.toNat 196 = _
  rw [h5]
  exact (word_ok _).2.2

/-- The kernel's selected tokens: its marks pick the state at the tokens of its ranking. -/
theorem chosen_apply (a : Vec Ideal Cert.KernelIdeal.S2x12x197x197 .f32) (w : Vec Ideal Cert.KernelIdeal.S196x196 .f32) (y : FVec Ideal S2x197x768 .f32)
    (b : Fin 2) (t : Fin 16) (c : Fin 768) :
    chosen (marks a w) (Stretch.flat (F := Ideal) y) (ix3 b t c)
      = y (ix3 b ⟨(pick fit2 io2 (weigh (Chain.T a 24) w) b t.val).val + 1, Nat.succ_lt_succ (Fin.isLt _)⟩ c) := by
  have hm : ∀ l : Fin 196, marks a w (ix3 b t l) = if l = pick fit2 io2 (weigh (Chain.T a 24) w) b t.val then (1 : EReal) else 0 :=
    fun l => hot_stack fit2 io2 io2_apply _ b t.val l
  show ∑ l : Fin 196, marks a w (ix3 b t l) * Stretch.flat (F := Ideal) y (ix2 (row b ⟨l.val + 1, by omega⟩) c) = _
  rw [Finset.sum_eq_single_of_mem (pick fit2 io2 (weigh (Chain.T a 24) w) b t.val) (Finset.mem_univ _) fun l _ hl => by rw [hm, if_neg hl, zero_mul],
    hm, if_pos rfl, one_mul, flat_apply]

/-- The selected tokens are the reference's, if the weighted counts are the reference's and at least zero. -/
theorem chosen_eq (w : Vec Ideal Cert.KernelIdeal.S196x196 .f32)
    (he : ∀ b p, (val_main_v154 (F := Ideal) x0 x1 x2 x3 x4 x5 x6 (ix2 b p) : EReal) = weigh (Chain.T (val_main_v56 (F := Ideal) x0 x1 x2 x3 x4 x5 x6) 24) w (ix2 b p))
    (hn : ∀ b p, (0 : EReal) ≤ weigh (Chain.T (val_main_v56 (F := Ideal) x0 x1 x2 x3 x4 x5 x6) 24) w (ix2 b p)) :
    chosen (marks (val_main_v56 (F := Ideal) x0 x1 x2 x3 x4 x5 x6) w)
        (Stretch.flat (F := Ideal) (val_main_v110 (F := Ideal) x0 x1 x2 x3 x4 x5 x6 x7 x8 x9 x10 x11 x12 x13 x14 x15 x16))
      = val_main_v162 (F := Ideal) x0 x1 x2 x3 x4 x5 x6 x7 x8 x9 x10 x11 x12 x13 x14 x15 x16 := by
  funext i
  obtain ⟨b, t, c, rfl⟩ : ∃ b t c, i = ix3 b t c := ⟨_, _, _, eq_ix3 i⟩
  rw [chosen_apply, v162_apply]
  have hr : rank (fun l => val_main_v154 (F := Ideal) x0 x1 x2 x3 x4 x5 x6 (ix2 b l)) (t.castLE (by decide))
      = pick fit2 io2 (weigh (Chain.T (val_main_v56 (F := Ideal) x0 x1 x2 x3 x4 x5 x6) 24) w) b t.val := by
    rw [show (fun l => val_main_v154 (F := Ideal) x0 x1 x2 x3 x4 x5 x6 (ix2 b l)) = fun l => weigh (Chain.T (val_main_v56 (F := Ideal) x0 x1 x2 x3 x4 x5 x6) 24) w (ix2 b l)
      from funext fun l => he b l]
    exact rank_eq (rounds fit2 io2 io2_apply _ b fun l => hn b l) (t.castLE (by decide))
  unfold token
  simp only [hr]

end Cert.Proof.Gather
-- ==== Proof.Contents.lean ====
/- What the program's run reads: each region's operands and outputs, as stages of the reference on the arguments. -/
module

public import proofs.«01_k».proof.Proof.KernelRun
public import proofs.«01_k».proof.Proof.Gather

@[expose] public section

set_option maxRecDepth 16384

noncomputable section

namespace Cert.Proof.Contents

open Cert.KernelIdeal Cert.KernelIdeal.Gen Cert.ReferenceIdeal.Read
open Cert.Proof.KernelRun Cert.Proof.Stretch Cert.Proof.Layer Cert.Proof.Mlp Cert.Proof.Qkv Cert.Proof.Av
open Idealize.ShloMosaic Idealize.ShloMosaic.TcCoe

/-- A function of six arguments at equal arguments. -/
theorem eq6 {α β γ δ ε ζ φ : Type} (f : α → β → γ → δ → ε → ζ → φ) {a a' : α} {b b' : β} {c c' : γ} {d d' : δ} {e e' : ε} {g g' : ζ}
    (ha : a = a') (hb : b = b') (hc : c = c') (hd : d = d') (he : e = e') (hg : g = g') : f a b c d e g = f a' b' c' d' e' g' := by
  subst ha hb hc hd he hg; rfl

variable (m : (ℓ : Loc nD τ sig) → Buf (Elt Ideal) ℓ) (ρ : Dev nD → PrngReg) (c : Dev nD)

/-- The first region's outputs at its operands. -/
theorem at0 {φ : Type} (f : Vec Ideal S394x768 .f32 → Vec Ideal S768x768 .f32 → Vec Ideal S1x768 .f32 → Vec Ideal S768x768 .f32 → Vec Ideal S1x768 .f32 → Vec Ideal S768x768 .f32 → Vec Ideal S1x768 .f32 → φ) :
    f (V1 m ρ c main_v25) (V1 m ρ c main_arg3) (V1 m ρ c main_v26) (V1 m ρ c main_arg5) (V1 m ρ c main_v27) (V1 m ρ c main_arg7) (V1 m ρ c main_v28)
      = f (flat (F := Ideal) (ln (apart (m ((c : Thread nD τ).loc main_arg0))) (m ((c : Thread nD τ).loc main_arg1)) (m ((c : Thread nD τ).loc main_arg2)))) (m ((c : Thread nD τ).loc main_arg3)) (asRow (m ((c : Thread nD τ).loc main_arg4))) (m ((c : Thread nD τ).loc main_arg5)) (asRow (m ((c : Thread nD τ).loc main_arg6))) (m ((c : Thread nD τ).loc main_arg7)) (asRow (m ((c : Thread nD τ).loc main_arg8))) :=
  (eq6 (f (V1 m ρ c main_v25)) (W1_args m ρ c main_arg3 (by decide)) (s0_v26 (W0 m ρ c)) (W1_args m ρ c main_arg5 (by decide)) (s0_v27 (W0 m ρ c)) (W1_args m ρ c main_arg7 (by decide)) (s0_v28 (W0 m ρ c))).trans
    (congrArg (fun x => f x _ _ _ _ _ _) (s0_v25 (W0 m ρ c)))

/-- The first region leaves the logits. -/
theorem logits_at : W2 m ρ c (Proc.devRef .tc main_v29_0) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 7).trans ((final0_7 (V1 m ρ) c).trans ((at0 m ρ c (out0_7 (F := Ideal))).trans (by
    rw [out0_7_eq, proj_eq, proj_eq, logits_eq])))

/-- The first region leaves the values. -/
theorem values_at : W2 m ρ c (Proc.devRef .tc main_v29_1) = flat (F := Ideal) (val_main_v28 (F := Ideal) (m ((c : Thread nD τ).loc main_arg0)) (m ((c : Thread nD τ).loc main_arg1)) (m ((c : Thread nD τ).loc main_arg2)) (m ((c : Thread nD τ).loc main_arg7)) (m ((c : Thread nD τ).loc main_arg8))) :=
  (W2_arr m ρ c 8).trans ((final0_8 (V1 m ρ) c).trans ((at0 m ρ c (out0_8 (F := Ideal))).trans (by
    rw [out0_8_eq, proj_eq])))

/-- The second region's attention weights. -/
theorem v40_at : V3 m ρ c main_v40 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (s1_v40 (W2 m ρ c)).trans (by rw [r56, logits_at m ρ c])

/-- The second region's values. -/
theorem v29_1_at : V3 m ρ c main_v29_1 = flat (F := Ideal) (val_main_v28 (F := Ideal) (m ((c : Thread nD τ).loc main_arg0)) (m ((c : Thread nD τ).loc main_arg1)) (m ((c : Thread nD τ).loc main_arg2)) (m ((c : Thread nD τ).loc main_arg7)) (m ((c : Thread nD τ).loc main_arg8))) :=
  (W3_of m ρ c main_v29_1 (by decide)).trans (values_at m ρ c)

/-- The second region's bias. -/
theorem v41_at : V3 m ρ c main_v41 = asRow (m ((c : Thread nD τ).loc main_arg10)) :=
  (s1_v41 (W2 m ρ c)).trans (congrArg asRow (W2_args m ρ c main_arg10 (by decide)))

/-- The table of weights, as the program's constant. -/
abbrev tbl : Vec Ideal S196x196 .f32 := fun i => FloatOps.ofBits (F := Ideal) .f32 (lit0 (S196x196.rowMajor i))

/-- The second region's table. -/
theorem cst_at : V3 m ρ c main_cst = tbl :=
  (W3_of m ρ c main_cst (by decide)).trans ((W2_of m ρ c main_cst (by decide)).trans (s0_cst (W0 m ρ c)))

/-- The second region's outputs at its operands. -/
theorem at1 {φ : Type} (f : Vec Ideal S2x12x197x197 .f32 → Vec Ideal S394x768 .f32 → Vec Ideal S394x768 .f32 → Vec Ideal S768x768 .f32 → Vec Ideal S1x768 .f32 → Vec Ideal S196x196 .f32 → φ) :
    f (V3 m ρ c main_v40) (V3 m ρ c main_v29_1) (V3 m ρ c main_arg0) (V3 m ρ c main_arg9) (V3 m ρ c main_v41) (V3 m ρ c main_cst)
      = f (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (flat (F := Ideal) (val_main_v28 (F := Ideal) (m ((c : Thread nD τ).loc main_arg0)) (m ((c : Thread nD τ).loc main_arg1)) (m ((c : Thread nD τ).loc main_arg2)) (m ((c : Thread nD τ).loc main_arg7)) (m ((c : Thread nD τ).loc main_arg8)))) (m ((c : Thread nD τ).loc main_arg0)) (m ((c : Thread nD τ).loc main_arg9)) (asRow (m ((c : Thread nD τ).loc main_arg10))) tbl :=
  eq6 f (v40_at m ρ c) (v29_1_at m ρ c) (W3_args m ρ c main_arg0 (by decide)) (W3_args m ρ c main_arg9 (by decide)) (v41_at m ρ c) (cst_at m ρ c)

/-- The second region leaves the state after attention. -/
theorem mid_at : W4 m ρ c (Proc.devRef .tc main_v42_0) = flat (F := Ideal) (val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W4_arr m ρ c 6).trans ((final1_6 (V3 m ρ) c).trans ((at1 m ρ c (out1_6 (F := Ideal))).trans (by
    rw [out1_6_eq, h1_eq])))

/-- The second region leaves the marks. -/
theorem marks_at : W4 m ρ c (Proc.devRef .tc main_v42_1) = Chain.marks (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) tbl :=
  (W4_arr m ρ c 7).trans ((final1_7 (V3 m ρ) c).trans ((at1 m ρ c (out1_7 (F := Ideal))).trans (Chain.out1_7_eq _ _ _ _ _ _)))

/-- The third region's normalised rows. -/
theorem v68_at : V5 m ρ c main_v68 = flat (F := Ideal) (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (s2_v68 (W4 m ρ c)).trans (by
    rw [r88, mid_at m ρ c, apart_flat, W4_args m ρ c main_arg11 (by decide), W4_args m ρ c main_arg12 (by decide)])

/-- The third region's outputs at its operands. -/
theorem at2 {φ : Type} (f : Vec Ideal S394x768 .f32 → Vec Ideal S394x768 .f32 → Vec Ideal S768x3072 .f32 → Vec Ideal S1x3072 .f32 → Vec Ideal S3072x768 .f32 → Vec Ideal S1x768 .f32 → Vec Ideal S2x16x196 .f32 → φ) :
    f (V5 m ρ c main_v42_0) (V5 m ρ c main_v68) (V5 m ρ c main_arg13) (V5 m ρ c main_v69) (V5 m ρ c main_arg15) (V5 m ρ c main_v70) (V5 m ρ c main_v42_1)
      = f (flat (F := Ideal) (val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (flat (F := Ideal) (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))) (m ((c : Thread nD τ).loc main_arg13)) (asWide (m ((c : Thread nD τ).loc main_arg14))) (m ((c : Thread nD τ).loc main_arg15)) (asRow (m ((c : Thread nD τ).loc main_arg16)))
          (Chain.marks (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) tbl) :=
  (eq6 (f (V5 m ρ c main_v42_0)) (v68_at m ρ c) (W5_args m ρ c main_arg13 (by decide)) ((s2_v69 (W4 m ρ c)).trans (congrArg asWide (W4_args m ρ c main_arg14 (by decide)))) (W5_args m ρ c main_arg15 (by decide))
      ((s2_v70 (W4 m ρ c)).trans (congrArg asRow (W4_args m ρ c main_arg16 (by decide)))) ((W5_of m ρ c main_v42_1 (by decide)).trans (marks_at m ρ c))).trans
    (congrArg (fun x => f x _ _ _ _ _ _) ((W5_of m ρ c main_v42_0 (by decide)).trans (mid_at m ρ c)))

/-- The third region's hidden state is the reference's. -/
theorem state_at : out2_7 (F := Ideal) (V5 m ρ c main_v42_0) (V5 m ρ c main_v68) (V5 m ρ c main_arg13) (V5 m ρ c main_v69) (V5 m ρ c main_arg15) (V5 m ρ c main_v70) (V5 m ρ c main_v42_1)
    = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (at2 m ρ c (out2_7 (F := Ideal))).trans (by rw [out2_7_eq, state_eq, v111_eq])

/-- The third region's selected tokens are its marks' products with the reference's state. -/
theorem chosen_at : out2_8 (F := Ideal) (V5 m ρ c main_v42_0) (V5 m ρ c main_v68) (V5 m ρ c main_arg13) (V5 m ρ c main_v69) (V5 m ρ c main_arg15) (V5 m ρ c main_v70) (V5 m ρ c main_v42_1)
    = chosen (Chain.marks (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) tbl) (flat (F := Ideal) (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) :=
  (at2 m ρ c (out2_8 (F := Ideal))).trans (by rw [out2_8_eq, state_eq])

end Cert.Proof.Contents
-- ==== Proof.Table.lean ====
/- The smoothing table the kernel's program holds: each of its entries is a product of two weights. -/
module

public import proofs.«01_k».proof.KernelIdeal

@[expose] public section

set_option maxRecDepth 16384

noncomputable section

namespace Cert.Proof.Table

open Cert.KernelIdeal
open Idealize.ShloMosaic

/-- The smoothing weight between two coordinates of a board's side. -/
def near (a b : ℕ) : ℕ := if a = b then 2 else if a + 1 = b then 1 else if b + 1 = a then 1 else 0

/-- The word of a weight. -/
def word (n : ℕ) : BitVec 32 := if n = 0 then 0x00000000#32 else if n = 1 then 0x3F800000#32 else if n = 2 then 0x40000000#32 else 0x40800000#32

/-- The word an entry of the table should hold. -/
def want (n : ℕ) : BitVec 32 := word (near (n / 196 / 14) (n % 196 / 14) * near (n / 196 % 14) (n % 196 % 14))

/-- A block of the table, given its entries. -/
theorem block {i a b : ℕ} {f : ℕ → BitVec 32} (h : i / 16384 = a) (hd : i / 128 % 128 = b) (hf : ∀ x < 128, f (128 * (128 * a + b) + x) = want (128 * (128 * a + b) + x)) :
    f i = want i := by
  have e : i = 128 * (128 * a + b) + i % 128 := by omega
  rw [e]
  exact hf _ (Nat.mod_lt i (by decide))

set_option maxHeartbeats 0 in
/-- Every entry of the table is the word it should hold. -/
theorem entry (i : ℕ) (hi : i < 38416) : lit0t i = want i := by
  unfold lit0t
  split
  case h_1 h => unfold lit0t1_0; split <;> first | exact block h (by assumption) (by decide +kernel) | (simp only [imp_false] at *; omega)
  case h_2 h => unfold lit0t1_1; split <;> first | exact block h (by assumption) (by decide +kernel) | (simp only [imp_false] at *; omega)
  case h_3 h => unfold lit0t1_2; split <;> first | exact block h (by assumption) (by decide +kernel) | (simp only [imp_false] at *; omega)
  case h_4 => simp only [imp_false] at *; omega

/-- An entry is the word of its lanes' weight. -/
theorem entry_eq (l p : Fin 196) : lit0t (196 * l.val + p.val) = word (near (l.val / 14) (p.val / 14) * near (l.val % 14) (p.val % 14)) := by
  have hl := l.isLt
  have hp := p.isLt
  rw [entry _ (show 196 * l.val + p.val < 38416 by omega)]
  unfold want
  rw [show (196 * l.val + p.val) / 196 = l.val by omega, show (196 * l.val + p.val) % 196 = p.val by omega]

/-- The weights there are. -/
theorem near_cases (a b c d : ℕ) : near a b * near c d = 0 ∨ near a b * near c d = 1 ∨ near a b * near c d = 2 ∨ near a b * near c d = 4 := by
  have h : ∀ a b, near a b = 0 ∨ near a b = 1 ∨ near a b = 2 := fun a b => by unfold near; split_ifs <;> omega
  rcases h a b with e | e | e <;> rcases h c d with f | f | f <;> rw [e, f] <;> decide

end Cert.Proof.Table
-- ==== Proof.Conv.lean ====
/- The smoothing of the votes: the kernel's product with its table is the reference's sum of nine shifted boards. -/
module

public import proofs.«01_k».proof.Proof.Vote
public import proofs.«01_k».proof.Proof.Table

@[expose] public section

set_option maxRecDepth 16384

noncomputable section

namespace Cert.Proof.Conv

open Cert.KernelIdeal Cert.KernelIdeal.Gen Cert.Proof.Qkv Cert.Proof.Av Cert.Proof.Pick Cert.Proof.Chain Cert.Proof.Vote Cert.Proof.Table
open Cert.ReferenceIdeal.Read
open Idealize.ShloMosaic Idealize.ShloMosaic.ValueIdx
open scoped BigOperators

/-- A weight's word, read. -/
theorem word_real (n : ℕ) (h : n = 0 ∨ n = 1 ∨ n = 2 ∨ n = 4) : Ideal.ofBits .f32 (word n) = ((n : ℕ) : EReal) := by
  rw [← EReal.coe_natCast]
  rcases h with rfl | rfl | rfl | rfl
  · exact Ideal.ofBits_zero_f32.trans (by simp)
  all_goals
    simp only [word]
    simp [Ideal.ofBits, Ideal.ieee]
    rw [← EReal.coe_mul]
    norm_num

/-- Two lanes' weight as a product of the two coordinates' weights. -/
abbrev nearLanes (l p : Fin 196) : ℕ := near (l.val / 14) (p.val / 14) * near (l.val % 14) (p.val % 14)

/-- The table as the kernel's program holds it. -/
def table : FVec Ideal S196x196 .f32 := fun i => FloatOps.ofBits (F := Ideal) .f32 (lit0 (S196x196.rowMajor i))

/-- The table's entries are the weights. -/
theorem table_apply (l p : Fin 196) : (table (ix2 l p) : EReal) = ((nearLanes l p : ℕ) : EReal) := by
  have e : lit0 (S196x196.rowMajor (ix2 l p)) = lit0t (196 * l.val + p.val) := by
    have h : ∀ q : Fin 38416, lit0 q = lit0t q.val := fun _ => rfl
    refine (h (S196x196.rowMajor (ix2 l p))).trans (congrArg lit0t ((Shape.rowMajor_val_two _).trans ?_))
    show l.val * 196 + p.val = _
    omega
  show Ideal.ofBits .f32 (lit0 (S196x196.rowMajor (ix2 l p))) = _
  rw [e, entry_eq l p, word_real _ (near_cases _ _ _ _)]

/-- The weighted counts at an index. -/
theorem weigh_apply (m : FVec Ideal S24x196 .f32) (b : Fin 2) (p : Fin 196) :
    (weigh m table (ix2 b p) : EReal) = ∑ l : Fin 196, counts m (ix2 b l) * ((nearLanes l p : ℕ) : EReal) := by
  unfold weigh
  refine (Ideal.matmul_plain_apply (some .fp32) (counts m) table _ b p).trans ?_
  rw [constant_apply, Ideal.ofBits_zero_f32, zero_add]
  exact Finset.sum_congr rfl fun l _ => congrArg (counts m (ix2 b l) * ·) (table_apply l p)

/-- A board with one ring of zeros around it, at a coordinate. -/
def cell (c : Fin 196 → EReal) (i j : ℕ) : EReal :=
  if h : (1 ≤ i ∧ i ≤ 14) ∧ 1 ≤ j ∧ j ≤ 14 then c ⟨(i - 1) * 14 + (j - 1), by omega⟩ else 0

/-- The lanes' shares of a weight times a cell. -/
def share (c : Fin 196 → EReal) (u v i j : ℕ) : EReal :=
  ∑ l : Fin 196, c l * (((if l.val / 14 + 1 = i then u else 0) * (if l.val % 14 + 1 = j then v else 0) : ℕ) : EReal)

/-- A weight times a cell is a sum over the lanes. -/
theorem mul_cell (c : Fin 196 → EReal) (u v : ℕ) (i j : ℕ) :
    ((u * v : ℕ) : EReal) * cell c i j = share c u v i j := by
  unfold cell share
  split
  · rename_i h
    rw [Finset.sum_eq_single_of_mem (⟨(i - 1) * 14 + (j - 1), by omega⟩ : Fin 196) (Finset.mem_univ _)]
    · rw [if_pos (show ((i - 1) * 14 + (j - 1)) / 14 + 1 = i by omega), if_pos (show ((i - 1) * 14 + (j - 1)) % 14 + 1 = j by omega), mul_comm]
    · intro l _ hl
      have : ¬(l.val / 14 + 1 = i ∧ l.val % 14 + 1 = j) := fun ⟨h1, h2⟩ => hl (Fin.ext (by show l.val = (i - 1) * 14 + (j - 1); omega))
      by_cases h1 : l.val / 14 + 1 = i
      · rw [if_neg (fun h2 => this ⟨h1, h2⟩), Nat.mul_zero, Nat.cast_zero, mul_zero]
      · rw [if_neg h1, Nat.zero_mul, Nat.cast_zero, mul_zero]
  · rename_i h
    rw [mul_zero]
    refine (Finset.sum_eq_zero fun l _ => ?_).symm
    have := l.isLt
    by_cases h1 : l.val / 14 + 1 = i
    · rw [if_neg (show ¬l.val % 14 + 1 = j from fun h2 => h (by omega)), Nat.mul_zero, Nat.cast_zero, mul_zero]
    · rw [if_neg h1, Nat.zero_mul, Nat.cast_zero, mul_zero]

/-- A lane's share of two sums is one share of the sum of the weights. -/
theorem sum_add_sum (c : Fin 196 → EReal) (f g : Fin 196 → ℕ) :
    (∑ l, c l * ((f l : ℕ) : EReal)) + ∑ l, c l * ((g l : ℕ) : EReal) = ∑ l, c l * ((f l + g l : ℕ) : EReal) := by
  rw [← Finset.sum_add_distrib]
  refine Finset.sum_congr rfl fun l _ => ?_
  rw [Nat.cast_add]
  exact (EReal.left_distrib_of_nonneg (by exact_mod_cast Nat.zero_le _) (by exact_mod_cast Nat.zero_le _)).symm

/-- Two coordinates' weight as three cases. -/
theorem near_eq (a r : ℕ) : (if a + 1 = r then 1 else 0) + (if a + 1 = r + 1 then 2 else 0) + (if a + 1 = r + 2 then 1 else 0) = near a r := by
  unfold near
  split_ifs <;> omega

/-- Nine shifted boards, weighted and added, at a coordinate. -/
def nine (c : Fin 196 → EReal) (r s : ℕ) : EReal :=
  ((1 : ℕ) : EReal) * cell c r s + ((2 : ℕ) : EReal) * cell c r (s + 1) + ((1 : ℕ) : EReal) * cell c r (s + 2)
    + ((2 : ℕ) : EReal) * cell c (r + 1) s + ((4 : ℕ) : EReal) * cell c (r + 1) (s + 1) + ((2 : ℕ) : EReal) * cell c (r + 1) (s + 2)
    + ((1 : ℕ) : EReal) * cell c (r + 2) s + ((2 : ℕ) : EReal) * cell c (r + 2) (s + 1) + ((1 : ℕ) : EReal) * cell c (r + 2) (s + 2)

/-- They are the sum over the lanes with the table's weights. -/
theorem nine_eq (c : Fin 196 → EReal) (p : Fin 196) : nine c (p.val / 14) (p.val % 14) = ∑ l : Fin 196, c l * ((nearLanes l p : ℕ) : EReal) := by
  have e : nine c (p.val / 14) (p.val % 14)
      = share c 1 1 (p.val / 14) (p.val % 14) + share c 1 2 (p.val / 14) (p.val % 14 + 1) + share c 1 1 (p.val / 14) (p.val % 14 + 2)
        + share c 2 1 (p.val / 14 + 1) (p.val % 14) + share c 2 2 (p.val / 14 + 1) (p.val % 14 + 1) + share c 2 1 (p.val / 14 + 1) (p.val % 14 + 2)
        + share c 1 1 (p.val / 14 + 2) (p.val % 14) + share c 1 2 (p.val / 14 + 2) (p.val % 14 + 1) + share c 1 1 (p.val / 14 + 2) (p.val % 14 + 2) := by
    simp only [← mul_cell]
    rfl
  rw [e]
  unfold share
  simp only [sum_add_sum]
  refine Finset.sum_congr rfl fun l _ => congrArg (c l * ·) (congrArg _ ?_)
  show _ = near _ _ * near _ _
  rw [← near_eq (l.val / 14), ← near_eq (l.val % 14)]
  ring

variable (x0 : FVec Ideal S394x768 .f32) (x1 x2 : FVec Ideal S768 .f32) (x3 : FVec Ideal S768x768 .f32) (x4 : FVec Ideal S768 .f32) (x5 : FVec Ideal S768x768 .f32)
  (x6 : FVec Ideal S768 .f32)

/-- A padded board at an index. -/
theorem pad_cell (y : FVec Ideal Cert.ReferenceIdeal.S2x14x14 .f32) (z : FVec Ideal Cert.ReferenceIdeal.S_ .f32) (c : Fin 2 → Fin 196 → EReal)
    (hy : ∀ (b : Fin 2) (i j : Fin 14), y (ix3 b i j) = c b ⟨i.val * 14 + j.val, by have := i.isLt; have := j.isLt; omega⟩)
    (hz : (z (Shape.Idx.first Cert.ReferenceIdeal.Gen.h_S_) : EReal) = 0) (b : Fin 2) (i j : Fin 16) :
    pad Cert.ReferenceIdeal.S2x16x16 ![0, 1, 1] ![0, 1, 1] ![0, 0, 0] y z Cert.ReferenceIdeal.Gen.pads_S2x14x14_S2x16x16_000_110_110 Cert.ReferenceIdeal.Gen.h_S_ (ix3 b i j)
      = cell (c b) i.val j.val := by
  unfold cell
  split
  · rename_i h
    have h1 : i.val - 1 < 14 := by omega
    have h2 : j.val - 1 < 14 := by omega
    refine (pad_apply_of_inside ![0, 1, 1] ![0, 1, 1] ![0, 0, 0] y z Cert.ReferenceIdeal.Gen.pads_S2x14x14_S2x16x16_000_110_110 Cert.ReferenceIdeal.Gen.h_S_ (ix3 b i j)
      (ix3 b ⟨i.val - 1, h1⟩ ⟨j.val - 1, h2⟩) fun a => ?_).trans (hy _ _ _)
    match a with
    | ⟨0, _⟩ => show b.val = 0 + b.val * (0 + 1); omega
    | ⟨1, _⟩ => show i.val = 1 + (i.val - 1) * (0 + 1); omega
    | ⟨2, _⟩ => show j.val = 1 + (j.val - 1) * (0 + 1); omega
  · rename_i h
    have hc : ¬(1 ≤ i.val ∧ i.val ≤ 14) ∨ ¬(1 ≤ j.val ∧ j.val ≤ 14) := by omega
    refine Eq.trans ?_ hz
    rcases hc with hc | hc
    · refine pad_apply_of_not_inside ![0, 1, 1] ![0, 1, 1] ![0, 0, 0] y z Cert.ReferenceIdeal.Gen.pads_S2x14x14_S2x16x16_000_110_110 Cert.ReferenceIdeal.Gen.h_S_ (ix3 b i j) (1 : Fin 3) ?_
      show ¬(1 ≤ i.val ∧ (i.val - 1) % (0 + 1) = 0 ∧ (i.val - 1) / (0 + 1) < 14)
      omega
    · refine pad_apply_of_not_inside ![0, 1, 1] ![0, 1, 1] ![0, 0, 0] y z Cert.ReferenceIdeal.Gen.pads_S2x14x14_S2x16x16_000_110_110 Cert.ReferenceIdeal.Gen.h_S_ (ix3 b i j) (2 : Fin 3) ?_
      show ¬(1 ≤ j.val ∧ (j.val - 1) % (0 + 1) = 0 ∧ (j.val - 1) / (0 + 1) < 14)
      omega

/-- The board of votes at an index. -/
theorem v117_apply (b : Fin 2) (i j : Fin 14) : val_main_v117 (F := Ideal) x0 x1 x2 x3 x4 x5 x6 (ix3 b i j)
    = val_main_v116 (F := Ideal) x0 x1 x2 x3 x4 x5 x6 (ix2 b ⟨i.val * 14 + j.val, by have := i.isLt; have := j.isLt; omega⟩) := by
  rw [val_main_v117_apply]
  have := b.isLt; have := i.isLt; have := j.isLt
  refine congrArg _ (funext fun a => Fin.ext ?_)
  match a with
  | ⟨0, _⟩ => show ((b.val * 14 + i.val) * 14 + j.val) / 196 = b.val; omega
  | ⟨1, _⟩ => show ((b.val * 14 + i.val) * 14 + j.val) % 196 = i.val * 14 + j.val; omega

/-- The padded board of votes at an index. -/
theorem v118_apply (i : Cert.ReferenceIdeal.S2x16x16.Idx) : (val_main_v118 (F := Ideal) x0 x1 x2 x3 x4 x5 x6 i : EReal)
    = cell (fun p => val_main_v116 (F := Ideal) x0 x1 x2 x3 x4 x5 x6 (ix2 (i 0) p)) (i 1).val (i 2).val := by
  obtain ⟨b, r, s, rfl⟩ : ∃ b r s, i = ix3 b r s := ⟨_, _, _, eq_ix3 i⟩
  have hz : (val_main_call1_v0 (F := Ideal) (Shape.Idx.first Cert.ReferenceIdeal.Gen.h_S_) : EReal) = 0 := by
    show (((0#32 : BitVec 32).toInt : ℝ) : EReal) = 0
    simp
  have hy := v117_apply x0 x1 x2 x3 x4 x5 x6
  unfold val_main_v118
  exact pad_cell _ _ (fun b p => val_main_v116 (F := Ideal) x0 x1 x2 x3 x4 x5 x6 (ix2 b p)) hy hz b r s

/-- One, two and four. -/
theorem weights_eq : Ideal.ofBits .f32 0x3F800000#32 = ((1 : ℕ) : EReal) ∧ Ideal.ofBits .f32 0x40000000#32 = ((2 : ℕ) : EReal) ∧ Ideal.ofBits .f32 0x40800000#32 = ((4 : ℕ) : EReal) :=
  ⟨word_real 1 (by decide), word_real 2 (by decide), word_real 4 (by decide)⟩

/-- The reference's smoothed votes at an index. -/
theorem v154_apply (b : Fin 2) (p : Fin 196) : (val_main_v154 (F := Ideal) x0 x1 x2 x3 x4 x5 x6 (ix2 b p) : EReal)
    = nine (fun l => val_main_v116 (F := Ideal) x0 x1 x2 x3 x4 x5 x6 (ix2 b l)) (p.val / 14) (p.val % 14) := by
  obtain ⟨w1, w2, w4⟩ := weights_eq
  have hi : idx_main_v154 (ix2 b p) = ix3 b ⟨p.val / 14, by have := p.isLt; omega⟩ ⟨p.val % 14, Nat.mod_lt _ (by decide)⟩ := by
    have := b.isLt; have := p.isLt
    refine funext fun a => Fin.ext ?_
    match a with
    | ⟨0, _⟩ => show (b.val * 196 + p.val) / 196 = b.val; omega
    | ⟨1, _⟩ => show (b.val * 196 + p.val) / 14 % 14 = p.val / 14; omega
    | ⟨2, _⟩ => show (b.val * 196 + p.val) % 14 = p.val % 14; omega
  rw [val_main_v154_apply, hi, val_main_v153_apply, val_main_v149_apply, val_main_v145_apply, val_main_v141_apply, val_main_v137_apply, val_main_v133_apply,
    val_main_v129_apply, val_main_v125_apply, val_main_v121_apply, val_main_v124_apply, val_main_v128_apply, val_main_v132_apply, val_main_v136_apply,
    val_main_v140_apply, val_main_v144_apply, val_main_v148_apply, val_main_v152_apply,
    val_main_v119_apply, val_main_v122_apply, val_main_v126_apply, val_main_v130_apply, val_main_v134_apply, val_main_v138_apply, val_main_v142_apply,
    val_main_v146_apply, val_main_v150_apply,
    val_main_v120_apply, val_main_v123_apply, val_main_v127_apply, val_main_v131_apply, val_main_v135_apply, val_main_v139_apply, val_main_v143_apply,
    val_main_v147_apply, val_main_v151_apply]
  simp only [v118_apply, val_main_cst_18_apply, val_main_cst_19_apply, val_main_cst_20_apply, val_main_cst_21_apply, val_main_cst_22_apply, val_main_cst_23_apply,
    val_main_cst_24_apply, val_main_cst_25_apply, val_main_cst_26_apply, Ideal.ofBits_def, w1, w2, w4]
  unfold nine
  simp only [Nat.add_comm (p.val / 14), Nat.add_comm (p.val % 14)]
  rfl

/-- The kernel's weighted counts are the reference's smoothed votes. -/
theorem smooth_eq (hs : ∀ i, 0 ≤ val_main_v56 (F := Ideal) x0 x1 x2 x3 x4 x5 x6 i) (b : Fin 2) (p : Fin 196) :
    (val_main_v154 (F := Ideal) x0 x1 x2 x3 x4 x5 x6 (ix2 b p) : EReal) = weigh (Chain.T (val_main_v56 (F := Ideal) x0 x1 x2 x3 x4 x5 x6) 24) table (ix2 b p) := by
  rw [v154_apply, nine_eq, weigh_apply]
  exact Finset.sum_congr rfl fun l _ => congrArg (· * _) (votes_eq x0 x1 x2 x3 x4 x5 x6 hs b l)

/-- The weighted counts are at least zero. -/
theorem smooth_nonneg (a : Vec Ideal S2x12x197x197 .f32) (b : Fin 2) (p : Fin 196) : (0 : EReal) ≤ weigh (Chain.T a 24) table (ix2 b p) := by
  rw [weigh_apply]
  exact Finset.sum_nonneg fun l _ => mul_nonneg (counts_nonneg a _) (by exact_mod_cast Nat.zero_le _)

end Cert.Proof.Conv
-- ==== Proof.Finite.lean ====
/- Under the precondition every attention weight is at least zero: what the logits are computed of is finite, so every logit is,
   so no row's exponentials sum to zero. -/
module

public import proofs.«01_k».proof.Proof.Layer
public import proofs.«01_k».proof.Proof.Order
public import proofs.«01_k».proof.Pre_finite_layer

@[expose] public section

set_option maxRecDepth 16384

noncomputable section

namespace Cert.Proof.Finite

open Cert.ReferenceIdeal Cert.ReferenceIdeal.Read Cert.Proof.Qkv Cert.Proof.Order Cert.Proof.Layer
open Idealize.ShloMosaic Idealize.ShloMosaic.ValueIdx
open scoped BigOperators

/-- A number neither of the infinities. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.zero : IsReal 0 := ⟨0, rfl⟩

theorem IsReal.sum {n : ℕ} {f : Fin n → EReal} (h : ∀ k, IsReal (f k)) : IsReal (∑ k, f k) :=
  Finset.sum_induction f IsReal (fun _ _ => IsReal.add) IsReal.zero fun k _ => h k

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]
  exact ⟨a * (1 / b), (EReal.coe_mul _ _).symm⟩

/-- The root of a positive finite number is finite and not zero. -/
theorem sqrt_real {x : EReal} (hx : IsReal x) (h0 : 0 < x) : IsReal (Ideal.sqrt x) ∧ Ideal.sqrt x ≠ 0 := by
  obtain ⟨a, rfl⟩ := hx
  have ha : 0 < a := EReal.coe_pos.mp h0
  have e : Ideal.sqrt (a : EReal) = (Real.sqrt a : EReal) := if_neg (not_lt.mpr ha.le)
  rw [e]
  exact ⟨⟨_, rfl⟩, fun h => (Real.sqrt_pos.mpr ha).ne' (EReal.coe_eq_zero.mp h)⟩

/-- The row length. -/
theorem width_eq : Ideal.ofBits .f32 0x44400000#32 = ((768 : ℝ) : EReal) := by
  simp [Ideal.ofBits, Ideal.ieee]
  rw [← EReal.coe_mul]
  norm_num

/-- The number added to a variance. -/
theorem eps_real : IsReal (Ideal.ofBits .f32 0x358637BD#32) ∧ 0 < Ideal.ofBits .f32 0x358637BD#32 := by
  have e : ∃ r : ℝ, 0 < r ∧ Ideal.ofBits .f32 0x358637BD#32 = (r : EReal) := by
    simp [Ideal.ofBits, Ideal.ieee]
    rw [← EReal.coe_mul]
    exact ⟨_, by norm_num, rfl⟩
  obtain ⟨r, hr, e⟩ := e
  rw [e]
  exact ⟨⟨r, rfl⟩, EReal.coe_pos.mpr hr⟩

variable (x0 : FVec Ideal S394x768 .f32) (x1 x2 : FVec Ideal S768 .f32) (x3 : FVec Ideal S768x768 .f32) (x4 : FVec Ideal S768 .f32) (x5 : FVec Ideal S768x768 .f32)
  (x6 : FVec Ideal S768 .f32)

/-- A row's mean is finite. -/
theorem mean_real (h0 : ∀ i, IsReal (x0 i)) (i) : IsReal (val_main_v4 (F := Ideal) x0 i) := by
  rw [val_main_v4_apply, val_main_v3_apply, val_main_cst_0_apply, val_main_v2_apply, val_main_v1_apply, val_main_cst_apply]
  refine IsReal.div ((IsReal.add ?_ (IsReal.sum fun k => ?_))) ⟨768, width_eq⟩ (by rw [Ideal.ofBits_def, width_eq]; exact_mod_cast (by norm_num : (768 : ℝ) ≠ 0))
  · exact ⟨0, Ideal.ofBits_zero_f32⟩
  · rw [val_main_v0_apply]; exact h0 _

/-- A row's variance is finite and not negative. -/
theorem var_real (h0 : ∀ i, IsReal (x0 i)) (i) : IsReal (val_main_v11 (F := Ideal) x0 i) ∧ 0 ≤ val_main_v11 (F := Ideal) x0 i := by
  have h6 : ∀ i, IsReal (val_main_v6 (F := Ideal) x0 i) := fun i => by
    rw [val_main_v6_apply, val_main_v5_apply, val_main_v0_apply]
    exact (h0 _).sub (mean_real x0 h0 _)
  have h7 : ∀ i, IsReal (val_main_v7 (F := Ideal) x0 i) ∧ 0 ≤ val_main_v7 (F := Ideal) x0 i := fun i => by
    rw [val_main_v7_apply]
    obtain ⟨r, hr⟩ := h6 i
    rw [hr]
    exact ⟨IsReal.mul ⟨r, rfl⟩ ⟨r, rfl⟩, (EReal.coe_nonneg.mpr (mul_self_nonneg r)).trans_eq (EReal.coe_mul r r)⟩
  have hw : (FloatOps.ofBits (F := Ideal) .f32 0x44400000#32 : EReal) ≠ 0 := by
    rw [Ideal.ofBits_def, width_eq]; exact_mod_cast (by norm_num : (768 : ℝ) ≠ 0)
  have hz : (FloatOps.ofBits (F := Ideal) .f32 0x00000000#32 : EReal) = 0 := Ideal.ofBits_zero_f32
  rw [val_main_v11_apply, val_main_v10_apply, val_main_cst_2_apply, val_main_v9_apply, val_main_v8_apply, val_main_cst_1_apply, hz, zero_add]
  refine ⟨IsReal.div (IsReal.sum fun k => (h7 _).1) ⟨768, width_eq⟩ hw, div_nonneg (Finset.sum_nonneg fun k _ => (h7 _).2) ?_ hw⟩
  rw [Ideal.ofBits_def, width_eq]; exact_mod_cast (by norm_num : (0 : ℝ) ≤ 768)

/-- The normalised rows are finite. -/
theorem norm_real (h0 : ∀ i, IsReal (x0 i)) (h1 : ∀ i, IsReal (x1 i)) (h2 : ∀ i, IsReal (x2 i)) (i) : IsReal (val_main_v24 (F := Ideal) x0 x1 x2 i) := by
  rw [val_main_v24_apply, val_main_v23_apply, val_main_v22_apply, val_main_v21_apply, val_main_v20_apply, val_main_v19_apply, val_main_v18_apply,
    val_main_v17_apply, val_main_v16_apply, val_main_v15_apply, val_main_v14_apply, val_main_cst_3_apply, val_main_v13_apply, val_main_v12_apply, val_main_v0_apply]
  obtain ⟨hv, hn⟩ := var_real x0 h0 (idx_main_v17 i)
  obtain ⟨he, hp⟩ := eps_real
  obtain ⟨hs, hne⟩ := sqrt_real (hv.add he) (lt_of_lt_of_le hp (le_add_of_nonneg_left hn))
  exact (((h0 _).sub (mean_real x0 h0 _)).div hs hne).mul (h1 _) |>.add (h2 _)

/-- A projection is finite. -/
theorem proj_real (h0 : ∀ i, IsReal (x0 i)) (h1 : ∀ i, IsReal (x1 i)) (h2 : ∀ i, IsReal (x2 i)) (h3 : ∀ i, IsReal (x3 i)) (h4 : ∀ i, IsReal (x4 i)) (i) :
    IsReal (val_main_v30 (F := Ideal) x0 x1 x2 x3 x4 i) := by
  obtain ⟨b, h, n, d, rfl⟩ : ∃ b h n d, i = ix4 b h n d := ⟨_, _, _, _, eq_ix4 i⟩
  rw [v30_apply, v28_apply]
  exact (IsReal.sum fun k => (norm_real x0 x1 x2 h0 h1 h2 _).mul (h3 _)).add (h4 _)

/-- A logit is finite. -/
theorem logit_real (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (i) : IsReal (val_main_v45 (F := Ideal) x0 x1 x2 x3 x4 x5 x6 i) := by
  rw [val_main_v45_apply, val_main_v44_apply, val_main_cst_4_apply, val_main_v43_apply, v36_eq]
  refine IsReal.div (IsReal.sum fun k => (proj_real x0 x1 x2 x3 x4 h0 h1 h2 h3 h4 _).mul (proj_real x0 x1 x2 x5 x6 h0 h1 h2 h5 h6 _)) ⟨8, eight_eq⟩ ?_
  rw [Ideal.ofBits_def, eight_eq]; exact_mod_cast (by norm_num : (8 : ℝ) ≠ 0)

/-- Minus infinity. -/
theorem bot_eq : (FloatOps.ofBits (F := Ideal) .f32 0xFF800000#32 : EReal) = ⊥ := by
  show Ideal.ofBits .f32 0xFF800000#32 = ⊥
  simp [Ideal.ofBits, Ideal.ieee]

/-- A greatest of finitely many finite numbers and minus infinity is not plus infinity. -/
theorem fold_lt {ι : Type} [DecidableEq ι] (s : Finset ι) (f : ι → EReal) (h : ∀ i, IsReal (f i)) :
    s.fold (FloatOps.maximumf (F := Ideal) (φ := .f32)) (⊥ : EReal) f < ⊤ := by
  induction s using Finset.induction_on with
  | empty => exact bot_lt_top
  | insert a s ha ih =>
    rw [Finset.fold_insert ha]
    obtain ⟨r, hr⟩ := h a
    exact max_lt (by rw [hr]; exact EReal.coe_lt_top r) ih

/-- The greatest logit of a row is not plus infinity. -/
theorem greatest_lt (h : ∀ i, IsReal (val_main_v45 (F := Ideal) x0 x1 x2 x3 x4 x5 x6 i)) (i) : (val_main_v50 (F := Ideal) x0 x1 x2 x3 x4 x5 x6 i : EReal) < ⊤ := by
  rw [val_main_v50_apply, val_main_v49_apply, val_main_v48_apply, val_main_v47_apply, val_main_cst_6_apply]
  refine max_lt (by rw [bot_eq]; exact bot_lt_top) ?_
  unfold val_main_v46
  generalize val_main_v45 (F := Ideal) x0 x1 x2 x3 x4 x5 x6 = y at h
  rw [Host.reduce_eq_fold_single _ _ _ Cert.ReferenceIdeal.Gen.reducesTo_S2x12x197x197_S2x12x197_d3 (by decide), val_main_cst_5_apply, bot_eq]
  exact fold_lt _ _ fun k => h _

/-- Every attention weight is at least zero. -/
theorem weight_nonneg (h : ∀ i, IsReal (val_main_v45 (F := Ideal) x0 x1 x2 x3 x4 x5 x6 i)) (i) : (0 : EReal) ≤ val_main_v56 (F := Ideal) x0 x1 x2 x3 x4 x5 x6 i := by
  have h52 : ∀ j, (0 : EReal) < val_main_v52 (F := Ideal) x0 x1 x2 x3 x4 x5 x6 j := fun j => by
    rw [val_main_v52_apply, val_main_v51_apply]
    have hg := greatest_lt x0 x1 x2 x3 x4 x5 x6 h j
    obtain ⟨r, hr⟩ := h j
    rw [hr]
    generalize val_main_v50 (F := Ideal) x0 x1 x2 x3 x4 x5 x6 j = g at hg
    show 0 < Ideal.exp ((r : EReal) - g)
    induction g using EReal.rec with
    | bot => rw [EReal.coe_sub_bot]; exact EReal.zero_lt_top
    | top => exact absurd hg (lt_irrefl _)
    | coe a => rw [← EReal.coe_sub]; exact EReal.coe_pos.mpr (Real.exp_pos _)
  have hz : (FloatOps.ofBits (F := Ideal) .f32 0x00000000#32 : EReal) = 0 := Ideal.ofBits_zero_f32
  rw [val_main_v56_apply, val_main_v55_apply, val_main_v54_apply, val_main_v53_apply, val_main_cst_7_apply, hz, zero_add]
  have hs : (0 : EReal) < ∑ k : Fin 197, val_main_v52 (F := Ideal) x0 x1 x2 x3 x4 x5 x6 (idx_main_v53 (idx_main_v54 (idx_main_v55 i)) k) :=
    lt_of_lt_of_le (h52 _) (Finset.single_le_sum (f := fun k : Fin 197 => val_main_v52 (F := Ideal) x0 x1 x2 x3 x4 x5 x6 (idx_main_v53 (idx_main_v54 (idx_main_v55 i)) k))
      (fun k _ => (h52 _).le) (Finset.mem_univ 0))
  exact div_nonneg (h52 _).le hs.le hs.ne'

/-- A number of magnitude less than infinity is finite. -/
theorem real_of_abs {x : EReal} (h : Scalar.cmpf (F := Ideal) (φ := .f32) .olt (max x (-x)) (FloatOps.ofBits (F := Ideal) .f32 0x7F800000#32) = 1#1) : IsReal x := by
  have e : (FloatOps.ofBits (F := Ideal) .f32 0x7F800000#32 : EReal) = ⊤ := by
    show Ideal.ofBits .f32 0x7F800000#32 = ⊤
    simp [Ideal.ofBits, Ideal.ieee]
  rw [e] at h
  have h' : max x (-x) < (⊤ : EReal) := by
    by_contra hn
    have : Scalar.cmpf (F := Ideal) (φ := .f32) .olt (max x (-x)) (⊤ : EReal) = 0#1 := by
      show BitVec.ofBool (decide (max x (-x) < (⊤ : EReal))) = 0#1
      rw [decide_eq_false hn]; rfl
    rw [this] at h
    exact absurd h (by decide)
  obtain ⟨h1, h2⟩ := max_lt_iff.mp h'
  induction x using EReal.rec with
  | bot => exact absurd h2 (by simp)
  | top => exact absurd h1 (lt_irrefl _)
  | coe a => exact ⟨a, rfl⟩

/-- The relations the precondition's operations take. -/
theorem facts : Cert.Pre_finite_layer.Facts where
  bcast_S_S394x768 := by decide
  bcast_S_S768 := by decide
  bcast_S_S768x768 := by decide

end Cert.Proof.Finite
-- ==== Proof.Whole.lean ====
/- The two results of the layer: what the kernel leaves is what the reference leaves. -/
module

public import proofs.«01_k».proof.Defs
public import proofs.«01_k».proof.Proof.Contents
public import proofs.«01_k».proof.Proof.Conv
public import proofs.«01_k».proof.Proof.Finite
public import proofs.«01_k».proof.Proof.Gen.ReferenceIdeal.Run

@[expose] public section

set_option maxRecDepth 16384

noncomputable section

namespace Cert.Proof.Whole

open Cert.KernelIdeal Cert.KernelIdeal.Gen Cert.ReferenceIdeal.Read
open Cert.Proof.Contents Cert.Proof.Finite
open Idealize.ShloMosaic Idealize.ShloMosaic.TcCoe Idealize.SL.Sem

variable (m : (ℓ : Loc nD τ sig) → Buf (Elt Ideal) ℓ) (ρ : Dev nD → PrngReg) (c : Dev nD)

/-- Of finite arguments every attention weight is at least zero. -/
theorem weights_nonneg (hp : Cert.Pre_KernelIdeal_finite_layer (hPre_finite_layer := Finite.facts) m) (i) :
    (0 : EReal) ≤ val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  have h := hp c
  exact weight_nonneg _ _ _ _ _ _ _ (logit_real _ _ _ _ _ _ _
    (fun j => real_of_abs (congrFun h.1 j))
    (fun j => real_of_abs (congrFun h.2.1 j))
    (fun j => real_of_abs (congrFun h.2.2.1 j))
    (fun j => real_of_abs (congrFun h.2.2.2.1 j))
    (fun j => real_of_abs (congrFun h.2.2.2.2.1 j))
    (fun j => real_of_abs (congrFun h.2.2.2.2.2.1 j))
    (fun j => real_of_abs (congrFun h.2.2.2.2.2.2 j))) i

/-- The selected tokens of the third region are the reference's. -/
theorem tokens_at (hp : Cert.Pre_KernelIdeal_finite_layer (hPre_finite_layer := Finite.facts) m) :
    out2_8 (F := Ideal) (V5 m ρ c main_v42_0) (V5 m ρ c main_v68) (V5 m ρ c main_arg13) (V5 m ρ c main_v69) (V5 m ρ c main_arg15) (V5 m ρ c main_v70) (V5 m ρ c main_v42_1)
      = val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (chosen_at m ρ c).trans (Gather.chosen_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) Conv.table
    (fun b p => Conv.smooth_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (weights_nonneg m c hp) b p) (fun b p => Conv.smooth_nonneg _ b p))

/-- From finite arguments both programs run and leave equal results. -/
theorem equal : Cert.algebraic_KernelIdeal_ReferenceIdeal_pre_finite_layer (hKernelIdeal := Cert.KernelIdeal.Gen.facts)
    (hReferenceIdeal := Cert.ReferenceIdeal.Gen.facts) (hPre_finite_layer := Finite.facts) := fun m g m' g' hp hag =>
  ⟨fun c => val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)),
   fun c => val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)),
   (θ_run _ _ _).mono (fun _ h c => ⟨(h c).1.trans (state_at m g c), (h c).2.1.trans (tokens_at m g c hp), (h c).2.2⟩) (KernelRun.run m g),
   (θ_run _ _ _).mono (fun _ h c => by
      obtain ⟨e0, e1, e2, e3, e4, e5, e6, e7, e8, e9, e10, e11, e12, e13, e14, e15, e16⟩ := hag c
      exact ⟨(h c).1.trans ((val_main_v111_eq _).trans (congr (congr (congr (congr (congr (congr (congr (congr (congr (congr (congr (congr (congr (congr (congr (congr (congrArg (val_main_v111 (F := Ideal)) e0) e1) e2) e3) e4) e5) e6) e7) e8) e9) e10) e11) e12) e13) e14) e15) e16)),
        (h c).2.1.trans ((val_main_v162_eq _).trans (congr (congr (congr (congr (congr (congr (congr (congr (congr (congr (congr (congr (congr (congr (congr (congr (congrArg (val_main_v162 (F := Ideal)) e0) e1) e2) e3) e4) e5) e6) e7) e8) e9) e10) e11) e12) e13) e14) e15) e16)), (h c).2.2⟩)
    (Cert.ReferenceIdeal.Value.run m' g')⟩

end Cert.Proof.Whole
-- ==== Proof.EmbedCall.lean ====
/- The embedding of the patches: the kernel's one region and the reference compute the same rows. -/
module

public import proofs.«01_k».proof.Defs
public import proofs.«01_k».proof.Proof.KernelRun
public import proofs.«01_k».proof.Proof.Layer
public import proofs.«01_k».proof.Proof.Gen.EmbedIdeal.Value
public import proofs.«01_k».proof.Proof.Gen.EmbedReferenceIdeal.Run
public import proofs.«01_k».proof.Proof.Gen.EmbedReferenceIdeal.Read

@[expose] public section

set_option maxRecDepth 16384

noncomputable section

namespace Cert.Proof.EmbedCall

open Cert.EmbedIdeal Cert.EmbedIdeal.Gen Cert.EmbedReferenceIdeal.Read
open Cert.Proof.KernelRun (whole_emb whole_mem)
open Cert.Proof.Qkv (row hz2)
open Cert.Proof.Layer (split_row flat_apply)
open Idealize.ShloMosaic Idealize.ShloMosaic.TcCoe Idealize.SL.Sem Idealize.ShloMosaic.ValueIdx
open Idealize.ShloMosaic.Rounds
open Idealize.ShloMosaic.Pipeline (Dat)
open scoped BigOperators

/-- A sequence's patch among the patches of both. -/
abbrev patch (b : Fin 2) (n : Fin 196) : Fin 392 := ⟨b.val * 196 + n.val, by omega⟩

/-- A patch's row follows the class row. -/
abbrev after (n : Fin 196) : Fin 197 := ⟨n.val + 1, by omega⟩

/-! ## The kernel -/

/-- The projected patches at an index. -/
theorem proj_apply (y : Vec Ideal S392x768 .f32) (w : Vec Ideal S768x768 .f32) (b : Vec Ideal S1x768 .f32) (r : Fin 392) (c : Fin 768) :
    k0_pay1 (F := Ideal) y w b (ix2 r c) = (∑ k : Fin 768, y (ix2 r k) * w (ix2 k c)) + b (ix2 0 c) := by
  unfold k0_pay1
  rw [addf_apply, shapeCast_self, shapeCast_self]
  refine congrArg₂ (· + ·) ?_ ?_
  · refine (Ideal.matmul_plain_apply none y w _ r c).trans ?_
    rw [constant_apply, Ideal.ofBits_zero_f32, zero_add]
  · refine broadcastTo_apply b _ _ (ix2 0 c) fun a => ?_
    match a with
    | ⟨0, _⟩ => rfl
    | ⟨1, _⟩ => rfl

/-- The patches' rows of one sequence: the projected patches from `o`, plus the positions. -/
def body (v : FVec Ideal S392x768 .f32) (p : Vec Ideal S196x768 .f32) (o : ℕ) (h : S392x768.Slices ![o, 0] S196x768) : FVec Ideal S196x768 .f32 :=
  addf (extractStridedSlice S196x768 ![o, 0] v h) (shapeCast S196x768 p shapeCasts_S196x768_S196x768)

/-- They are the first sequence's payload. -/
theorem pay3_eq (y : Vec Ideal S392x768 .f32) (w : Vec Ideal S768x768 .f32) (b : Vec Ideal S1x768 .f32) (p : Vec Ideal S196x768 .f32) :
    k0_pay3 (F := Ideal) y w b p = body (k0_pay1 (F := Ideal) y w b) p 0 slices_S392x768_o0_0_S196x768 := rfl

/-- They are the second sequence's payload. -/
theorem pay5_eq (y : Vec Ideal S392x768 .f32) (w : Vec Ideal S768x768 .f32) (b : Vec Ideal S1x768 .f32) (p : Vec Ideal S196x768 .f32) :
    k0_pay5 (F := Ideal) y w b p = body (k0_pay1 (F := Ideal) y w b) p 196 slices_S392x768_o196_0_S196x768 := rfl

/-- A load from a whole buffer reads its contents there. -/
theorem load_eq {sp : Space} {s : Shape} {m : Memref sig .tc sp s .f32} (h : m.IsWhole) (X : Vec Ideal s .f32) (r : Rect s) :
    m.view.readAt (Elt Ideal) r.toLoadRect (h.unread X) = View.ld X r :=
  funext fun j => congrFun (h.read_unread X) (r.idx j)

variable (x0 : Vec Ideal S392x768 .f32) (x1 : Vec Ideal S768x768 .f32) (x2 x3 : Vec Ideal S1x768 .f32) (x4 : Vec Ideal S197x768 .f32)

/-- The rows the region is to leave: each sequence's class row and patch rows, plus the positions. -/
structure Rows (G : Vec Ideal S394x768 .f32) : Prop where
  first : ∀ b c, G (ix2 (row b 0) c) = x3 (ix2 0 c) + x4 (ix2 0 c)
  later : ∀ b n c, G (ix2 (row b (after n)) c) = ((∑ k : Fin 768, x0 (ix2 (patch b n) k) * x1 (ix2 k c)) + x2 (ix2 0 c)) + x4 (ix2 (after n) c)

variable {x0 x1 x2 x3 x4} {G : Vec Ideal S394x768 .f32} (hG : Rows x0 x1 x2 x3 x4 G)
include hG

/-- The class row stored for a sequence is its row. -/
theorem first_piece (b : Fin 2) (o : ℕ) (ho : o = b.val * 197) (inb : ∀ a, (![o, 0] : Fin 2 → Nat) a + S1x768.size a ≤ S394x768.size a) (j : S1x768.Idx) :
    k0_pay2 (F := Ideal) (View.ld x3 (Rect.unit (s := S1x768) ![0, 0] S1x768.size inb_S1x768_S1x768_0_0))
      (View.ld x4 (Rect.unit (s := S197x768) ![0, 0] S1x768.size inb_S197x768_S1x768_0_0)) j = G ((Rect.unit (s := S394x768) ![o, 0] S1x768.size inb).emb j) := by
  obtain ⟨z, c, rfl⟩ : ∃ z c, j = ix2 z c := ⟨_, _, eq_ix2 j⟩
  obtain rfl : z = 0 := Subsingleton.elim _ _
  have e : (Rect.unit (s := S394x768) ![o, 0] S1x768.size inb).emb (ix2 0 c) = ix2 (row b 0) c := by
    funext a; apply Fin.ext
    match a with
    | ⟨0, _⟩ => show o + 1 * 0 = b.val * 197 + 0; omega
    | ⟨1, _⟩ => show 0 + 1 * c.val = c.val; omega
  rw [e, hG.first]
  unfold k0_pay2
  rw [addf_apply, shapeCast_self, shapeCast_self, View.ld_unit_zero (S := S1x768) hz2]
  refine congrArg (x3 (ix2 0 c) + ·) (congrArg x4 (funext fun a => Fin.ext ?_))
  match a with
  | ⟨0, _⟩ => rfl
  | ⟨1, _⟩ => show 0 + 1 * c.val = c.val; omega

/-- The patch rows stored for a sequence are its rows. -/
theorem later_piece (b : Fin 2) (o o' : ℕ) (ho : o = b.val * 197 + 1) (ho' : o' = b.val * 196) (h : S392x768.Slices ![o', 0] S196x768)
    (inb : ∀ a, (![o, 0] : Fin 2 → Nat) a + S196x768.size a ≤ S394x768.size a) (j : S196x768.Idx) :
    body (k0_pay1 (F := Ideal) (View.ld x0 (Rect.unit (s := S392x768) ![0, 0] S392x768.size inb_S392x768_S392x768_0_0))
        (View.ld x1 (Rect.unit (s := S768x768) ![0, 0] S768x768.size inb_S768x768_S768x768_0_0))
        (View.ld x2 (Rect.unit (s := S1x768) ![0, 0] S1x768.size inb_S1x768_S1x768_0_0)))
      (View.ld x4 (Rect.unit (s := S197x768) ![1, 0] S196x768.size inb_S197x768_S196x768_1_0)) o' h j
      = G ((Rect.unit (s := S394x768) ![o, 0] S196x768.size inb).emb j) := by
  obtain ⟨n, c, rfl⟩ : ∃ n c, j = ix2 n c := ⟨_, _, eq_ix2 j⟩
  have e : (Rect.unit (s := S394x768) ![o, 0] S196x768.size inb).emb (ix2 n c) = ix2 (row b (after n)) c := by
    funext a; apply Fin.ext
    match a with
    | ⟨0, _⟩ => show o + 1 * n.val = b.val * 197 + (n.val + 1); omega
    | ⟨1, _⟩ => show 0 + 1 * c.val = c.val; omega
  rw [e, hG.later, View.ld_unit_zero (S := S392x768) hz2, View.ld_unit_zero (S := S768x768) hz2, View.ld_unit_zero (S := S1x768) hz2]
  unfold body
  rw [addf_apply, shapeCast_self]
  refine congrArg₂ (· + ·) ?_ (congrArg x4 (funext fun a => Fin.ext ?_))
  · refine (extractStridedSlice_apply _ _ h _ (ix2 (patch b n) c) fun a => ?_).trans (proj_apply _ _ _ _ _)
    match a with
    | ⟨0, _⟩ => show b.val * 196 + n.val = o' + n.val; omega
    | ⟨1, _⟩ => exact (Nat.zero_add _).symm
  · match a with
    | ⟨0, _⟩ => show 1 + 1 * n.val = n.val + 1; omega
    | ⟨1, _⟩ => show 0 + 1 * c.val = c.val; omega

/-- The region's output is these rows. -/
theorem out_eq (c : Dev nD) (arg0 : Memref sig .tc .vmem S392x768 .f32) (harg0 : arg0.IsWhole) (arg1 : Memref sig .tc .vmem S768x768 .f32) (harg1 : arg1.IsWhole)
    (arg2 : Memref sig .tc .vmem S1x768 .f32) (harg2 : arg2.IsWhole) (arg3 : Memref sig .tc .vmem S1x768 .f32) (harg3 : arg3.IsWhole)
    (arg4 : Memref sig .tc .vmem S197x768 .f32) (harg4 : arg4.IsWhole) (arg5 : Memref sig .tc .vmem S394x768 .f32) (harg5 : arg5.IsWhole) :
    out0_A_5 (F := Ideal) c arg0 harg0 arg1 harg1 arg2 harg2 arg3 harg3 arg4 harg4 arg5 harg5 x0 x1 x2 x3 x4 = G := by
  unfold out0_A_5
  rw [View.read_writes_eq_canon _ _ _ (cover0_A_5 c arg0 harg0 arg1 harg1 arg2 harg2 arg3 harg3 arg4 harg4 arg5 harg5 x0 x1 x2 x3 x4)]
  funext i
  refine View.canon_apply_of_pieces (Val := Elt Ideal) (e := .f32) G _ ?_ i (cover0_A_5 c arg0 harg0 arg1 harg1 arg2 harg2 arg3 harg3 arg4 harg4 arg5 harg5 x0 x1 x2 x3 x4 i)
  have e0 := load_eq harg0 x0 (Rect.unit (s := S392x768) ![0, 0] S392x768.size inb_S392x768_S392x768_0_0)
  have e1 := load_eq harg1 x1 (Rect.unit (s := S768x768) ![0, 0] S768x768.size inb_S768x768_S768x768_0_0)
  have e2 := load_eq harg2 x2 (Rect.unit (s := S1x768) ![0, 0] S1x768.size inb_S1x768_S1x768_0_0)
  have e3 := load_eq harg3 x3 (Rect.unit (s := S1x768) ![0, 0] S1x768.size inb_S1x768_S1x768_0_0)
  have e4 := load_eq harg4 x4 (Rect.unit (s := S197x768) ![0, 0] S1x768.size inb_S197x768_S1x768_0_0)
  have e4' := load_eq harg4 x4 (Rect.unit (s := S197x768) ![1, 0] S196x768.size inb_S197x768_S196x768_1_0)
  dsimp only [kernelRun0_A]
  refine List.forall_mem_cons.2 ⟨fun j => ?_, List.forall_mem_cons.2 ⟨fun j => ?_, List.forall_mem_cons.2 ⟨fun j => ?_,
    List.forall_mem_cons.2 ⟨fun j => ?_, fun _ h => absurd h List.not_mem_nil⟩⟩⟩⟩
  · exact (congrFun (congr (congr (congr (congrArg (k0_pay5 (F := Ideal)) e0) e1) e2) e4') j).trans (later_piece hG 1 198 196 rfl rfl slices_S392x768_o196_0_S196x768 inb_S394x768_S196x768_198_0 j)
  · exact (congrFun (congr (congrArg (k0_pay2 (F := Ideal)) e3) e4) j).trans (first_piece hG 1 197 rfl inb_S394x768_S1x768_197_0 j)
  · exact (congrFun (congr (congr (congr (congrArg (k0_pay3 (F := Ideal)) e0) e1) e2) e4') j).trans (later_piece hG 0 1 0 rfl rfl slices_S392x768_o0_0_S196x768 inb_S394x768_S196x768_1_0 j)
  · exact (congrFun (congr (congrArg (k0_pay2 (F := Ideal)) e3) e4) j).trans (first_piece hG 0 0 rfl inb_S394x768_S1x768_0_0 j)

omit hG

/-! ## The reference -/

section
variable (a0 : FVec Ideal S2x3x224x224 .f32) (a1 : FVec Ideal S768x768 .f32) (a2 : FVec Ideal S768 .f32) (a3 : FVec Ideal S1x1x768 .f32) (a4 : FVec Ideal S1x197x768 .f32)

/-- The reference's class rows. -/
theorem v10_first (b : Fin 2) (c : Fin 768) : val_main_v10 (F := Ideal) a0 a1 a2 a3 a4 (ix3 b 0 c) = a3 (ix3 0 0 c) + a4 (ix3 0 0 c) := by
  rw [val_main_v10_apply, val_main_v9_apply]
  refine congrArg₂ (· + ·) ?_ (congrArg a4 (funext fun a => match a with | ⟨0, _⟩ => rfl | ⟨1, _⟩ => rfl | ⟨2, _⟩ => rfl))
  unfold val_main_v8
  generalize val_main_v6 (F := Ideal) a0 a1 a2 = y
  refine (concatenate_pair_apply_left (t := Cert.EmbedReferenceIdeal.S2x197x768) (s₁ := Cert.EmbedReferenceIdeal.S2x1x768) (s₂ := Cert.EmbedReferenceIdeal.S2x196x768)
    1 _ _ _ (ix3 b 0 c) rfl (ix3 b 0 c) fun a => ?_).trans ?_
  · match a with
    | ⟨0, _⟩ => rfl
    | ⟨1, _⟩ => rfl
    | ⟨2, _⟩ => rfl
  · rw [val_main_v7_apply]
    exact congrArg a3 (funext fun a => match a with | ⟨0, _⟩ => rfl | ⟨1, _⟩ => rfl | ⟨2, _⟩ => rfl)

/-- The reference's patch rows. -/
theorem v10_later (b : Fin 2) (n : Fin 196) (c : Fin 768) : val_main_v10 (F := Ideal) a0 a1 a2 a3 a4 (ix3 b (after n) c)
    = ((∑ k : Fin 768, val_main_v2 (F := Ideal) a0 (ix3 b n k) * a1 (ix2 k c)) + a2 (ix1 c)) + a4 (ix3 0 (after n) c) := by
  rw [val_main_v10_apply, val_main_v9_apply]
  refine congrArg₂ (· + ·) ?_ (congrArg a4 (funext fun a => match a with | ⟨0, _⟩ => rfl | ⟨1, _⟩ => rfl | ⟨2, _⟩ => rfl))
  unfold val_main_v8
  refine (concatenate_pair_apply_right (t := Cert.EmbedReferenceIdeal.S2x197x768) (s₁ := Cert.EmbedReferenceIdeal.S2x1x768) (s₂ := Cert.EmbedReferenceIdeal.S2x196x768)
    1 _ _ _ (ix3 b (after n) c) rfl rfl (ix3 b n c) (fun a ha => ?_) ?_).trans ?_
  · match a with
    | ⟨0, _⟩ => rfl
    | ⟨1, _⟩ => exact absurd rfl ha
    | ⟨2, _⟩ => rfl
  · rfl
  · rw [val_main_v6_apply, val_main_v3_apply, val_main_v5_apply, val_main_v4_apply]
    generalize val_main_v2 (F := Ideal) a0 = y
    refine congrArg₂ (· + ·) (Finset.sum_congr rfl fun k _ => congrArg₂ (· * ·) (congrArg y ?_) (congrArg a1 ?_)) (congrArg a2 ?_)
    · exact funext fun a => match a with | ⟨0, _⟩ => rfl | ⟨1, _⟩ => rfl | ⟨2, _⟩ => rfl
    · exact funext fun a => match a with | ⟨0, _⟩ => rfl | ⟨1, _⟩ => rfl
    · exact funext fun a => match a with | ⟨0, _⟩ => rfl

/-- The reference's result is its rows, one sequence above the other. -/
theorem v11_apply (b : Fin 2) (n : Fin 197) (c : Fin 768) : val_main_v11 (F := Ideal) a0 a1 a2 a3 a4 (ix2 (row b n) c) = val_main_v10 (F := Ideal) a0 a1 a2 a3 a4 (ix3 b n c) :=
  flat_apply (val_main_v10 (F := Ideal) a0 a1 a2 a3 a4) b n c

/-- The patches the region is given are the reference's, those of one sequence above the other's. -/
theorem patches_apply (b : Fin 2) (n : Fin 196) (k : Fin 768) :
    shapeCast S392x768 (val_main_v1 (F := Ideal) a0) shapeCasts_S2x14x14x3x16x16_S392x768 (ix2 (patch b n) k) = val_main_v2 (F := Ideal) a0 (ix3 b n k) := by
  refine shapeCast_apply _ _ _ (Shape.reshapeEquiv Cert.EmbedReferenceIdeal.Gen.shapeCasts_S2x14x14x3x16x16_S2x196x768 (ix3 b n k)) ?_
  rw [Shape.rowMajor_reshapeEquiv, Shape.rowMajor_val_two, Shape.rowMajor_val_three]
  rfl

/-- The reference's result is the rows the region is to leave. -/
theorem rows_eq : Rows (shapeCast S392x768 (val_main_v1 (F := Ideal) a0) shapeCasts_S2x14x14x3x16x16_S392x768) a1 (shapeCast S1x768 a2 shapeCasts_S768_S1x768)
    (shapeCast S1x768 a3 shapeCasts_S1x1x768_S1x768) (shapeCast S197x768 a4 shapeCasts_S1x197x768_S197x768) (val_main_v11 (F := Ideal) a0 a1 a2 a3 a4) := by
  have e2 : ∀ c : Fin 768, shapeCast S1x768 a2 shapeCasts_S768_S1x768 (ix2 0 c) = a2 (ix1 c) := fun c => by
    refine shapeCast_apply _ _ _ (ix1 c) ?_
    rw [Shape.rowMajor_val_two, Shape.rowMajor_val_one]
    show c.val = 0 * 768 + c.val; omega
  have e3 : ∀ c : Fin 768, shapeCast S1x768 a3 shapeCasts_S1x1x768_S1x768 (ix2 0 c) = a3 (ix3 0 0 c) := fun c => by
    refine shapeCast_apply _ _ _ (ix3 0 0 c) ?_
    rw [Shape.rowMajor_val_two, Shape.rowMajor_val_three]
    show (0 * 1 + 0) * 768 + c.val = 0 * 768 + c.val; omega
  have e4 : ∀ (n : Fin 197) (c : Fin 768), shapeCast S197x768 a4 shapeCasts_S1x197x768_S197x768 (ix2 n c) = a4 (ix3 0 n c) := fun n c => by
    refine shapeCast_apply _ _ _ (ix3 0 n c) ?_
    rw [Shape.rowMajor_val_two, Shape.rowMajor_val_three]
    show (0 * 197 + n.val) * 768 + c.val = n.val * 768 + c.val; omega
  refine ⟨fun b c => ?_, fun b n c => ?_⟩
  · rw [v11_apply, v10_first, e3, e4]
  · rw [v11_apply, v10_later, e2, e4]
    exact congrArg (· + a2 (ix1 c) + a4 (ix3 0 (after n) c)) (Finset.sum_congr rfl fun k _ => congrArg (· * a1 (ix2 k c)) (patches_apply a0 b n k).symm)

end

/-! ## The two programs -/

section
variable (m : (ℓ : Loc nD τ sig) → Buf (Elt Ideal) ℓ) (c : Dev nD)

/-- The body's block 0 is its whole array. -/
theorem iblk_0 (t : Fin cfg0.N) : iblk m c 0 t = V m c main_v2 :=
  funext fun j => congrArg (V m c main_v2) (whole_emb main_v2 _ _ (fun _ => Nat.zero_mul _) j)

/-- The body's block 1 is its whole array. -/
theorem iblk_1 (t : Fin cfg0.N) : iblk m c 1 t = V m c main_arg1 :=
  funext fun j => congrArg (V m c main_arg1) (whole_emb main_arg1 _ _ (fun _ => Nat.zero_mul _) j)

/-- The body's block 2 is its whole array. -/
theorem iblk_2 (t : Fin cfg0.N) : iblk m c 2 t = V m c main_v3 :=
  funext fun j => congrArg (V m c main_v3) (whole_emb main_v3 _ _ (fun _ => Nat.zero_mul _) j)

/-- The body's block 3 is its whole array. -/
theorem iblk_3 (t : Fin cfg0.N) : iblk m c 3 t = V m c main_v4 :=
  funext fun j => congrArg (V m c main_v4) (whole_emb main_v4 _ _ (fun _ => Nat.zero_mul _) j)

/-- The body's block 4 is its whole array. -/
theorem iblk_4 (t : Fin cfg0.N) : iblk m c 4 t = V m c main_v5 :=
  funext fun j => congrArg (V m c main_v5) (whole_emb main_v5 _ _ (fun _ => Nat.zero_mul _) j)

/-- The block that the body stores is the array that the call returns. -/
theorem arrAt_of (dat : Dat τ (Elt Ideal) Unit ℕ (UR sig nD τ) ℕ cfg0 c)
    (G : Buf (Elt Ideal) ((c : Thread nD τ).loc main_v6)) (h : ∀ t, dat.after 5 t = G) : dat.arrAt 5 cfg0.N = G :=
  dat.arrAt_eq_of_cover 5 G
    (fun t _ => funext fun j => (congrFun (h t) j).trans (congrArg G (whole_emb main_v6 _ _ (fun _ => Nat.zero_mul _) j).symm))
    (fun i => ⟨⟨0, by decide⟩, flush0_5 _, whole_mem main_v6 _ _ (fun _ => Nat.zero_mul _) i⟩)

/-- The patches the region is given. -/
theorem patches_at : V m c main_v2 = shapeCast S392x768 (val_main_v1 (F := Ideal) (m ((c : Thread nD τ).loc main_arg0))) shapeCasts_S2x14x14x3x16x16_S392x768 := by
  show StableHlo.after hostOps0 _ _ = _
  after_results_simp <;> rfl

/-- The bias the region is given. -/
theorem bias_at : V m c main_v3 = shapeCast S1x768 (m ((c : Thread nD τ).loc main_arg2)) shapeCasts_S768_S1x768 := by
  show StableHlo.after hostOps0 _ _ = _
  after_results_simp <;> rfl

/-- The class row the region is given. -/
theorem class_at : V m c main_v4 = shapeCast S1x768 (m ((c : Thread nD τ).loc main_arg3)) shapeCasts_S1x1x768_S1x768 := by
  show StableHlo.after hostOps0 _ _ = _
  after_results_simp <;> rfl

/-- The positions the region is given. -/
theorem positions_at : V m c main_v5 = shapeCast S197x768 (m ((c : Thread nD τ).loc main_arg4)) shapeCasts_S1x197x768_S197x768 := by
  show StableHlo.after hostOps0 _ _ = _
  after_results_simp <;> rfl

/-- What the region leaves is the reference's result. -/
theorem rows_at : (dats m 0 c).arrAt 5 cfg0.N = val_main_v11 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) :=
  arrAt_of c _ _ fun t => by
    rw [after0_5]
    unfold outsAt0
    rw [iblk_0, iblk_1, iblk_2, iblk_3, iblk_4, patches_at, bias_at, class_at, positions_at, V_main_arg1]
    exact out_eq (rows_eq _ _ _ _ _) c _ _ _ _ _ _ _ _ _ _ _ _

end

/-- Both programs run and leave equal rows. -/
theorem equal : Cert.algebraic_EmbedIdeal_EmbedReferenceIdeal (hEmbedIdeal := Cert.EmbedIdeal.Gen.facts)
    (hEmbedReferenceIdeal := Cert.EmbedReferenceIdeal.Gen.facts) := fun m g m' g' _ hag =>
  ⟨fun c => val_main_v11 (F := Ideal) (m ((c : Thread nD τ).loc main_arg0)) (m ((c : Thread nD τ).loc main_arg1))
      (m ((c : Thread nD τ).loc main_arg2)) (m ((c : Thread nD τ).loc main_arg3)) (m ((c : Thread nD τ).loc main_arg4)),
   (θ_run _ _ _).mono (fun _ h c => ⟨(h c).1.trans (rows_at m c), (h c).2⟩) (Cert.EmbedIdeal.Value.run_blocks m g),
   (θ_run _ _ _).mono (fun _ h c => by
      obtain ⟨e0, e1, e2, e3, e4⟩ := hag c
      exact ⟨(h c).1.trans ((val_main_v11_eq _ _ _ _ _).trans (congr (congr (congr (congr (congrArg (val_main_v11 (F := Ideal)) e0) e1) e2) e3) e4)), (h c).2⟩)
    (Cert.EmbedReferenceIdeal.Value.run m' g')⟩

end Cert.Proof.EmbedCall
-- ==== Proof.HeadCall.lean ====
/- The class scores: the kernel's one region and the reference compute the same two rows of scores. -/
module

public import proofs.«01_k».proof.Defs
public import proofs.«01_k».proof.Proof.KernelRun
public import proofs.«01_k».proof.Proof.Gen.HeadIdeal.Value
public import proofs.«01_k».proof.Proof.Gen.HeadReferenceIdeal.Run
public import proofs.«01_k».proof.Proof.Gen.HeadReferenceIdeal.Read
public import proofs.«01_k».proof.Proof.Qkv

@[expose] public section

set_option maxRecDepth 16384

noncomputable section

namespace Cert.Proof.HeadCall

open Cert.HeadIdeal Cert.HeadIdeal.Gen Cert.HeadReferenceIdeal.Read
open Cert.Proof.KernelRun (whole_emb whole_mem)
open Idealize.ShloMosaic Idealize.ShloMosaic.TcCoe Idealize.SL.Sem Idealize.ShloMosaic.ValueIdx
open Idealize.ShloMosaic.Rounds
open Idealize.ShloMosaic.Pipeline (Dat)
open scoped BigOperators

/-- The logits of one row. -/
def lgt (x : Fin 768 → Ideal .f32) (w : Vec Ideal S200x768 .f32) (b : Fin 200 → Ideal .f32) (j : Fin 200) : Ideal .f32 :=
  (∑ k : Fin 768, x k * w (ix2 j k)) + b j

/-- The greatest of a row. -/
def top (s : Fin 200 → Ideal .f32) : Ideal .f32 :=
  FloatOps.maximumf (FloatOps.ofBits .f32 0xFF800000#32) (Finset.univ.fold max (FloatOps.ofBits (F := Ideal) .f32 0xFF800000#32) s)

/-- The softmax of a row. -/
def soft (s : Fin 200 → Ideal .f32) (j : Fin 200) : Ideal .f32 :=
  FloatOps.divf (FloatOps.exp (FloatOps.subf (s j) (top s))) (∑ l : Fin 200, FloatOps.exp (F := Ideal) (φ := .f32) (FloatOps.subf (s l) (top s)))

/-- The scores of one sequence. -/
def score (xc xk : Fin 768 → Ideal .f32) (w : Vec Ideal S200x768 .f32) (b : Fin 200 → Ideal .f32) (j : Fin 200) : Ideal .f32 :=
  lgt xk w b j + soft (lgt xc w b) j * ∑ k : Fin 768, w (ix2 j k)

/-! ## The kernel -/

/-- Two loaded rows, one above the other. -/
def rows (a b : Vec Ideal S1x1x768 .f32) : FVec Ideal S2x768 .f32 :=
  concatenate S2x768 0 [⟨S1x768, shapeCast S1x768 a shapeCasts_S1x1x768_S1x768⟩, ⟨S1x768, shapeCast S1x768 b shapeCasts_S1x1x768_S1x768⟩]
    concatenates_S1x768_S1x768_S2x768_d0

/-- The rows of an array of two rows, loaded one after the other, are its rows. -/
theorem rows_apply (x : Vec Ideal S2x1x768 .f32) (r : Fin 2) (k : Fin 768) : rows (View.ld x r0_0) (View.ld x r0_1) (ix2 r k) = x (ix3 r 0 k) := by
  unfold rows
  have hc : ∀ v : Vec Ideal S1x1x768 .f32, shapeCast S1x768 v shapeCasts_S1x1x768_S1x768 (ix2 0 k) = v (ix3 0 0 k) := fun v => by
    refine shapeCast_apply v _ _ (ix3 0 0 k) ?_
    rw [Shape.rowMajor_val_two, Shape.rowMajor_val_three]
    show (0 * 1 + 0) * 768 + k.val = 0 * 768 + k.val
    omega
  match r with
  | ⟨0, _⟩ =>
    refine (concatenate_pair_apply_left (t := S2x768) (s₁ := S1x768) (s₂ := S1x768) 0 _ _ _ (ix2 _ k) rfl (ix2 0 k) fun a => ?_).trans ?_
    · match a with
      | ⟨0, _⟩ => rfl
      | ⟨1, _⟩ => rfl
    · refine (hc _).trans (congrArg x (funext fun a => Fin.ext ?_))
      match a with
      | ⟨0, _⟩ => rfl
      | ⟨1, _⟩ => rfl
      | ⟨2, _⟩ => show 0 + 1 * k.val = k.val; omega
  | ⟨1, _⟩ =>
    refine (concatenate_pair_apply_right (t := S2x768) (s₁ := S1x768) (s₂ := S1x768) 0 _ _ _ (ix2 _ k) rfl rfl (ix2 0 k) (fun a ha => ?_) ?_).trans ?_
    · match a with
      | ⟨0, _⟩ => exact absurd rfl ha
      | ⟨1, _⟩ => rfl
    · rfl
    · refine (hc _).trans (congrArg x (funext fun a => Fin.ext ?_))
      match a with
      | ⟨0, _⟩ => rfl
      | ⟨1, _⟩ => rfl
      | ⟨2, _⟩ => show 0 + 1 * k.val = k.val; omega

/-- The logits of two rows. -/
def logits (x : FVec Ideal S2x768 .f32) (w : Vec Ideal S200x768 .f32) (b : Vec Ideal S1x200 .f32) : FVec Ideal S2x200 .f32 :=
  addf (matmul (φ₁ := .f32) (φ₂ := .f32) dot_S2x768_S200x768_S2x200_1_1_0_0_n_n none x w (constant S2x200 .f32 0x00000000#32))
    (broadcastTo S2x200 (shapeCast S1x200 b shapeCasts_S1x200_S1x200) broadcasts_S1x200_S2x200)

/-- The logits at an index. -/
theorem logits_apply (x : FVec Ideal S2x768 .f32) (w : Vec Ideal S200x768 .f32) (b : Vec Ideal S1x200 .f32) (r : Fin 2) (j : Fin 200) :
    logits x w b (ix2 r j) = lgt (fun k => x (ix2 r k)) w (fun j => b (ix2 0 j)) j := by
  unfold logits lgt
  rw [addf_apply, shapeCast_self]
  refine congrArg₂ (· + ·) ?_ ?_
  · refine (Ideal.matmul_transposedRhs_apply none x w _ r j).trans ?_
    rw [constant_apply, Ideal.ofBits_zero_f32, zero_add]
  · refine broadcastTo_apply b _ _ (ix2 0 j) fun a => ?_
    match a with
    | ⟨0, _⟩ => rfl
    | ⟨1, _⟩ => rfl

/-- A column spread over a row. -/
def spread (m : FVec Ideal S2 .f32) : FVec Ideal S2x200 .f32 :=
  broadcastTo S2x200 (shapeCast S2x1 m shapeCasts_S2_S2x1) broadcasts_S2x1_S2x200

/-- A column spread over a row, at an index. -/
theorem spread_apply (m : FVec Ideal S2 .f32) (r : Fin 2) (j : Fin 200) : spread m (ix2 r j) = m (ix1 r) := by
  unfold spread
  refine (broadcastTo_apply _ _ _ (ix2 r 0) fun a => ?_).trans ?_
  · match a with
    | ⟨0, _⟩ => rfl
    | ⟨1, _⟩ => rfl
  · refine shapeCast_apply _ _ _ (ix1 r) ?_
    rw [Shape.rowMajor_val_two, Shape.rowMajor_val_one]
    show r.val = r.val * 1 + 0
    omega

/-- The exponentials of the logits less the greatest of their row. -/
def expo (s : FVec Ideal S2x200 .f32) : FVec Ideal S2x200 .f32 :=
  exp (subf s (spread (maximumf (broadcast S2 (Scalar.ofBits .f32 0xFF800000#32))
    (multiReduction .maximumf [1] S2 s 0xFF800000#32 reduces_S2x200_S2 (.inl rfl) rfl))))

/-- An index of a row, lifted from the row. -/
theorem lift_eq (r : Fin 2) (l : Fin 200) : reduces_S2x200_S2.lift (ix1 r) l = ix2 r l := by
  funext a; apply Fin.ext
  match a with
  | ⟨0, _⟩ => rfl
  | ⟨1, _⟩ => rfl

/-- The exponentials at an index. -/
theorem expo_apply (s : FVec Ideal S2x200 .f32) (r : Fin 2) (j : Fin 200) :
    expo s (ix2 r j) = FloatOps.exp (F := Ideal) (φ := .f32) (FloatOps.subf (s (ix2 r j)) (top fun l => s (ix2 r l))) := by
  unfold expo
  refine congrArg (fun t => FloatOps.exp (F := Ideal) (φ := .f32) (FloatOps.subf (s (ix2 r j)) t)) ?_
  rw [spread_apply]
  refine congrArg (FloatOps.maximumf (F := Ideal) (φ := .f32) (FloatOps.ofBits .f32 0xFF800000#32)) ?_
  refine (Ideal.multiReduction_maximumf_single s 0xFF800000#32 reduces_S2x200_S2 (.inl rfl) rfl (ix1 r)).trans ?_
  exact congrArg (Finset.fold max _ · _) (funext fun l => congrArg s (lift_eq r l))

/-- The region's payload is these. -/
theorem pay_eq (v0 v2 v5 v7 : Vec Ideal S1x1x768 .f32) (w : Vec Ideal S200x768 .f32) (b : Vec Ideal S1x200 .f32) :
    k0_pay1 (F := Ideal) v0 v2 v5 v7 w b = addf (logits (rows v5 v7) w b)
      (mulf (divf (expo (logits (rows v0 v2) w b)) (spread (multiReduction .add [1] S2 (expo (logits (rows v0 v2) w b)) 0x00000000#32 reduces_S2x200_S2 (.inl rfl) rfl)))
        (broadcastTo S2x200 (matmul (φ₁ := .f32) (φ₂ := .f32) dot_S1x768_S200x768_S1x200_1_1_0_0_n_n (some .fp32) (broadcast S1x768 (Scalar.ofBits .f32 0x3F800000#32)) w
          (constant S1x200 .f32 0x00000000#32)) broadcasts_S1x200_S2x200)) := rfl

/-- One, as the kernel writes it. -/
theorem one_eq : (FloatOps.ofBits (F := Ideal) .f32 0x3F800000#32 : EReal) = 1 := by
  show Ideal.ofBits .f32 0x3F800000#32 = 1
  simp [Ideal.ofBits, Ideal.ieee]
  rw [← EReal.coe_mul]
  norm_num

/-- The region's payload at an index. -/
theorem pay_apply (xc xk : Vec Ideal S2x1x768 .f32) (w : Vec Ideal S200x768 .f32) (b : Vec Ideal S1x200 .f32) (r : Fin 2) (j : Fin 200) :
    k0_pay1 (F := Ideal) (View.ld xc r0_0) (View.ld xc r0_1) (View.ld xk r0_0) (View.ld xk r0_1) w b (ix2 r j)
      = score (fun k => xc (ix3 r 0 k)) (fun k => xk (ix3 r 0 k)) w (fun j => b (ix2 0 j)) j := by
  have hl : ∀ (x : Vec Ideal S2x1x768 .f32) (l : Fin 200), logits (rows (View.ld x r0_0) (View.ld x r0_1)) w b (ix2 r l)
      = lgt (fun k => x (ix3 r 0 k)) w (fun j => b (ix2 0 j)) l := fun x l => by
    rw [logits_apply]
    simp only [rows_apply]
  have he : ∀ l, expo (logits (rows (View.ld xc r0_0) (View.ld xc r0_1)) w b) (ix2 r l) = FloatOps.exp (F := Ideal) (φ := .f32)
      (FloatOps.subf (lgt (fun k => xc (ix3 r 0 k)) w (fun j => b (ix2 0 j)) l) (top (lgt (fun k => xc (ix3 r 0 k)) w (fun j => b (ix2 0 j))))) := fun l => by
    rw [expo_apply]
    simp only [hl]
  rw [pay_eq, addf_apply, mulf_apply, hl]
  refine congrArg (_ + ·) (congrArg₂ (· * ·) ?_ ?_)
  · unfold soft
    refine congrArg₂ (FloatOps.divf (F := Ideal) (φ := .f32)) (he j) ?_
    rw [spread_apply]
    refine (Ideal.multiReduction_add_single _ _ reduces_S2x200_S2 _ _ (ix1 r)).trans (Finset.sum_congr rfl fun l _ => ?_)
    rw [← he l]
    exact congrArg _ (lift_eq r l)
  · refine (broadcastTo_apply _ _ _ (ix2 0 j) fun a => ?_).trans ?_
    · match a with
      | ⟨0, _⟩ => rfl
      | ⟨1, _⟩ => rfl
    · refine (Ideal.matmul_transposedRhs_apply (some .fp32) _ w _ 0 j).trans ?_
      rw [constant_apply, Ideal.ofBits_zero_f32, zero_add]
      refine Finset.sum_congr rfl fun k _ => ?_
      exact (congrArg (· * w (ix2 j k)) one_eq).trans (one_mul _)

/-- The region's output is its one payload. -/
theorem out_eq (xc xk : Vec Ideal S2x1x768 .f32) (w : Vec Ideal S200x768 .f32) (b : Vec Ideal S1x200 .f32) :
    out0_4 (F := Ideal) xc xk w b = k0_pay1 (F := Ideal) (View.ld xc r0_0) (View.ld xc r0_1) (View.ld xk r0_0) (View.ld xk r0_1) w b := by
  unfold out0_4
  rw [View.canon_unit_zero Qkv.hz2]
  simp only [r0_2, r0_3, View.ld_unit_zero (S := S200x768) Qkv.hz2, View.ld_unit_zero (S := S1x200) Qkv.hz2]

/-! ## The reference -/

section
variable (x0 : FVec Ideal S254x768 .f32) (x1 : FVec Ideal S50x768 .f32) (x2 : FVec Ideal S200x768 .f32) (x3 : FVec Ideal S200 .f32)

/-- The reference's logits of the clear rows. -/
theorem v10_apply (r : Fin 2) (j : Fin 200) : val_main_v10 (F := Ideal) x0 x2 x3 (ix2 r j)
    = lgt (fun k => val_main_v4 (F := Ideal) x0 (ix3 r 0 k)) x2 (fun j => x3 (ix1 j)) j := by
  rw [val_main_v10_apply, val_main_v7_apply, val_main_v9_apply, val_main_v8_apply]
  refine congrArg₂ (· + ·) (Finset.sum_congr rfl fun k _ => ?_) (congrArg x3 (funext fun a => match a with | ⟨0, _⟩ => rfl))
  rw [val_main_v5_apply, val_main_v6_apply]
  generalize val_main_v4 (F := Ideal) x0 = y
  refine congrArg₂ (· * ·) (congrArg y (funext fun a => Fin.ext ?_)) (congrArg x2 (funext fun a => match a with | ⟨0, _⟩ => rfl | ⟨1, _⟩ => rfl))
  match a with
  | ⟨0, _⟩ => show (r.val * 768 + k.val) / 768 = r.val; omega
  | ⟨1, _⟩ => rfl
  | ⟨2, _⟩ => show (r.val * 768 + k.val) % 768 = k.val; omega

/-- The reference's logits of the key rows. -/
theorem v30_apply (r : Fin 2) (j : Fin 200) : val_main_v30 (F := Ideal) x1 x2 x3 (ix2 r j)
    = lgt (fun k => val_main_v1 (F := Ideal) x1 (ix3 r 0 k)) x2 (fun j => x3 (ix1 j)) j := by
  rw [val_main_v30_apply, val_main_v27_apply, val_main_v29_apply, val_main_v28_apply]
  refine congrArg₂ (· + ·) (Finset.sum_congr rfl fun k _ => ?_) (congrArg x3 (funext fun a => match a with | ⟨0, _⟩ => rfl))
  rw [val_main_v2_apply, val_main_v26_apply]
  generalize val_main_v1 (F := Ideal) x1 = y
  refine congrArg₂ (· * ·) (congrArg y (funext fun a => Fin.ext ?_)) (congrArg x2 (funext fun a => match a with | ⟨0, _⟩ => rfl | ⟨1, _⟩ => rfl))
  match a with
  | ⟨0, _⟩ => show (r.val * 768 + k.val) / 768 = r.val; omega
  | ⟨1, _⟩ => rfl
  | ⟨2, _⟩ => show (r.val * 768 + k.val) % 768 = k.val; omega

/-- The reference's greatest logit of a row. -/
theorem v13_apply (r : Fin 2) : val_main_v13 (F := Ideal) x0 x2 x3 (ix1 r) = top fun l => val_main_v10 (F := Ideal) x0 x2 x3 (ix2 r l) := by
  rw [val_main_v13_apply, val_main_v12_apply]
  refine congrArg (FloatOps.maximumf (F := Ideal) (φ := .f32) (FloatOps.ofBits .f32 0xFF800000#32)) ?_
  unfold val_main_v11
  generalize val_main_v10 (F := Ideal) x0 x2 x3 = y
  rw [Host.reduce_eq_fold_single _ _ _ Cert.HeadReferenceIdeal.Gen.reducesTo_S2x200_S2_d1 (by decide)]
  exact congrArg (Finset.fold max _ · _) (funext fun l => congrArg y (lift_eq r l))

/-- The reference's exponentials at an index. -/
theorem v17_apply (r : Fin 2) (j : Fin 200) : val_main_v17 (F := Ideal) x0 x2 x3 (ix2 r j)
    = FloatOps.exp (F := Ideal) (φ := .f32) (FloatOps.subf (val_main_v10 (F := Ideal) x0 x2 x3 (ix2 r j)) (top fun l => val_main_v10 (F := Ideal) x0 x2 x3 (ix2 r l))) := by
  rw [val_main_v17_apply, val_main_v16_apply, val_main_v15_apply, val_main_v14_apply, ← v13_apply]
  generalize val_main_v13 (F := Ideal) x0 x2 x3 = y
  generalize val_main_v10 (F := Ideal) x0 x2 x3 (ix2 r j) = s
  exact congrArg (fun t => FloatOps.exp (F := Ideal) (φ := .f32) (FloatOps.subf s t)) (congrArg y (funext fun a => match a with | ⟨0, _⟩ => rfl))

/-- The reference's scores at an index. -/
theorem v31_apply (r : Fin 2) (j : Fin 200) : val_main_v31 (F := Ideal) x0 x1 x2 x3 (ix2 r j)
    = score (fun k => val_main_v4 (F := Ideal) x0 (ix3 r 0 k)) (fun k => val_main_v1 (F := Ideal) x1 (ix3 r 0 k)) x2 (fun j => x3 (ix1 j)) j := by
  rw [val_main_v31_apply, v30_apply, val_main_v25_apply, val_main_v21_apply, val_main_v20_apply, val_main_v19_apply, val_main_v18_apply,
    val_main_v24_apply, val_main_v23_apply, val_main_v22_apply]
  have e0 : ∀ i, (val_main_cst_1 (F := Ideal) i : EReal) = 0 := fun _ => Ideal.ofBits_zero_f32
  have e1 : ∀ i, (val_main_cst_2 (F := Ideal) i : EReal) = 0 := fun _ => Ideal.ofBits_zero_f32
  have ei : ∀ k : Fin 200, idx_main_v18 (idx_main_v19 (idx_main_v20 (ix2 r j))) k = ix2 r k := fun k => funext fun a => match a with | ⟨0, _⟩ => rfl | ⟨1, _⟩ => rfl
  have ej : ∀ k : Fin 768, idx_main_v22 (idx_main_v23 (idx_main_v24 (ix2 r j))) k = ix2 j k := fun k => funext fun a => match a with | ⟨0, _⟩ => rfl | ⟨1, _⟩ => rfl
  rw [e0, e1, zero_add, zero_add]
  simp only [ei, ej, v17_apply, v10_apply]
  rfl

end

/-! ## The two programs -/

section
variable (m : (ℓ : Loc nD τ sig) → Buf (Elt Ideal) ℓ) (c : Dev nD)

/-- The body's block 0 is its whole array. -/
theorem iblk_0 (t : Fin cfg0.N) : iblk m c 0 t = V m c main_v1 :=
  funext fun j => congrArg (V m c main_v1) (whole_emb main_v1 _ _ (fun _ => Nat.zero_mul _) j)

/-- The body's block 1 is its whole array. -/
theorem iblk_1 (t : Fin cfg0.N) : iblk m c 1 t = V m c main_v3 :=
  funext fun j => congrArg (V m c main_v3) (whole_emb main_v3 _ _ (fun _ => Nat.zero_mul _) j)

/-- The body's block 2 is its whole array. -/
theorem iblk_2 (t : Fin cfg0.N) : iblk m c 2 t = V m c main_arg2 :=
  funext fun j => congrArg (V m c main_arg2) (whole_emb main_arg2 _ _ (fun _ => Nat.zero_mul _) j)

/-- The body's block 3 is its whole array. -/
theorem iblk_3 (t : Fin cfg0.N) : iblk m c 3 t = V m c main_v4 :=
  funext fun j => congrArg (V m c main_v4) (whole_emb main_v4 _ _ (fun _ => Nat.zero_mul _) j)

/-- The block that the body stores is the array that the call returns. -/
theorem arrAt_of (dat : Dat τ (Elt Ideal) Unit ℕ (UR sig nD τ) ℕ cfg0 c)
    (G : Buf (Elt Ideal) ((c : Thread nD τ).loc main_v5)) (h : ∀ t, dat.after 4 t = G) : dat.arrAt 4 cfg0.N = G :=
  dat.arrAt_eq_of_cover 4 G
    (fun t _ => funext fun j => (congrFun (h t) j).trans (congrArg G (whole_emb main_v5 _ _ (fun _ => Nat.zero_mul _) j).symm))
    (fun i => ⟨⟨0, by decide⟩, flush0_4 _, whole_mem main_v5 _ _ (fun _ => Nat.zero_mul _) i⟩)

/-- The region leaves its output at its kernel's output of the entry contents. -/
theorem final : (dats m 0 c).arrAt 4 cfg0.N = out0_4 (V m c main_v1) (V m c main_v3) (V m c main_arg2) (V m c main_v4) :=
  arrAt_of c _ _ fun t => by rw [after0_4, iblk_0, iblk_1, iblk_2, iblk_3]

/-- The clear rows the region is given. -/
theorem clear_at : V m c main_v1 = val_main_v4 (F := Ideal) (m ((c : Thread nD τ).loc main_arg0)) := by
  show StableHlo.after hostOps0 _ _ = _
  after_results_simp <;> rfl

/-- The key rows the region is given. -/
theorem key_at : V m c main_v3 = val_main_v1 (F := Ideal) (m ((c : Thread nD τ).loc main_arg1)) := by
  show StableHlo.after hostOps0 _ _ = _
  after_results_simp <;> rfl

/-- The bias the region is given. -/
theorem bias_at : V m c main_v4 = shapeCast S1x200 (m ((c : Thread nD τ).loc main_arg3)) shapeCasts_S200_S1x200 := by
  show StableHlo.after hostOps0 _ _ = _
  after_results_simp <;> rfl

/-- What the region leaves is the reference's result. -/
theorem scores_at : (dats m 0 c).arrAt 4 cfg0.N = val_main_v31 (F := Ideal) (m ((c : Thread nD τ).loc main_arg0)) (m ((c : Thread nD τ).loc main_arg1))
    (m ((c : Thread nD τ).loc main_arg2)) (m ((c : Thread nD τ).loc main_arg3)) := by
  rw [final, out_eq, clear_at, key_at, bias_at, V_main_arg2]
  funext y
  obtain ⟨r, j, rfl⟩ : ∃ r j, y = ix2 r j := ⟨_, _, eq_ix2 y⟩
  refine (pay_apply _ _ _ _ r j).trans (Eq.trans ?_ (v31_apply _ _ _ _ r j).symm)
  refine congrArg (fun b => score _ _ _ b j) (funext fun l => ?_)
  refine shapeCast_apply _ _ _ (ix1 l) ?_
  rw [Shape.rowMajor_val_two, Shape.rowMajor_val_one]
  show l.val = 0 * 200 + l.val
  omega

end

/-- Both programs run and leave equal scores. -/
theorem equal : Cert.algebraic_HeadIdeal_HeadReferenceIdeal (hHeadIdeal := Cert.HeadIdeal.Gen.facts)
    (hHeadReferenceIdeal := Cert.HeadReferenceIdeal.Gen.facts) := fun m g m' g' _ hag =>
  ⟨fun c => val_main_v31 (F := Ideal) (m ((c : Thread nD τ).loc main_arg0)) (m ((c : Thread nD τ).loc main_arg1))
      (m ((c : Thread nD τ).loc main_arg2)) (m ((c : Thread nD τ).loc main_arg3)),
   (θ_run _ _ _).mono (fun _ h c => ⟨(h c).1.trans (scores_at m c), (h c).2⟩) (Cert.HeadIdeal.Value.run_blocks m g),
   (θ_run _ _ _).mono (fun _ h c => by
      obtain ⟨e0, e1, e2, e3⟩ := hag c
      exact ⟨(h c).1.trans ((val_main_v31_eq _ _ _ _).trans (congr (congr (congr (congrArg (val_main_v31 (F := Ideal)) e0) e1) e2) e3)), (h c).2⟩)
    (Cert.HeadReferenceIdeal.Value.run m' g')⟩

end Cert.Proof.HeadCall
-- ==== Proof.Feed.lean ====
/- The feed-forward part of a layer of any number of rows: what the kernel's body computes at an index, what the
   reference computes at an index, and that the two are the same rows, the rows of two sequences one above the other. -/
module

public import proofs.«01_k».proof.Proof.Mlp

@[expose] public section

set_option maxRecDepth 16384

noncomputable section

namespace Cert.Proof.Feed

open Cert.Proof.Layer (asRow asRow_apply)
open Cert.Proof.Mlp (act asWide asWide_apply)
open Idealize.ShloMosaic Idealize.ShloMosaic.ValueIdx
open scoped BigOperators

/-- The shape of a matrix. -/
abbrev mat (r c : ℕ) : Shape := ⟨2, ![r, c]⟩

variable {R N : ℕ}

/-! ## The rows of two sequences -/

/-- Row `n` of sequence `b` among the stacked rows. -/
abbrev row (hR : R = 2 * N) (b : Fin 2) (n : Fin N) : Fin R :=
  ⟨b.val * N + n.val, by
    have hn := n.isLt
    match b with
    | ⟨0, _⟩ => show 0 * N + n.val < R; omega
    | ⟨1, _⟩ => show 1 * N + n.val < R; omega⟩

/-- Every stacked row is a row of one of the sequences. -/
theorem split_row (hR : R = 2 * N) (r : Fin R) : ∃ b n, r = row hR b n := by
  have hr := r.isLt
  by_cases h : r.val < N
  · exact ⟨0, ⟨r.val, h⟩, Fin.ext (by show r.val = 0 * N + r.val; omega)⟩
  · exact ⟨1, ⟨r.val - N, by omega⟩, Fin.ext (by show r.val = 1 * N + (r.val - N); omega)⟩

/-- The stacked rows at an index. -/
theorem flat_apply (hR : R = 2 * N) (y : FVec Ideal ⟨3, ![2, N, 768]⟩ .f32) (h) (b : Fin 2) (n : Fin N) (c : Fin 768) :
    shapeCast (mat R 768) y h (ix2 (row hR b n) c) = y (ix3 b n c) := by
  refine shapeCast_apply _ _ _ (ix3 b n c) ?_
  rw [Shape.rowMajor_val_two, Shape.rowMajor_val_three]
  rfl

/-- The rows apart at an index. -/
theorem apart_apply (hR : R = 2 * N) (y : FVec Ideal (mat R 768) .f32) (h) (b : Fin 2) (n : Fin N) (c : Fin 768) :
    shapeCast (⟨3, ![2, N, 768]⟩ : Shape) y h (ix3 b n c) = y (ix2 (row hR b n) c) := by
  refine shapeCast_apply _ _ _ (ix2 (row hR b n) c) ?_
  rw [Shape.rowMajor_val_two, Shape.rowMajor_val_three]
  rfl

/-! ## The body -/

variable (y : FVec Ideal (mat R 768) .f32) (w1 : FVec Ideal (mat 768 3072) .f32) (b1 : FVec Ideal (mat 1 3072) .f32) (h : FVec Ideal (mat R 768) .f32)
  (w2 : FVec Ideal (mat 3072 768) .f32) (b2 : FVec Ideal (mat 1 768) .f32)

/-- A bias row repeats over the rows. -/
abbrev Repeats (R M : ℕ) : Prop := (mat 1 M).Broadcasts (mat R M)

/-- A linear map of the rows: the product with the weights, plus the bias. -/
def lin {M : ℕ} (w : FVec Ideal (mat 768 M) .f32) (b : FVec Ideal (mat 1 M) .f32) (hb : Repeats R M) : FVec Ideal (mat R M) .f32 :=
  addf (matmul (DotDims.plain R 768 M) none y w (constant (mat R M) .f32 0x00000000#32)) (broadcastTo (mat R M) b hb)

/-- That map at an index. -/
theorem lin_apply {M : ℕ} (hM : M ≠ 1) (w : FVec Ideal (mat 768 M) .f32) (b : FVec Ideal (mat 1 M) .f32) (hb) (r : Fin R) (k : Fin M) :
    lin y w b hb (ix2 r k) = (∑ j : Fin 768, y (ix2 r j) * w (ix2 j k)) + b (ix2 0 k) := by
  unfold lin
  rw [addf_apply]
  refine congrArg₂ (· + ·) ?_ (broadcastTo_apply b _ _ (ix2 0 k) fun a => ?_)
  · refine (Ideal.matmul_plain_apply none y w _ r k).trans ?_
    rw [constant_apply, Ideal.ofBits_zero_f32, zero_add]
  · match a with
    | ⟨0, _⟩ => rfl
    | ⟨1, _⟩ => exact (if_neg hM).symm

/-- The body's rows: the residual plus the narrow projection of the activated wide rows. -/
def narrow (hb : Repeats R 3072) (hb' : Repeats R 768) : FVec Ideal (mat R 768) .f32 :=
  addf h (addf (matmul (φ₁ := .f32) (φ₂ := .f32) (DotDims.plain R 3072 768) none (fun i => act (lin y w1 b1 hb i)) w2 (constant (mat R 768) .f32 0x00000000#32))
    (broadcastTo (mat R 768) b2 hb'))

/-- The body's rows at an index. -/
theorem narrow_apply (hb hb') (r : Fin R) (c : Fin 768) : narrow y w1 b1 h w2 b2 hb hb' (ix2 r c)
    = h (ix2 r c) + ((∑ k : Fin 3072, act ((∑ j : Fin 768, y (ix2 r j) * w1 (ix2 j k)) + b1 (ix2 0 k)) * w2 (ix2 k c)) + b2 (ix2 0 c)) := by
  unfold narrow
  rw [addf_apply, addf_apply]
  refine congrArg (h (ix2 r c) + ·) (congrArg₂ (· + ·) ?_ (broadcastTo_apply b2 _ _ (ix2 0 c) fun a => ?_))
  · refine (Ideal.matmul_plain_apply (φ₁ := .f32) (φ₂ := .f32) none _ w2 _ r c).trans ?_
    rw [constant_apply, Ideal.ofBits_zero_f32, zero_add]
    exact Finset.sum_congr rfl fun k _ => congrArg (fun z => act z * w2 (ix2 k c)) (lin_apply y (by decide) w1 b1 hb r k)
  · match a with
    | ⟨0, _⟩ => rfl
    | ⟨1, _⟩ => rfl

/-! ## The reference -/

/-- The shape of two sequences of rows. -/
abbrev seqs (n c : ℕ) : Shape := ⟨3, ![2, n, c]⟩

/-- The product of the rows of two sequences with a matrix. -/
def rowsDot (N K M : ℕ) : DotDims (seqs N K) (mat K M) (seqs N M) where
  lhsContracting := [2]
  rhsContracting := [0]
  lhsNonContracting := [0, 1]
  rhsNonContracting := [1]
  lhsBatch := []
  rhsBatch := []
  wf := ⟨rfl, by simp, rfl, by simp, by simp, by simp, (by decide : (([] ++ [0, 1] ++ [2] : List (Fin 3))).Perm (List.finRange 3)),
    (by decide : (([] ++ [1] ++ [0] : List (Fin 2))).Perm (List.finRange 2)), rfl, by show 0 < 3; decide, fun a => by fin_cases a <;> rfl⟩

/-- That product at an index. -/
theorem rowsDot_apply {K M : ℕ} (l : FVec Ideal (seqs N K) .f32) (r : FVec Ideal (mat K M) .f32) (b : Fin 2) (n : Fin N) (c : Fin M) :
    Host.dotGeneral (φ₁ := .f32) (φ₂ := .f32) (rowsDot N K M) none l r (ix3 b n c) = ∑ k : Fin K, l (ix3 b n k) * r (ix2 k c) := by
  simp only [Host.dotGeneral]
  rw [Ideal.dotGeneral_apply, ← Equiv.sum_comp (contrEquiv1 (rowsDot N K M) K rfl rfl).symm]
  refine Finset.sum_congr rfl fun k _ => congrArg₂ (· * ·) (congrArg l ?_) (congrArg r ?_)
  · exact funext fun a => Fin.ext (match a with
      | ⟨0, _⟩ => rfl
      | ⟨1, _⟩ => rfl
      | ⟨2, _⟩ => contrEquiv1_symm_val (rowsDot N K M) K rfl rfl k)
  · exact funext fun a => Fin.ext (match a with
      | ⟨0, _⟩ => contrEquiv1_symm_val (rowsDot N K M) K rfl rfl k
      | ⟨1, _⟩ => rfl)

/-- A bias is a row. -/
abbrev OneRow (M : ℕ) : Prop := (⟨1, ![M]⟩ : Shape).BroadcastsInDim ⟨3, ![1, 1, M]⟩ ![2]

/-- A row repeats over two sequences. -/
abbrev AllRows (N M : ℕ) : Prop := (⟨3, ![1, 1, M]⟩ : Shape).BroadcastsInDim (seqs N M) ![0, 1, 2]

/-- A bias over the rows of two sequences. -/
def overRows {M : ℕ} (x : FVec Ideal ⟨1, ![M]⟩ .f32) (h1 : OneRow M) (h2 : AllRows N M) : FVec Ideal (seqs N M) .f32 :=
  broadcastInDim (seqs N M) ![0, 1, 2] h2 (broadcastInDim ⟨3, ![1, 1, M]⟩ ![2] h1 x)

/-- That bias at an index. -/
theorem overRows_apply {M : ℕ} (hM : M ≠ 1) (x : FVec Ideal ⟨1, ![M]⟩ .f32) (h1 h2) (b : Fin 2) (n : Fin N) (c : Fin M) :
    overRows (N := N) x h1 h2 (ix3 b n c) = x (ix1 c) := by
  unfold overRows
  refine (broadcastInDim_apply _ h2 _ _ (ix3 0 0 c) fun a => ?_).trans (broadcastInDim_apply _ h1 x _ (ix1 c) fun a => ?_)
  · match a with
    | ⟨0, _⟩ => rfl
    | ⟨1, _⟩ => rfl
    | ⟨2, _⟩ => exact (if_neg hM).symm
  · match a with
    | ⟨0, _⟩ => exact (if_neg hM).symm

variable (x0 : FVec Ideal (mat R 768) .f32) (z : FVec Ideal (seqs N 768) .f32) (x3 : FVec Ideal (mat 768 3072) .f32) (x4 : FVec Ideal ⟨1, ![3072]⟩ .f32)
  (x5 : FVec Ideal (mat 3072 768) .f32) (x6 : FVec Ideal ⟨1, ![768]⟩ .f32)

/-- The reference's linear map of the rows. -/
def refLin {M : ℕ} (w : FVec Ideal (mat 768 M) .f32) (x : FVec Ideal ⟨1, ![M]⟩ .f32) (h1 : OneRow M) (h2 : AllRows N M) : FVec Ideal (seqs N M) .f32 :=
  addf (Host.dotGeneral (φ₁ := .f32) (φ₂ := .f32) (rowsDot N 768 M) none z w) (overRows x h1 h2)

/-- That map at an index. -/
theorem refLin_apply {M : ℕ} (hM : M ≠ 1) (w : FVec Ideal (mat 768 M) .f32) (x : FVec Ideal ⟨1, ![M]⟩ .f32) (h1 h2) (b : Fin 2) (n : Fin N) (c : Fin M) :
    refLin z w x h1 h2 (ix3 b n c) = (∑ j : Fin 768, z (ix3 b n j) * w (ix2 j c)) + x (ix1 c) := by
  unfold refLin
  rw [addf_apply, overRows_apply hM, rowsDot_apply]

/-- The reference's rows. -/
def refRows (h1 : OneRow 3072) (h2 : AllRows N 3072) (h3 : OneRow 768) (h4 : AllRows N 768) (hs : (mat R 768).ShapeCasts (seqs N 768)) : FVec Ideal (seqs N 768) .f32 :=
  addf (addf (shapeCast (seqs N 768) x0 hs) (Host.dotGeneral (φ₁ := .f32) (φ₂ := .f32) (rowsDot N 3072 768) none (fun i => act (refLin z x3 x4 h1 h2 i)) x5))
    (overRows x6 h3 h4)

/-- The body's rows at the reference's normalised rows are the reference's rows. -/
theorem rows_eq (hR : R = 2 * N) (h1 h2 h3 h4 hs) (hc hc' : (seqs N 768).ShapeCasts (mat R 768)) (hb hb') :
    narrow (shapeCast (mat R 768) z hc) x3 (asWide x4) x0 x5 (asRow x6) hb hb'
      = shapeCast (mat R 768) (refRows x0 z x3 x4 x5 x6 h1 h2 h3 h4 hs) hc' := by
  funext i
  obtain ⟨r, c, rfl⟩ : ∃ r c, i = ix2 r c := ⟨_, _, eq_ix2 i⟩
  obtain ⟨b, n, rfl⟩ := split_row hR r
  rw [narrow_apply, flat_apply hR, asRow_apply, ← add_assoc]
  unfold refRows
  rw [addf_apply, addf_apply, overRows_apply (by decide), apart_apply hR, rowsDot_apply]
  refine congrArg (fun z => (x0 (ix2 (row hR b n) c) + z) + x6 (ix1 c)) (Finset.sum_congr rfl fun k _ => ?_)
  rw [asWide_apply, refLin_apply _ (by decide)]
  exact congrArg (fun z => act (z + x4 (ix1 k)) * x5 (ix2 k c)) (Finset.sum_congr rfl fun j _ => congrArg (· * x3 (ix2 j k)) (flat_apply hR _ _ b n j))

end Cert.Proof.Feed
-- ==== Proof.FeedCall.lean ====
/- The feed-forward part of the layer of 127 tokens: the kernel's one region and the reference compute the same rows. -/
module

public import proofs.«01_k».proof.Defs
public import proofs.«01_k».proof.Proof.KernelRun
public import proofs.«01_k».proof.Proof.Feed
public import proofs.«01_k».proof.Proof.Gen.FeedIdeal.Value
public import proofs.«01_k».proof.Proof.Gen.FeedReferenceIdeal.Run
public import proofs.«01_k».proof.Proof.Gen.FeedReferenceIdeal.Read

@[expose] public section

set_option maxRecDepth 16384

noncomputable section

namespace Cert.Proof.FeedCall

open Cert.FeedIdeal Cert.FeedIdeal.Gen Cert.FeedReferenceIdeal.Read
open Cert.Proof.KernelRun (whole_emb whole_mem)
open Cert.Proof.Qkv (hz2)
open Cert.Proof.Layer (asRow)
open Cert.Proof.Mlp (act asWide)
open Cert.Proof.Feed
open Idealize.ShloMosaic Idealize.ShloMosaic.TcCoe Idealize.SL.Sem Idealize.ShloMosaic.ValueIdx
open Idealize.ShloMosaic.Pipeline (Dat)
open scoped BigOperators

/-! ## The values -/

/-- The region's output is the feed-forward body's rows. -/
theorem out_eq (h y : Vec Ideal S254x768 .f32) (w1 : Vec Ideal S768x3072 .f32) (b1 : Vec Ideal S1x3072 .f32) (w2 : Vec Ideal S3072x768 .f32) (b2 : Vec Ideal S1x768 .f32) :
    out0_6 (F := Ideal) h y w1 b1 w2 b2 = narrow y w1 b1 h w2 b2 broadcasts_S1x3072_S254x3072 broadcasts_S1x768_S254x768 := by
  unfold out0_6
  rw [View.canon_unit_zero hz2]
  simp only [r0_0, r0_1, r0_2, r0_3, r0_4, View.ld_unit_zero (S := S254x768) hz2, View.ld_unit_zero (S := S768x3072) hz2,
    View.ld_unit_zero (S := S1x3072) hz2, View.ld_unit_zero (S := S3072x768) hz2, View.ld_unit_zero (S := S1x768) hz2]
  unfold k0_pay1
  simp only [shapeCast_self]
  rfl

section
variable (x0 : FVec Ideal S254x768 .f32) (x1 x2 : FVec Ideal S768 .f32) (x3 : FVec Ideal S768x3072 .f32) (x4 : FVec Ideal S3072 .f32) (x5 : FVec Ideal S3072x768 .f32) (x6 : FVec Ideal S768 .f32)

/-- The reference's activation at an index. -/
theorem v41_apply (i : Cert.FeedReferenceIdeal.S2x127x3072.Idx) : val_main_v41 (F := Ideal) x0 x1 x2 x3 x4 i = act (val_main_v28 (F := Ideal) x0 x1 x2 x3 x4 i) := by
  rw [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply]
  generalize val_main_v28 (F := Ideal) x0 x1 x2 x3 x4 i = y
  unfold act
  rw [mul_comm y (y * y)]
  rfl

/-- The reference's rows are the feed-forward rows of the residual and the normalised rows. -/
theorem v46_eq : val_main_v46 (F := Ideal) x0 x1 x2 x3 x4 x5 x6 = refRows x0 (val_main_v24 (F := Ideal) x0 x1 x2) x3 x4 x5 x6
    Cert.FeedReferenceIdeal.Facts₀.bcast_S3072_S1x1x3072_2 Cert.FeedReferenceIdeal.Facts₀.bcast_S1x1x3072_S2x127x3072_0_1_2
    Cert.FeedReferenceIdeal.Facts₀.bcast_S768_S1x1x768_2 Cert.FeedReferenceIdeal.Facts₀.bcast_S1x1x768_S2x127x768_0_1_2 Cert.FeedReferenceIdeal.Facts₀.shapeCasts_S254x768_S2x127x768 := by
  have e : val_main_v41 (F := Ideal) x0 x1 x2 x3 x4 = fun i => act (refLin (val_main_v24 (F := Ideal) x0 x1 x2) x3 x4
      Cert.FeedReferenceIdeal.Facts₀.bcast_S3072_S1x1x3072_2 Cert.FeedReferenceIdeal.Facts₀.bcast_S1x1x3072_S2x127x3072_0_1_2 i) := funext (v41_apply x0 x1 x2 x3 x4)
  unfold val_main_v46 val_main_v43 val_main_v42 refRows
  rw [e]
  rfl

end

/-! ## The two programs -/

section
variable (m : (ℓ : Loc nD τ sig) → Buf (Elt Ideal) ℓ) (c : Dev nD)

/-- The body's block 0 is its whole array. -/
theorem iblk_0 (t : Fin cfg0.N) : iblk m c 0 t = V m c main_arg0 :=
  funext fun j => congrArg (V m c main_arg0) (whole_emb main_arg0 _ _ (fun _ => Nat.zero_mul _) j)

/-- The body's block 1 is its whole array. -/
theorem iblk_1 (t : Fin cfg0.N) : iblk m c 1 t = V m c main_v25 :=
  funext fun j => congrArg (V m c main_v25) (whole_emb main_v25 _ _ (fun _ => Nat.zero_mul _) j)

/-- The body's block 2 is its whole array. -/
theorem iblk_2 (t : Fin cfg0.N) : iblk m c 2 t = V m c main_arg3 :=
  funext fun j => congrArg (V m c main_arg3) (whole_emb main_arg3 _ _ (fun _ => Nat.zero_mul _) j)

/-- The body's block 3 is its whole array. -/
theorem iblk_3 (t : Fin cfg0.N) : iblk m c 3 t = V m c main_v26 :=
  funext fun j => congrArg (V m c main_v26) (whole_emb main_v26 _ _ (fun _ => Nat.zero_mul _) j)

/-- The body's block 4 is its whole array. -/
theorem iblk_4 (t : Fin cfg0.N) : iblk m c 4 t = V m c main_arg5 :=
  funext fun j => congrArg (V m c main_arg5) (whole_emb main_arg5 _ _ (fun _ => Nat.zero_mul _) j)

/-- The body's block 5 is its whole array. -/
theorem iblk_5 (t : Fin cfg0.N) : iblk m c 5 t = V m c main_v27 :=
  funext fun j => congrArg (V m c main_v27) (whole_emb main_v27 _ _ (fun _ => Nat.zero_mul _) j)

/-- The block that the body stores is the array that the call returns. -/
theorem arrAt_of (dat : Dat τ (Elt Ideal) Unit ℕ (UR sig nD τ) ℕ cfg0 c)
    (G : Buf (Elt Ideal) ((c : Thread nD τ).loc main_v28)) (h : ∀ t, dat.after 6 t = G) : dat.arrAt 6 cfg0.N = G :=
  dat.arrAt_eq_of_cover 6 G
    (fun t _ => funext fun j => (congrFun (h t) j).trans (congrArg G (whole_emb main_v28 _ _ (fun _ => Nat.zero_mul _) j).symm))
    (fun i => ⟨⟨0, by decide⟩, flush0_6 _, whole_mem main_v28 _ _ (fun _ => Nat.zero_mul _) i⟩)

/-- The normalised rows the region is given are the reference's. -/
theorem normed_at : V m c main_v25 = shapeCast S254x768 (val_main_v24 (F := Ideal) (m ((c : Thread nD τ).loc main_arg0)) (m ((c : Thread nD τ).loc main_arg1))
    (m ((c : Thread nD τ).loc main_arg2))) shapeCasts_S2x127x768_S254x768 := by
  show StableHlo.after hostOps0 _ _ = _
  after_results
  rfl

/-- The wide bias the region is given. -/
theorem wide_at : V m c main_v26 = asWide (m ((c : Thread nD τ).loc main_arg4)) := by
  show StableHlo.after hostOps0 _ _ = _
  after_results
  rfl

/-- The narrow bias the region is given. -/
theorem narrow_at : V m c main_v27 = asRow (m ((c : Thread nD τ).loc main_arg6)) := by
  show StableHlo.after hostOps0 _ _ = _
  after_results
  rfl

/-- What the region leaves is the reference's result. -/
theorem rows_at : (dats m 0 c).arrAt 6 cfg0.N = val_main_v47 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) :=
  arrAt_of c _ _ fun t => by
    rw [after0_6, iblk_0, iblk_1, iblk_2, iblk_3, iblk_4, iblk_5, out_eq, normed_at, wide_at, narrow_at, V_main_arg0, V_main_arg3, V_main_arg5]
    exact (rows_eq (R := 254) (N := 127) _ _ _ _ _ _ rfl _ _ _ _ _ _ Cert.FeedReferenceIdeal.Facts₀.shapeCasts_S2x127x768_S254x768 _ _).trans
      (congrArg (fun y => shapeCast S254x768 y Cert.FeedReferenceIdeal.Facts₀.shapeCasts_S2x127x768_S254x768) (v46_eq _ _ _ _ _ _ _).symm)

end

/-- Both programs run and leave equal rows. -/
theorem equal : Cert.algebraic_FeedIdeal_FeedReferenceIdeal (hFeedIdeal := Cert.FeedIdeal.Gen.facts)
    (hFeedReferenceIdeal := Cert.FeedReferenceIdeal.Gen.facts) := fun m g m' g' _ hag =>
  ⟨fun c => val_main_v47 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)),
   (θ_run _ _ _).mono (fun _ h c => ⟨(h c).1.trans (rows_at m c), (h c).2⟩) (Cert.FeedIdeal.Value.run_blocks m g),
   (θ_run _ _ _).mono (fun _ h c => by
      obtain ⟨e0, e1, e2, e3, e4, e5, e6⟩ := hag c
      exact ⟨(h c).1.trans ((val_main_v47_eq _ _).trans (congr (congr (congr (congr (congr (congr (congrArg (val_main_v47 (F := Ideal)) e0) e1) e2) e3) e4) e5) e6)), (h c).2⟩)
    (Cert.FeedReferenceIdeal.Value.run m' g')⟩

end Cert.Proof.FeedCall
-- ==== Proof.LastCall.lean ====
/- The feed-forward part of the layer of 25 tokens: the kernel's one region and the reference compute the same rows. -/
module

public import proofs.«01_k».proof.Defs
public import proofs.«01_k».proof.Proof.KernelRun
public import proofs.«01_k».proof.Proof.Feed
public import proofs.«01_k».proof.Proof.Gen.LastIdeal.Value
public import proofs.«01_k».proof.Proof.Gen.LastReferenceIdeal.Run
public import proofs.«01_k».proof.Proof.Gen.LastReferenceIdeal.Read

@[expose] public section

set_option maxRecDepth 16384

noncomputable section

namespace Cert.Proof.LastCall

open Cert.LastIdeal Cert.LastIdeal.Gen Cert.LastReferenceIdeal.Read
open Cert.Proof.KernelRun (whole_emb whole_mem)
open Cert.Proof.Qkv (hz2)
open Cert.Proof.Layer (asRow)
open Cert.Proof.Mlp (act asWide)
open Cert.Proof.Feed
open Idealize.ShloMosaic Idealize.ShloMosaic.TcCoe Idealize.SL.Sem Idealize.ShloMosaic.ValueIdx
open Idealize.ShloMosaic.Pipeline (Dat)
open scoped BigOperators

/-! ## The values -/

/-- The region's output is the feed-forward body's rows. -/
theorem out_eq (h y : Vec Ideal S50x768 .f32) (w1 : Vec Ideal S768x3072 .f32) (b1 : Vec Ideal S1x3072 .f32) (w2 : Vec Ideal S3072x768 .f32) (b2 : Vec Ideal S1x768 .f32) :
    out0_6 (F := Ideal) h y w1 b1 w2 b2 = narrow y w1 b1 h w2 b2 broadcasts_S1x3072_S50x3072 broadcasts_S1x768_S50x768 := by
  unfold out0_6
  rw [View.canon_unit_zero hz2]
  simp only [r0_0, r0_1, r0_2, r0_3, r0_4, View.ld_unit_zero (S := S50x768) hz2, View.ld_unit_zero (S := S768x3072) hz2,
    View.ld_unit_zero (S := S1x3072) hz2, View.ld_unit_zero (S := S3072x768) hz2, View.ld_unit_zero (S := S1x768) hz2]
  unfold k0_pay1
  simp only [shapeCast_self]
  rfl

section
variable (x0 : FVec Ideal S50x768 .f32) (x1 x2 : FVec Ideal S768 .f32) (x3 : FVec Ideal S768x3072 .f32) (x4 : FVec Ideal S3072 .f32) (x5 : FVec Ideal S3072x768 .f32) (x6 : FVec Ideal S768 .f32)

/-- The reference's activation at an index. -/
theorem v41_apply (i : Cert.LastReferenceIdeal.S2x25x3072.Idx) : val_main_v41 (F := Ideal) x0 x1 x2 x3 x4 i = act (val_main_v28 (F := Ideal) x0 x1 x2 x3 x4 i) := by
  rw [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply]
  generalize val_main_v28 (F := Ideal) x0 x1 x2 x3 x4 i = y
  unfold act
  rw [mul_comm y (y * y)]
  rfl

/-- The reference's rows are the feed-forward rows of the residual and the normalised rows. -/
theorem v46_eq : val_main_v46 (F := Ideal) x0 x1 x2 x3 x4 x5 x6 = refRows x0 (val_main_v24 (F := Ideal) x0 x1 x2) x3 x4 x5 x6
    Cert.LastReferenceIdeal.Facts₀.bcast_S3072_S1x1x3072_2 Cert.LastReferenceIdeal.Facts₀.bcast_S1x1x3072_S2x25x3072_0_1_2
    Cert.LastReferenceIdeal.Facts₀.bcast_S768_S1x1x768_2 Cert.LastReferenceIdeal.Facts₀.bcast_S1x1x768_S2x25x768_0_1_2 Cert.LastReferenceIdeal.Facts₀.shapeCasts_S50x768_S2x25x768 := by
  have e : val_main_v41 (F := Ideal) x0 x1 x2 x3 x4 = fun i => act (refLin (val_main_v24 (F := Ideal) x0 x1 x2) x3 x4
      Cert.LastReferenceIdeal.Facts₀.bcast_S3072_S1x1x3072_2 Cert.LastReferenceIdeal.Facts₀.bcast_S1x1x3072_S2x25x3072_0_1_2 i) := funext (v41_apply x0 x1 x2 x3 x4)
  unfold val_main_v46 val_main_v43 val_main_v42 refRows
  rw [e]
  rfl

end

/-! ## The two programs -/

section
variable (m : (ℓ : Loc nD τ sig) → Buf (Elt Ideal) ℓ) (c : Dev nD)

/-- The body's block 0 is its whole array. -/
theorem iblk_0 (t : Fin cfg0.N) : iblk m c 0 t = V m c main_arg0 :=
  funext fun j => congrArg (V m c main_arg0) (whole_emb main_arg0 _ _ (fun _ => Nat.zero_mul _) j)

/-- The body's block 1 is its whole array. -/
theorem iblk_1 (t : Fin cfg0.N) : iblk m c 1 t = V m c main_v25 :=
  funext fun j => congrArg (V m c main_v25) (whole_emb main_v25 _ _ (fun _ => Nat.zero_mul _) j)

/-- The body's block 2 is its whole array. -/
theorem iblk_2 (t : Fin cfg0.N) : iblk m c 2 t = V m c main_arg3 :=
  funext fun j => congrArg (V m c main_arg3) (whole_emb main_arg3 _ _ (fun _ => Nat.zero_mul _) j)

/-- The body's block 3 is its whole array. -/
theorem iblk_3 (t : Fin cfg0.N) : iblk m c 3 t = V m c main_v26 :=
  funext fun j => congrArg (V m c main_v26) (whole_emb main_v26 _ _ (fun _ => Nat.zero_mul _) j)

/-- The body's block 4 is its whole array. -/
theorem iblk_4 (t : Fin cfg0.N) : iblk m c 4 t = V m c main_arg5 :=
  funext fun j => congrArg (V m c main_arg5) (whole_emb main_arg5 _ _ (fun _ => Nat.zero_mul _) j)

/-- The body's block 5 is its whole array. -/
theorem iblk_5 (t : Fin cfg0.N) : iblk m c 5 t = V m c main_v27 :=
  funext fun j => congrArg (V m c main_v27) (whole_emb main_v27 _ _ (fun _ => Nat.zero_mul _) j)

/-- The block that the body stores is the array that the call returns. -/
theorem arrAt_of (dat : Dat τ (Elt Ideal) Unit ℕ (UR sig nD τ) ℕ cfg0 c)
    (G : Buf (Elt Ideal) ((c : Thread nD τ).loc main_v28)) (h : ∀ t, dat.after 6 t = G) : dat.arrAt 6 cfg0.N = G :=
  dat.arrAt_eq_of_cover 6 G
    (fun t _ => funext fun j => (congrFun (h t) j).trans (congrArg G (whole_emb main_v28 _ _ (fun _ => Nat.zero_mul _) j).symm))
    (fun i => ⟨⟨0, by decide⟩, flush0_6 _, whole_mem main_v28 _ _ (fun _ => Nat.zero_mul _) i⟩)

/-- The normalised rows the region is given are the reference's. -/
theorem normed_at : V m c main_v25 = shapeCast S50x768 (val_main_v24 (F := Ideal) (m ((c : Thread nD τ).loc main_arg0)) (m ((c : Thread nD τ).loc main_arg1))
    (m ((c : Thread nD τ).loc main_arg2))) shapeCasts_S2x25x768_S50x768 := by
  show StableHlo.after hostOps0 _ _ = _
  after_results
  rfl

/-- The wide bias the region is given. -/
theorem wide_at : V m c main_v26 = asWide (m ((c : Thread nD τ).loc main_arg4)) := by
  show StableHlo.after hostOps0 _ _ = _
  after_results
  rfl

/-- The narrow bias the region is given. -/
theorem narrow_at : V m c main_v27 = asRow (m ((c : Thread nD τ).loc main_arg6)) := by
  show StableHlo.after hostOps0 _ _ = _
  after_results
  rfl

/-- What the region leaves is the reference's result. -/
theorem rows_at : (dats m 0 c).arrAt 6 cfg0.N = val_main_v47 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) :=
  arrAt_of c _ _ fun t => by
    rw [after0_6, iblk_0, iblk_1, iblk_2, iblk_3, iblk_4, iblk_5, out_eq, normed_at, wide_at, narrow_at, V_main_arg0, V_main_arg3, V_main_arg5]
    exact (rows_eq (R := 50) (N := 25) _ _ _ _ _ _ rfl _ _ _ _ _ _ Cert.LastReferenceIdeal.Facts₀.shapeCasts_S2x25x768_S50x768 _ _).trans
      (congrArg (fun y => shapeCast S50x768 y Cert.LastReferenceIdeal.Facts₀.shapeCasts_S2x25x768_S50x768) (v46_eq _ _ _ _ _ _ _).symm)

end

/-- Both programs run and leave equal rows. -/
theorem equal : Cert.algebraic_LastIdeal_LastReferenceIdeal (hLastIdeal := Cert.LastIdeal.Gen.facts)
    (hLastReferenceIdeal := Cert.LastReferenceIdeal.Gen.facts) := fun m g m' g' _ hag =>
  ⟨fun c => val_main_v47 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)),
   (θ_run _ _ _).mono (fun _ h c => ⟨(h c).1.trans (rows_at m c), (h c).2⟩) (Cert.LastIdeal.Value.run_blocks m g),
   (θ_run _ _ _).mono (fun _ h c => by
      obtain ⟨e0, e1, e2, e3, e4, e5, e6⟩ := hag c
      exact ⟨(h c).1.trans ((val_main_v47_eq _ _).trans (congr (congr (congr (congr (congr (congr (congrArg (val_main_v47 (F := Ideal)) e0) e1) e2) e3) e4) e5) e6)), (h c).2⟩)
    (Cert.LastReferenceIdeal.Value.run m' g')⟩

end Cert.Proof.LastCall
-- ==== Proof.Heads.lean ====
/- The projections and attention logits of a layer of any number of rows: what the kernel's body computes at an index, what the
   reference computes at an index, and that the two are the same, the rows of two sequences one above the other. -/
module

public import proofs.«01_k».proof.Proof.Feed

@[expose] public section

set_option maxRecDepth 16384

noncomputable section

namespace Cert.Proof.Heads

open Cert.Proof.Qkv (col)
open Cert.Proof.Layer (asRow asRow_apply scale_eq eight_eq)
open Cert.Proof.Feed
open Idealize.ShloMosaic Idealize.ShloMosaic.ValueIdx
open scoped BigOperators

variable {R N : ℕ}

/-- The shape of twelve heads' matrices, for two sequences. -/
abbrev heads (r c : ℕ) : Shape := ⟨4, ![2, 12, r, c]⟩

/-! ## The projections -/

/-- A projection of the reference's normalised rows is the reference's projection. -/
theorem lin_eq (hR : R = 2 * N) (z : FVec Ideal (seqs N 768) .f32) (w : FVec Ideal (mat 768 768) .f32) (x : FVec Ideal ⟨1, ![768]⟩ .f32)
    (h1 h2) (hc hc' : (seqs N 768).ShapeCasts (mat R 768)) (hb) :
    lin (shapeCast (mat R 768) z hc) w (asRow x) hb = shapeCast (mat R 768) (refLin z w x h1 h2) hc' := by
  funext i
  obtain ⟨r, c, rfl⟩ : ∃ r c, i = ix2 r c := ⟨_, _, eq_ix2 i⟩
  obtain ⟨b, n, rfl⟩ := split_row hR r
  rw [lin_apply _ (by decide), flat_apply hR, refLin_apply _ (by decide), asRow_apply]
  simp only [flat_apply hR]

/-! ## The body's logits -/

/-- The logits of all heads from the projected queries and keys: head `h` of sequence `b` at `(i, j)` is the product of
    query `i` and key `j` over the head's 64 columns, times the scale. -/
def logits (hR : R = 2 * N) (Q K : FVec Ideal (mat R 768) .f32) : FVec Ideal (heads N N) .f32 := fun y =>
  (∑ d : Fin 64, Q (ix2 (row hR (y 0) (y 2)) (col (y 1) d)) * K (ix2 (row hR (y 0) (y 3)) (col (y 1) d))) * Ideal.ofBits .f32 0x3E000000#32

/-- One head's payload: the products of the rows of two blocks over 64 columns from `o`, scaled. -/
def headPay (o : ℕ) (h : (mat N 768).Slices ![0, o] (mat N 64)) (hs : (mat N N).ShapeCasts ⟨4, ![1, 1, N, N]⟩) (q k : FVec Ideal (mat N 768) .f32) :
    FVec Ideal ⟨4, ![1, 1, N, N]⟩ .f32 :=
  shapeCast ⟨4, ![1, 1, N, N]⟩ (mulf (matmul (DotDims.transposedRhs N 64 N) none
    (extractStridedSlice (mat N 64) ![0, o] q h) (extractStridedSlice (mat N 64) ![0, o] k h) (constant (mat N N) .f32 0x00000000#32))
    (broadcast (mat N N) (Scalar.ofBits .f32 0x3E000000#32))) hs

/-- One head's payload at an index. -/
theorem headPay_apply (o : ℕ) (h hs) (q k : FVec Ideal (mat N 768) .f32) (hh : Fin 12) (ho : o = hh.val * 64) (i j : Fin N) :
    headPay o h hs q k (ix4 0 0 i j) = (∑ d : Fin 64, q (ix2 i (col hh d)) * k (ix2 j (col hh d))) * Ideal.ofBits .f32 0x3E000000#32 := by
  unfold headPay
  rw [shapeCast_apply _ _ _ (ix2 i j) (by
    rw [Shape.rowMajor_val_two, Shape.rowMajor_val_four]
    show i.val * N + j.val = ((0 * 1 + 0) * N + i.val) * N + j.val
    rw [Nat.zero_mul, Nat.zero_add]), mulf_apply]
  refine congrArg₂ (· * ·) ?_ rfl
  refine (Ideal.matmul_transposedRhs_apply none _ _ _ i j).trans ?_
  rw [constant_apply, Ideal.ofBits_zero_f32, zero_add]
  refine Finset.sum_congr rfl fun d _ => congrArg₂ (· * ·) ?_ ?_
  · refine extractStridedSlice_apply _ q h _ (ix2 i (col hh d)) fun a => ?_
    match a with
    | ⟨0, _⟩ => exact (Nat.zero_add _).symm
    | ⟨1, _⟩ => exact congrArg (· + d.val) ho.symm
  · refine extractStridedSlice_apply _ k h _ (ix2 j (col hh d)) fun a => ?_
    match a with
    | ⟨0, _⟩ => exact (Nat.zero_add _).symm
    | ⟨1, _⟩ => exact congrArg (· + d.val) ho.symm

/-- So what a head's store writes is the logits where the store lies. -/
theorem piece (hR : R = 2 * N) (hs) (Q K : FVec Ideal (mat R 768) .f32) (b : Fin 2) (hh : Fin 12) (rb : ℕ) (o : ℕ) (hr : (mat R 768).Slices ![rb, 0] (mat N 768))
    (h) (inb) (hb : rb = b.val * N) (ho : o = hh.val * 64) (j : (⟨4, ![1, 1, N, N]⟩ : Shape).Idx) :
    headPay o h hs (extractStridedSlice (mat N 768) ![rb, 0] Q hr) (extractStridedSlice (mat N 768) ![rb, 0] K hr) j =
      logits hR Q K ((Rect.unit (s := heads N N) ![b.val, hh.val, 0, 0] (⟨4, ![1, 1, N, N]⟩ : Shape).size inb).emb j) := by
  obtain ⟨a0, a1, i, k, rfl⟩ : ∃ a b c d, j = ix4 a b c d := ⟨_, _, _, _, eq_ix4 j⟩
  obtain rfl : a0 = 0 := Subsingleton.elim _ _
  obtain rfl : a1 = 0 := Subsingleton.elim _ _
  rw [headPay_apply o h hs _ _ hh ho]
  have hidx : (Rect.unit (s := heads N N) ![b.val, hh.val, 0, 0] (⟨4, ![1, 1, N, N]⟩ : Shape).size inb).emb (ix4 0 0 i k) = ix4 b hh i k := by
    funext a; apply Fin.ext
    match a with
    | ⟨0, _⟩ => exact Nat.add_zero _
    | ⟨1, _⟩ => exact Nat.add_zero _
    | ⟨2, _⟩ => exact (Nat.zero_add _).trans (Nat.one_mul _)
    | ⟨3, _⟩ => exact (Nat.zero_add _).trans (Nat.one_mul _)
  rw [hidx]
  have he : ∀ (X : FVec Ideal (mat R 768) .f32) (n : Fin N) (c : Fin 768),
      extractStridedSlice (mat N 768) ![rb, 0] X hr (ix2 n c) = X (ix2 (row hR b n) c) := fun X n c => by
    refine extractStridedSlice_apply _ X hr _ (ix2 (row hR b n) c) fun a => ?_
    match a with
    | ⟨0, _⟩ => exact congrArg (· + n.val) hb.symm
    | ⟨1, _⟩ => exact (Nat.zero_add _).symm
  simp only [he]
  rfl

/-! ## The reference's logits -/

/-- The rows of a projection, head by head. -/
def apartHeads (z : FVec Ideal (seqs N 768) .f32) (h1 : (seqs N 768).ShapeCasts ⟨4, ![2, N, 12, 64]⟩)
    (h2 : (⟨4, ![2, N, 12, 64]⟩ : Shape).Transposes [0, 2, 1, 3] (heads N 64)) : FVec Ideal (heads N 64) .f32 :=
  transpose (heads N 64) [0, 2, 1, 3] (shapeCast ⟨4, ![2, N, 12, 64]⟩ z h1) h2

/-- Those rows at an index. -/
theorem apartHeads_apply (z : FVec Ideal (seqs N 768) .f32) (h1 h2) (b : Fin 2) (h : Fin 12) (n : Fin N) (d : Fin 64) :
    apartHeads z h1 h2 (ix4 b h n d) = z (ix3 b n (col h d)) := by
  unfold apartHeads
  refine (transpose_apply [0, 2, 1, 3] _ h2 _ (ix4 b n h d) fun a => ?_).trans (shapeCast_apply z h1 _ (ix3 b n (col h d)) ?_)
  · match a with
    | ⟨0, _⟩ => rfl
    | ⟨1, _⟩ => rfl
    | ⟨2, _⟩ => rfl
    | ⟨3, _⟩ => rfl
  · rw [Shape.rowMajor_val_three, Shape.rowMajor_val_four]
    show (b.val * N + n.val) * 768 + (h.val * 64 + d.val) = ((b.val * N + n.val) * 12 + h.val) * 64 + d.val
    omega

/-- The product of the queries and the keys, head by head. -/
def headsDot (N : ℕ) : DotDims (heads N 64) (heads N 64) (heads N N) where
  lhsContracting := [3]
  rhsContracting := [3]
  lhsNonContracting := [2]
  rhsNonContracting := [2]
  lhsBatch := [0, 1]
  rhsBatch := [0, 1]
  wf := ⟨rfl, by simp, rfl, by simp, by simp, by simp, (by decide : (([0, 1] ++ [2] ++ [3] : List (Fin 4))).Perm (List.finRange 4)),
    (by decide : (([0, 1] ++ [2] ++ [3] : List (Fin 4))).Perm (List.finRange 4)), rfl, by show 0 < 4; decide, fun a => by fin_cases a <;> rfl⟩

/-- That product at an index. -/
theorem headsDot_apply (q k : FVec Ideal (heads N 64) .f32) (b : Fin 2) (h : Fin 12) (i j : Fin N) :
    Host.dotGeneral (φ₁ := .f32) (φ₂ := .f32) (headsDot N) none q k (ix4 b h i j) = ∑ d : Fin 64, q (ix4 b h i d) * k (ix4 b h j d) := by
  simp only [Host.dotGeneral]
  rw [Ideal.dotGeneral_apply, ← Equiv.sum_comp (contrEquiv1 (headsDot N) 64 rfl rfl).symm]
  refine Finset.sum_congr rfl fun d _ => congrArg₂ (· * ·) (congrArg q ?_) (congrArg k ?_)
  · exact funext fun a => Fin.ext (match a with
      | ⟨0, _⟩ => rfl
      | ⟨1, _⟩ => rfl
      | ⟨2, _⟩ => rfl
      | ⟨3, _⟩ => contrEquiv1_symm_val (headsDot N) 64 rfl rfl d)
  · exact funext fun a => Fin.ext (match a with
      | ⟨0, _⟩ => rfl
      | ⟨1, _⟩ => rfl
      | ⟨2, _⟩ => rfl
      | ⟨3, _⟩ => contrEquiv1_symm_val (headsDot N) 64 rfl rfl d)

/-- The reference's logits from its projected queries and keys. -/
def refLogits (q k : FVec Ideal (seqs N 768) .f32) (h1 : (seqs N 768).ShapeCasts ⟨4, ![2, N, 12, 64]⟩)
    (h2 : (⟨4, ![2, N, 12, 64]⟩ : Shape).Transposes [0, 2, 1, 3] (heads N 64)) (h3 : (⟨0, ![]⟩ : Shape).BroadcastsInDim (heads N N) ![]) : FVec Ideal (heads N N) .f32 :=
  Host.divf (Host.dotGeneral (φ₁ := .f32) (φ₂ := .f32) (headsDot N) none (apartHeads q h1 h2) (apartHeads k h1 h2))
    (broadcastInDim (heads N N) ![] h3 (constant (F := Ideal) ⟨0, ![]⟩ .f32 0x41000000#32))

/-- The body's logits of the stacked queries and keys are the reference's logits. -/
theorem logits_eq (hR : R = 2 * N) (q k : FVec Ideal (seqs N 768) .f32) (hc : (seqs N 768).ShapeCasts (mat R 768)) (h1 h2 h3) :
    logits hR (shapeCast (mat R 768) q hc) (shapeCast (mat R 768) k hc) = refLogits q k h1 h2 h3 := by
  funext y
  obtain ⟨b, h, i, j, rfl⟩ : ∃ b h i j, y = ix4 b h i j := ⟨_, _, _, _, eq_ix4 y⟩
  have e : logits hR (shapeCast (mat R 768) q hc) (shapeCast (mat R 768) k hc) (ix4 b h i j)
      = (∑ d : Fin 64, q (ix3 b i (col h d)) * k (ix3 b j (col h d))) * Ideal.ofBits .f32 0x3E000000#32 :=
    congrArg (· * _) (Finset.sum_congr rfl fun d _ => congrArg₂ (· * ·) (flat_apply hR q hc b i _) (flat_apply hR k hc b j _))
  have e' : refLogits q k h1 h2 h3 (ix4 b h i j)
      = Ideal.div (∑ d : Fin 64, q (ix3 b i (col h d)) * k (ix3 b j (col h d))) (Ideal.ofBits .f32 0x41000000#32) := by
    refine congrArg₂ Ideal.div ?_ rfl
    rw [headsDot_apply]
    simp only [apartHeads_apply]
  rw [e, e', eight_eq, Ideal.div_coe (by norm_num), scale_eq]

end Cert.Proof.Heads
-- ==== Proof.ProjCall.lean ====
/- The projections and attention logits of the layer of 127 tokens: the kernel's one region and the reference compute the same logits and the same values. -/
module

public import proofs.«01_k».proof.Defs
public import proofs.«01_k».proof.Proof.KernelRun
public import proofs.«01_k».proof.Proof.Heads
public import proofs.«01_k».proof.Proof.Gen.ProjIdeal.Value
public import proofs.«01_k».proof.Proof.Gen.ProjReferenceIdeal.Run
public import proofs.«01_k».proof.Proof.Gen.ProjReferenceIdeal.Read

@[expose] public section

set_option maxRecDepth 16384

noncomputable section

namespace Cert.Proof.ProjCall

open Cert.ProjIdeal Cert.ProjIdeal.Gen Cert.ProjReferenceIdeal.Read
open Cert.Proof.KernelRun (whole_emb whole_mem)
open Cert.Proof.Qkv (hz2)
open Cert.Proof.Layer (asRow)
open Cert.Proof.Feed Cert.Proof.Heads
open Idealize.ShloMosaic Idealize.ShloMosaic.TcCoe Idealize.SL.Sem Idealize.ShloMosaic.ValueIdx
open Idealize.ShloMosaic.Pipeline (Dat)
open scoped BigOperators

/-! ## The region -/

/-- A projection of the region is the linear map of the rows. -/
theorem pay7_eq (y : Vec Ideal S254x768 .f32) (w : Vec Ideal S768x768 .f32) (b : Vec Ideal S1x768 .f32) :
    k0_pay7 (F := Ideal) y w b = lin y w b broadcasts_S1x768_S254x768 := by
  unfold k0_pay7 k0_pay4
  simp only [shapeCast_self]
  rfl

/-- The values the region leaves: the third projection. -/
theorem out0_8_eq (x0 : Vec Ideal S254x768 .f32) (x1 : Vec Ideal S768x768 .f32) (x2 : Vec Ideal S1x768 .f32) (x3 : Vec Ideal S768x768 .f32)
    (x4 : Vec Ideal S1x768 .f32) (x5 : Vec Ideal S768x768 .f32) (x6 : Vec Ideal S1x768 .f32) :
    out0_8 (F := Ideal) x0 x1 x2 x3 x4 x5 x6 = lin x0 x5 x6 broadcasts_S1x768_S254x768 := by
  unfold out0_8
  rw [View.canon_unit_zero hz2, View.ld_unit_zero (S := S254x768) hz2, View.ld_unit_zero (S := S768x768) hz2, View.ld_unit_zero (S := S1x768) hz2, pay7_eq]

/-- The logits the region leaves. -/
theorem out0_7_eq (x0 : Vec Ideal S254x768 .f32) (x1 : Vec Ideal S768x768 .f32) (x2 : Vec Ideal S1x768 .f32) (x3 : Vec Ideal S768x768 .f32)
    (x4 : Vec Ideal S1x768 .f32) (x5 : Vec Ideal S768x768 .f32) (x6 : Vec Ideal S1x768 .f32) :
    out0_7 (F := Ideal) x0 x1 x2 x3 x4 x5 x6 = logits (R := 254) (N := 127) rfl (lin x0 x1 x2 broadcasts_S1x768_S254x768) (lin x0 x3 x4 broadcasts_S1x768_S254x768) := by
  rw [← pay7_eq, ← pay7_eq]
  funext y
  have P := piece (R := 254) (N := 127) rfl shapeCasts_S127x127_S1x1x127x127 (k0_pay7 x0 x1 x2) (k0_pay7 x0 x3 x4)
  unfold_out out0_7
  rw [View.ld_unit_zero (S := S254x768) hz2, View.ld_unit_zero (S := S768x768) hz2, View.ld_unit_zero (S := S768x768) hz2,
    View.ld_unit_zero (S := S1x768) hz2, View.ld_unit_zero (S := S1x768) hz2]
  simp only [show @k0_pay8 Ideal _ = fun y w b => extractStridedSlice S127x768 ![0, 0] (k0_pay7 y w b) slices_S254x768_o0_0_S127x768 from rfl,
    show @k0_pay9 Ideal _ = fun y w b => extractStridedSlice S127x768 ![0, 0] (k0_pay7 y w b) slices_S254x768_o0_0_S127x768 from rfl,
    show @k0_pay10 Ideal _ = fun y w b w' b' => headPay 0 slices_S127x768_o0_0_S127x64 shapeCasts_S127x127_S1x1x127x127 (k0_pay8 y w b) (k0_pay9 y w' b') from rfl,
    show @k0_pay11 Ideal _ = fun y w b => extractStridedSlice S127x64 ![0, 64] (k0_pay8 y w b) slices_S127x768_o0_64_S127x64 from rfl,
    show @k0_pay12 Ideal _ = fun y w b => extractStridedSlice S127x64 ![0, 64] (k0_pay9 y w b) slices_S127x768_o0_64_S127x64 from rfl,
    show @k0_pay5 Ideal _ = @k0_pay7 Ideal _ from rfl, show @k0_pay6 Ideal _ = @k0_pay7 Ideal _ from rfl]
  refine View.canon_apply_of_pieces _ _ ?_ y (cover0_7 _ _ _ _ _ _ _ _ _ _ _ _ _ _ _ _ _ _ _ _ _ _ _ _ y)
  generalize k0_pay7 (F := Ideal) x0 x1 x2 = Q at P ⊢
  generalize k0_pay7 (F := Ideal) x0 x3 x4 = K at P ⊢
  refine List.forall_mem_cons.2 ⟨P 1 11 127 704 slices_S254x768_o127_0_S127x768 slices_S127x768_o0_704_S127x64 inb_S2x12x127x127_S1x1x127x127_1_11_0_0 rfl rfl, ?_⟩
  refine List.forall_mem_cons.2 ⟨P 1 10 127 640 slices_S254x768_o127_0_S127x768 slices_S127x768_o0_640_S127x64 inb_S2x12x127x127_S1x1x127x127_1_10_0_0 rfl rfl, ?_⟩
  refine List.forall_mem_cons.2 ⟨P 1 9 127 576 slices_S254x768_o127_0_S127x768 slices_S127x768_o0_576_S127x64 inb_S2x12x127x127_S1x1x127x127_1_9_0_0 rfl rfl, ?_⟩
  refine List.forall_mem_cons.2 ⟨P 1 8 127 512 slices_S254x768_o127_0_S127x768 slices_S127x768_o0_512_S127x64 inb_S2x12x127x127_S1x1x127x127_1_8_0_0 rfl rfl, ?_⟩
  refine List.forall_mem_cons.2 ⟨P 1 7 127 448 slices_S254x768_o127_0_S127x768 slices_S127x768_o0_448_S127x64 inb_S2x12x127x127_S1x1x127x127_1_7_0_0 rfl rfl, ?_⟩
  refine List.forall_mem_cons.2 ⟨P 1 6 127 384 slices_S254x768_o127_0_S127x768 slices_S127x768_o0_384_S127x64 inb_S2x12x127x127_S1x1x127x127_1_6_0_0 rfl rfl, ?_⟩
  refine List.forall_mem_cons.2 ⟨P 1 5 127 320 slices_S254x768_o127_0_S127x768 slices_S127x768_o0_320_S127x64 inb_S2x12x127x127_S1x1x127x127_1_5_0_0 rfl rfl, ?_⟩
  refine List.forall_mem_cons.2 ⟨P 1 4 127 256 slices_S254x768_o127_0_S127x768 slices_S127x768_o0_256_S127x64 inb_S2x12x127x127_S1x1x127x127_1_4_0_0 rfl rfl, ?_⟩
  refine List.forall_mem_cons.2 ⟨P 1 3 127 192 slices_S254x768_o127_0_S127x768 slices_S127x768_o0_192_S127x64 inb_S2x12x127x127_S1x1x127x127_1_3_0_0 rfl rfl, ?_⟩
  refine List.forall_mem_cons.2 ⟨P 1 2 127 128 slices_S254x768_o127_0_S127x768 slices_S127x768_o0_128_S127x64 inb_S2x12x127x127_S1x1x127x127_1_2_0_0 rfl rfl, ?_⟩
  refine List.forall_mem_cons.2 ⟨P 1 1 127 64 slices_S254x768_o127_0_S127x768 slices_S127x768_o0_64_S127x64 inb_S2x12x127x127_S1x1x127x127_1_1_0_0 rfl rfl, ?_⟩
  refine List.forall_mem_cons.2 ⟨P 1 0 127 0 slices_S254x768_o127_0_S127x768 slices_S127x768_o0_0_S127x64 inb_S2x12x127x127_S1x1x127x127_1_0_0_0 rfl rfl, ?_⟩
  refine List.forall_mem_cons.2 ⟨P 0 11 0 704 slices_S254x768_o0_0_S127x768 slices_S127x768_o0_704_S127x64 inb_S2x12x127x127_S1x1x127x127_0_11_0_0 rfl rfl, ?_⟩
  refine List.forall_mem_cons.2 ⟨P 0 10 0 640 slices_S254x768_o0_0_S127x768 slices_S127x768_o0_640_S127x64 inb_S2x12x127x127_S1x1x127x127_0_10_0_0 rfl rfl, ?_⟩
  refine List.forall_mem_cons.2 ⟨P 0 9 0 576 slices_S254x768_o0_0_S127x768 slices_S127x768_o0_576_S127x64 inb_S2x12x127x127_S1x1x127x127_0_9_0_0 rfl rfl, ?_⟩
  refine List.forall_mem_cons.2 ⟨P 0 8 0 512 slices_S254x768_o0_0_S127x768 slices_S127x768_o0_512_S127x64 inb_S2x12x127x127_S1x1x127x127_0_8_0_0 rfl rfl, ?_⟩
  refine List.forall_mem_cons.2 ⟨P 0 7 0 448 slices_S254x768_o0_0_S127x768 slices_S127x768_o0_448_S127x64 inb_S2x12x127x127_S1x1x127x127_0_7_0_0 rfl rfl, ?_⟩
  refine List.forall_mem_cons.2 ⟨P 0 6 0 384 slices_S254x768_o0_0_S127x768 slices_S127x768_o0_384_S127x64 inb_S2x12x127x127_S1x1x127x127_0_6_0_0 rfl rfl, ?_⟩
  refine List.forall_mem_cons.2 ⟨P 0 5 0 320 slices_S254x768_o0_0_S127x768 slices_S127x768_o0_320_S127x64 inb_S2x12x127x127_S1x1x127x127_0_5_0_0 rfl rfl, ?_⟩
  refine List.forall_mem_cons.2 ⟨P 0 4 0 256 slices_S254x768_o0_0_S127x768 slices_S127x768_o0_256_S127x64 inb_S2x12x127x127_S1x1x127x127_0_4_0_0 rfl rfl, ?_⟩
  refine List.forall_mem_cons.2 ⟨P 0 3 0 192 slices_S254x768_o0_0_S127x768 slices_S127x768_o0_192_S127x64 inb_S2x12x127x127_S1x1x127x127_0_3_0_0 rfl rfl, ?_⟩
  refine List.forall_mem_cons.2 ⟨P 0 2 0 128 slices_S254x768_o0_0_S127x768 slices_S127x768_o0_128_S127x64 inb_S2x12x127x127_S1x1x127x127_0_2_0_0 rfl rfl, ?_⟩
  refine List.forall_mem_cons.2 ⟨P 0 1 0 64 slices_S254x768_o0_0_S127x768 slices_S127x768_o0_64_S127x64 inb_S2x12x127x127_S1x1x127x127_0_1_0_0 rfl rfl, ?_⟩
  refine List.forall_mem_cons.2 ⟨P 0 0 0 0 slices_S254x768_o0_0_S127x768 slices_S127x768_o0_0_S127x64 inb_S2x12x127x127_S1x1x127x127_0_0_0_0 rfl rfl, ?_⟩
  exact fun _ h => absurd h List.not_mem_nil

/-! ## The two programs -/

section
variable (m : (ℓ : Loc nD τ sig) → Buf (Elt Ideal) ℓ) (c : Dev nD)

/-- The body's block 0 is its whole array. -/
theorem iblk_0 (t : Fin cfg0.N) : iblk m c 0 t = V m c main_v25 :=
  funext fun j => congrArg (V m c main_v25) (whole_emb main_v25 _ _ (fun _ => Nat.zero_mul _) j)

/-- The body's block 1 is its whole array. -/
theorem iblk_1 (t : Fin cfg0.N) : iblk m c 1 t = V m c main_arg3 :=
  funext fun j => congrArg (V m c main_arg3) (whole_emb main_arg3 _ _ (fun _ => Nat.zero_mul _) j)

/-- The body's block 2 is its whole array. -/
theorem iblk_2 (t : Fin cfg0.N) : iblk m c 2 t = V m c main_v26 :=
  funext fun j => congrArg (V m c main_v26) (whole_emb main_v26 _ _ (fun _ => Nat.zero_mul _) j)

/-- The body's block 3 is its whole array. -/
theorem iblk_3 (t : Fin cfg0.N) : iblk m c 3 t = V m c main_arg5 :=
  funext fun j => congrArg (V m c main_arg5) (whole_emb main_arg5 _ _ (fun _ => Nat.zero_mul _) j)

/-- The body's block 4 is its whole array. -/
theorem iblk_4 (t : Fin cfg0.N) : iblk m c 4 t = V m c main_v27 :=
  funext fun j => congrArg (V m c main_v27) (whole_emb main_v27 _ _ (fun _ => Nat.zero_mul _) j)

/-- The body's block 5 is its whole array. -/
theorem iblk_5 (t : Fin cfg0.N) : iblk m c 5 t = V m c main_arg7 :=
  funext fun j => congrArg (V m c main_arg7) (whole_emb main_arg7 _ _ (fun _ => Nat.zero_mul _) j)

/-- The body's block 6 is its whole array. -/
theorem iblk_6 (t : Fin cfg0.N) : iblk m c 6 t = V m c main_v28 :=
  funext fun j => congrArg (V m c main_v28) (whole_emb main_v28 _ _ (fun _ => Nat.zero_mul _) j)

/-- The block of logits that the body stores is the array that the call returns. -/
theorem arrAt_7 (dat : Dat τ (Elt Ideal) Unit ℕ (UR sig nD τ) ℕ cfg0 c)
    (G : Buf (Elt Ideal) ((c : Thread nD τ).loc main_v29_0)) (h : ∀ t, dat.after 7 t = G) : dat.arrAt 7 cfg0.N = G :=
  dat.arrAt_eq_of_cover 7 G
    (fun t _ => funext fun j => (congrFun (h t) j).trans (congrArg G (whole_emb main_v29_0 _ _ (fun _ => Nat.zero_mul _) j).symm))
    (fun i => ⟨⟨0, by decide⟩, flush0_7 _, whole_mem main_v29_0 _ _ (fun _ => Nat.zero_mul _) i⟩)

/-- The block of values that the body stores is the array that the call returns. -/
theorem arrAt_8 (dat : Dat τ (Elt Ideal) Unit ℕ (UR sig nD τ) ℕ cfg0 c)
    (G : Buf (Elt Ideal) ((c : Thread nD τ).loc main_v29_1)) (h : ∀ t, dat.after 8 t = G) : dat.arrAt 8 cfg0.N = G :=
  dat.arrAt_eq_of_cover 8 G
    (fun t _ => funext fun j => (congrFun (h t) j).trans (congrArg G (whole_emb main_v29_1 _ _ (fun _ => Nat.zero_mul _) j).symm))
    (fun i => ⟨⟨0, by decide⟩, flush0_8 _, whole_mem main_v29_1 _ _ (fun _ => Nat.zero_mul _) i⟩)

/-- The normalised rows the region is given are the reference's. -/
theorem normed_at : V m c main_v25 = shapeCast S254x768 (val_main_v24 (F := Ideal) (m ((c : Thread nD τ).loc main_arg0)) (m ((c : Thread nD τ).loc main_arg1)) (m ((c : Thread nD τ).loc main_arg2))) shapeCasts_S2x127x768_S254x768 := by
  show StableHlo.after hostOps0 _ _ = _
  after_results
  rfl

/-- The query bias the region is given. -/
theorem query_at : V m c main_v26 = asRow (m ((c : Thread nD τ).loc main_arg4)) := by
  show StableHlo.after hostOps0 _ _ = _
  after_results
  rfl

/-- The key bias the region is given. -/
theorem key_at : V m c main_v27 = asRow (m ((c : Thread nD τ).loc main_arg6)) := by
  show StableHlo.after hostOps0 _ _ = _
  after_results
  rfl

/-- The value bias the region is given. -/
theorem value_at : V m c main_v28 = asRow (m ((c : Thread nD τ).loc main_arg8)) := by
  show StableHlo.after hostOps0 _ _ = _
  after_results
  rfl

/-- The logits the region leaves are the reference's. -/
theorem logits_at : (dats m 0 c).arrAt 7 cfg0.N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  arrAt_7 c _ _ fun t => by
    rw [after0_7, iblk_0, iblk_1, iblk_2, iblk_3, iblk_4, iblk_5, iblk_6, out0_7_eq, normed_at, query_at, key_at, V_main_arg3, V_main_arg5]
    refine (congrArg₂ (logits (R := 254) (N := 127) rfl) (lin_eq (R := 254) (N := 127) rfl _ _ _ Cert.ProjReferenceIdeal.Facts₀.bcast_S768_S1x1x768_2 Cert.ProjReferenceIdeal.Facts₀.bcast_S1x1x768_S2x127x768_0_1_2 _ Cert.ProjReferenceIdeal.Facts₀.shapeCasts_S2x127x768_S254x768 _)
      (lin_eq (R := 254) (N := 127) rfl _ _ _ Cert.ProjReferenceIdeal.Facts₀.bcast_S768_S1x1x768_2 Cert.ProjReferenceIdeal.Facts₀.bcast_S1x1x768_S2x127x768_0_1_2 _ Cert.ProjReferenceIdeal.Facts₀.shapeCasts_S2x127x768_S254x768 _)).trans ?_
    exact logits_eq (R := 254) (N := 127) rfl _ _ _ Cert.ProjReferenceIdeal.Facts₀.shapeCasts_S2x127x768_S2x127x12x64
      Cert.ProjReferenceIdeal.Facts₀.transposes_S2x127x12x64_S2x12x127x64_0_2_1_3 Cert.ProjReferenceIdeal.Facts₀.bcast_S_S2x12x127x127

/-- The values the region leaves are the reference's. -/
theorem values_at : (dats m 0 c).arrAt 8 cfg0.N = val_main_v44 (F := Ideal) (m ((c : Thread nD τ).loc main_arg0)) (m ((c : Thread nD τ).loc main_arg1)) (m ((c : Thread nD τ).loc main_arg2)) (m ((c : Thread nD τ).loc main_arg7)) (m ((c : Thread nD τ).loc main_arg8)) :=
  arrAt_8 c _ _ fun t => by
    rw [after0_8, iblk_0, iblk_1, iblk_2, iblk_3, iblk_4, iblk_5, iblk_6, out0_8_eq, normed_at, value_at, V_main_arg7]
    exact lin_eq (R := 254) (N := 127) rfl _ _ _ Cert.ProjReferenceIdeal.Facts₀.bcast_S768_S1x1x768_2 Cert.ProjReferenceIdeal.Facts₀.bcast_S1x1x768_S2x127x768_0_1_2 _ Cert.ProjReferenceIdeal.Facts₀.shapeCasts_S2x127x768_S254x768 _

end

/-- Both programs run and leave equal logits and equal values. -/
theorem equal : Cert.algebraic_ProjIdeal_ProjReferenceIdeal (hProjIdeal := Cert.ProjIdeal.Gen.facts)
    (hProjReferenceIdeal := Cert.ProjReferenceIdeal.Gen.facts) := fun m g m' g' _ hag =>
  ⟨fun c => val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
   fun c => val_main_v44 (F := Ideal) (m ((c : Thread nD τ).loc main_arg0)) (m ((c : Thread nD τ).loc main_arg1)) (m ((c : Thread nD τ).loc main_arg2)) (m ((c : Thread nD τ).loc main_arg7)) (m ((c : Thread nD τ).loc main_arg8)),
   (θ_run _ _ _).mono (fun _ h c => ⟨(h c).1.trans (logits_at m c), (h c).2.1.trans (values_at m c), (h c).2.2⟩) (Cert.ProjIdeal.Value.run_blocks m g),
   (θ_run _ _ _).mono (fun _ h c => by
      obtain ⟨e0, e1, e2, e3, e4, e5, e6, e7, e8⟩ := hag c
      exact ⟨(h c).1.trans ((val_main_v43_eq _ _).trans (congr (congr (congr (congr (congr (congr (congrArg (val_main_v43 (F := Ideal)) e0) e1) e2) e3) e4) e5) e6)),
        (h c).2.1.trans ((val_main_v44_eq _ _ _ _ _).trans (congr (congr (congr (congr (congrArg (val_main_v44 (F := Ideal)) e0) e1) e2) e7) e8)), (h c).2.2⟩)
    (Cert.ProjReferenceIdeal.Value.run m' g')⟩

end Cert.Proof.ProjCall
-- ==== Proof.ProjLastCall.lean ====
/- The projections and attention logits of the layer of 25 tokens: the kernel's one region and the reference compute the same logits and the same values. -/
module

public import proofs.«01_k».proof.Defs
public import proofs.«01_k».proof.Proof.KernelRun
public import proofs.«01_k».proof.Proof.Heads
public import proofs.«01_k».proof.Proof.Gen.ProjLastIdeal.Value
public import proofs.«01_k».proof.Proof.Gen.ProjLastReferenceIdeal.Run
public import proofs.«01_k».proof.Proof.Gen.ProjLastReferenceIdeal.Read

@[expose] public section

set_option maxRecDepth 16384

noncomputable section

namespace Cert.Proof.ProjLastCall

open Cert.ProjLastIdeal Cert.ProjLastIdeal.Gen Cert.ProjLastReferenceIdeal.Read
open Cert.Proof.KernelRun (whole_emb whole_mem)
open Cert.Proof.Qkv (hz2)
open Cert.Proof.Layer (asRow)
open Cert.Proof.Feed Cert.Proof.Heads
open Idealize.ShloMosaic Idealize.ShloMosaic.TcCoe Idealize.SL.Sem Idealize.ShloMosaic.ValueIdx
open Idealize.ShloMosaic.Pipeline (Dat)
open scoped BigOperators

/-! ## The region -/

/-- A projection of the region is the linear map of the rows. -/
theorem pay7_eq (y : Vec Ideal S50x768 .f32) (w : Vec Ideal S768x768 .f32) (b : Vec Ideal S1x768 .f32) :
    k0_pay7 (F := Ideal) y w b = lin y w b broadcasts_S1x768_S50x768 := by
  unfold k0_pay7 k0_pay4
  simp only [shapeCast_self]
  rfl

/-- The values the region leaves: the third projection. -/
theorem out0_8_eq (x0 : Vec Ideal S50x768 .f32) (x1 : Vec Ideal S768x768 .f32) (x2 : Vec Ideal S1x768 .f32) (x3 : Vec Ideal S768x768 .f32)
    (x4 : Vec Ideal S1x768 .f32) (x5 : Vec Ideal S768x768 .f32) (x6 : Vec Ideal S1x768 .f32) :
    out0_8 (F := Ideal) x0 x1 x2 x3 x4 x5 x6 = lin x0 x5 x6 broadcasts_S1x768_S50x768 := by
  unfold out0_8
  rw [View.canon_unit_zero hz2, View.ld_unit_zero (S := S50x768) hz2, View.ld_unit_zero (S := S768x768) hz2, View.ld_unit_zero (S := S1x768) hz2, pay7_eq]

/-- The logits the region leaves. -/
theorem out0_7_eq (x0 : Vec Ideal S50x768 .f32) (x1 : Vec Ideal S768x768 .f32) (x2 : Vec Ideal S1x768 .f32) (x3 : Vec Ideal S768x768 .f32)
    (x4 : Vec Ideal S1x768 .f32) (x5 : Vec Ideal S768x768 .f32) (x6 : Vec Ideal S1x768 .f32) :
    out0_7 (F := Ideal) x0 x1 x2 x3 x4 x5 x6 = logits (R := 50) (N := 25) rfl (lin x0 x1 x2 broadcasts_S1x768_S50x768) (lin x0 x3 x4 broadcasts_S1x768_S50x768) := by
  rw [← pay7_eq, ← pay7_eq]
  funext y
  have P := piece (R := 50) (N := 25) rfl shapeCasts_S25x25_S1x1x25x25 (k0_pay7 x0 x1 x2) (k0_pay7 x0 x3 x4)
  unfold_out out0_7
  rw [View.ld_unit_zero (S := S50x768) hz2, View.ld_unit_zero (S := S768x768) hz2, View.ld_unit_zero (S := S768x768) hz2,
    View.ld_unit_zero (S := S1x768) hz2, View.ld_unit_zero (S := S1x768) hz2]
  simp only [show @k0_pay8 Ideal _ = fun y w b => extractStridedSlice S25x768 ![0, 0] (k0_pay7 y w b) slices_S50x768_o0_0_S25x768 from rfl,
    show @k0_pay9 Ideal _ = fun y w b => extractStridedSlice S25x768 ![0, 0] (k0_pay7 y w b) slices_S50x768_o0_0_S25x768 from rfl,
    show @k0_pay10 Ideal _ = fun y w b w' b' => headPay 0 slices_S25x768_o0_0_S25x64 shapeCasts_S25x25_S1x1x25x25 (k0_pay8 y w b) (k0_pay9 y w' b') from rfl,
    show @k0_pay11 Ideal _ = fun y w b => extractStridedSlice S25x64 ![0, 64] (k0_pay8 y w b) slices_S25x768_o0_64_S25x64 from rfl,
    show @k0_pay12 Ideal _ = fun y w b => extractStridedSlice S25x64 ![0, 64] (k0_pay9 y w b) slices_S25x768_o0_64_S25x64 from rfl,
    show @k0_pay5 Ideal _ = @k0_pay7 Ideal _ from rfl, show @k0_pay6 Ideal _ = @k0_pay7 Ideal _ from rfl]
  refine View.canon_apply_of_pieces _ _ ?_ y (cover0_7 _ _ _ _ _ _ _ _ _ _ _ _ _ _ _ _ _ _ _ _ _ _ _ _ y)
  generalize k0_pay7 (F := Ideal) x0 x1 x2 = Q at P ⊢
  generalize k0_pay7 (F := Ideal) x0 x3 x4 = K at P ⊢
  refine List.forall_mem_cons.2 ⟨P 1 11 25 704 slices_S50x768_o25_0_S25x768 slices_S25x768_o0_704_S25x64 inb_S2x12x25x25_S1x1x25x25_1_11_0_0 rfl rfl, ?_⟩
  refine List.forall_mem_cons.2 ⟨P 1 10 25 640 slices_S50x768_o25_0_S25x768 slices_S25x768_o0_640_S25x64 inb_S2x12x25x25_S1x1x25x25_1_10_0_0 rfl rfl, ?_⟩
  refine List.forall_mem_cons.2 ⟨P 1 9 25 576 slices_S50x768_o25_0_S25x768 slices_S25x768_o0_576_S25x64 inb_S2x12x25x25_S1x1x25x25_1_9_0_0 rfl rfl, ?_⟩
  refine List.forall_mem_cons.2 ⟨P 1 8 25 512 slices_S50x768_o25_0_S25x768 slices_S25x768_o0_512_S25x64 inb_S2x12x25x25_S1x1x25x25_1_8_0_0 rfl rfl, ?_⟩
  refine List.forall_mem_cons.2 ⟨P 1 7 25 448 slices_S50x768_o25_0_S25x768 slices_S25x768_o0_448_S25x64 inb_S2x12x25x25_S1x1x25x25_1_7_0_0 rfl rfl, ?_⟩
  refine List.forall_mem_cons.2 ⟨P 1 6 25 384 slices_S50x768_o25_0_S25x768 slices_S25x768_o0_384_S25x64 inb_S2x12x25x25_S1x1x25x25_1_6_0_0 rfl rfl, ?_⟩
  refine List.forall_mem_cons.2 ⟨P 1 5 25 320 slices_S50x768_o25_0_S25x768 slices_S25x768_o0_320_S25x64 inb_S2x12x25x25_S1x1x25x25_1_5_0_0 rfl rfl, ?_⟩
  refine List.forall_mem_cons.2 ⟨P 1 4 25 256 slices_S50x768_o25_0_S25x768 slices_S25x768_o0_256_S25x64 inb_S2x12x25x25_S1x1x25x25_1_4_0_0 rfl rfl, ?_⟩
  refine List.forall_mem_cons.2 ⟨P 1 3 25 192 slices_S50x768_o25_0_S25x768 slices_S25x768_o0_192_S25x64 inb_S2x12x25x25_S1x1x25x25_1_3_0_0 rfl rfl, ?_⟩
  refine List.forall_mem_cons.2 ⟨P 1 2 25 128 slices_S50x768_o25_0_S25x768 slices_S25x768_o0_128_S25x64 inb_S2x12x25x25_S1x1x25x25_1_2_0_0 rfl rfl, ?_⟩
  refine List.forall_mem_cons.2 ⟨P 1 1 25 64 slices_S50x768_o25_0_S25x768 slices_S25x768_o0_64_S25x64 inb_S2x12x25x25_S1x1x25x25_1_1_0_0 rfl rfl, ?_⟩
  refine List.forall_mem_cons.2 ⟨P 1 0 25 0 slices_S50x768_o25_0_S25x768 slices_S25x768_o0_0_S25x64 inb_S2x12x25x25_S1x1x25x25_1_0_0_0 rfl rfl, ?_⟩
  refine List.forall_mem_cons.2 ⟨P 0 11 0 704 slices_S50x768_o0_0_S25x768 slices_S25x768_o0_704_S25x64 inb_S2x12x25x25_S1x1x25x25_0_11_0_0 rfl rfl, ?_⟩
  refine List.forall_mem_cons.2 ⟨P 0 10 0 640 slices_S50x768_o0_0_S25x768 slices_S25x768_o0_640_S25x64 inb_S2x12x25x25_S1x1x25x25_0_10_0_0 rfl rfl, ?_⟩
  refine List.forall_mem_cons.2 ⟨P 0 9 0 576 slices_S50x768_o0_0_S25x768 slices_S25x768_o0_576_S25x64 inb_S2x12x25x25_S1x1x25x25_0_9_0_0 rfl rfl, ?_⟩
  refine List.forall_mem_cons.2 ⟨P 0 8 0 512 slices_S50x768_o0_0_S25x768 slices_S25x768_o0_512_S25x64 inb_S2x12x25x25_S1x1x25x25_0_8_0_0 rfl rfl, ?_⟩
  refine List.forall_mem_cons.2 ⟨P 0 7 0 448 slices_S50x768_o0_0_S25x768 slices_S25x768_o0_448_S25x64 inb_S2x12x25x25_S1x1x25x25_0_7_0_0 rfl rfl, ?_⟩
  refine List.forall_mem_cons.2 ⟨P 0 6 0 384 slices_S50x768_o0_0_S25x768 slices_S25x768_o0_384_S25x64 inb_S2x12x25x25_S1x1x25x25_0_6_0_0 rfl rfl, ?_⟩
  refine List.forall_mem_cons.2 ⟨P 0 5 0 320 slices_S50x768_o0_0_S25x768 slices_S25x768_o0_320_S25x64 inb_S2x12x25x25_S1x1x25x25_0_5_0_0 rfl rfl, ?_⟩
  refine List.forall_mem_cons.2 ⟨P 0 4 0 256 slices_S50x768_o0_0_S25x768 slices_S25x768_o0_256_S25x64 inb_S2x12x25x25_S1x1x25x25_0_4_0_0 rfl rfl, ?_⟩
  refine List.forall_mem_cons.2 ⟨P 0 3 0 192 slices_S50x768_o0_0_S25x768 slices_S25x768_o0_192_S25x64 inb_S2x12x25x25_S1x1x25x25_0_3_0_0 rfl rfl, ?_⟩
  refine List.forall_mem_cons.2 ⟨P 0 2 0 128 slices_S50x768_o0_0_S25x768 slices_S25x768_o0_128_S25x64 inb_S2x12x25x25_S1x1x25x25_0_2_0_0 rfl rfl, ?_⟩
  refine List.forall_mem_cons.2 ⟨P 0 1 0 64 slices_S50x768_o0_0_S25x768 slices_S25x768_o0_64_S25x64 inb_S2x12x25x25_S1x1x25x25_0_1_0_0 rfl rfl, ?_⟩
  refine List.forall_mem_cons.2 ⟨P 0 0 0 0 slices_S50x768_o0_0_S25x768 slices_S25x768_o0_0_S25x64 inb_S2x12x25x25_S1x1x25x25_0_0_0_0 rfl rfl, ?_⟩
  exact fun _ h => absurd h List.not_mem_nil

/-! ## The two programs -/

section
variable (m : (ℓ : Loc nD τ sig) → Buf (Elt Ideal) ℓ) (c : Dev nD)

/-- The body's block 0 is its whole array. -/
theorem iblk_0 (t : Fin cfg0.N) : iblk m c 0 t = V m c main_v25 :=
  funext fun j => congrArg (V m c main_v25) (whole_emb main_v25 _ _ (fun _ => Nat.zero_mul _) j)

/-- The body's block 1 is its whole array. -/
theorem iblk_1 (t : Fin cfg0.N) : iblk m c 1 t = V m c main_arg3 :=
  funext fun j => congrArg (V m c main_arg3) (whole_emb main_arg3 _ _ (fun _ => Nat.zero_mul _) j)

/-- The body's block 2 is its whole array. -/
theorem iblk_2 (t : Fin cfg0.N) : iblk m c 2 t = V m c main_v26 :=
  funext fun j => congrArg (V m c main_v26) (whole_emb main_v26 _ _ (fun _ => Nat.zero_mul _) j)

/-- The body's block 3 is its whole array. -/
theorem iblk_3 (t : Fin cfg0.N) : iblk m c 3 t = V m c main_arg5 :=
  funext fun j => congrArg (V m c main_arg5) (whole_emb main_arg5 _ _ (fun _ => Nat.zero_mul _) j)

/-- The body's block 4 is its whole array. -/
theorem iblk_4 (t : Fin cfg0.N) : iblk m c 4 t = V m c main_v27 :=
  funext fun j => congrArg (V m c main_v27) (whole_emb main_v27 _ _ (fun _ => Nat.zero_mul _) j)

/-- The body's block 5 is its whole array. -/
theorem iblk_5 (t : Fin cfg0.N) : iblk m c 5 t = V m c main_arg7 :=
  funext fun j => congrArg (V m c main_arg7) (whole_emb main_arg7 _ _ (fun _ => Nat.zero_mul _) j)

/-- The body's block 6 is its whole array. -/
theorem iblk_6 (t : Fin cfg0.N) : iblk m c 6 t = V m c main_v28 :=
  funext fun j => congrArg (V m c main_v28) (whole_emb main_v28 _ _ (fun _ => Nat.zero_mul _) j)

/-- The block of logits that the body stores is the array that the call returns. -/
theorem arrAt_7 (dat : Dat τ (Elt Ideal) Unit ℕ (UR sig nD τ) ℕ cfg0 c)
    (G : Buf (Elt Ideal) ((c : Thread nD τ).loc main_v29_0)) (h : ∀ t, dat.after 7 t = G) : dat.arrAt 7 cfg0.N = G :=
  dat.arrAt_eq_of_cover 7 G
    (fun t _ => funext fun j => (congrFun (h t) j).trans (congrArg G (whole_emb main_v29_0 _ _ (fun _ => Nat.zero_mul _) j).symm))
    (fun i => ⟨⟨0, by decide⟩, flush0_7 _, whole_mem main_v29_0 _ _ (fun _ => Nat.zero_mul _) i⟩)

/-- The block of values that the body stores is the array that the call returns. -/
theorem arrAt_8 (dat : Dat τ (Elt Ideal) Unit ℕ (UR sig nD τ) ℕ cfg0 c)
    (G : Buf (Elt Ideal) ((c : Thread nD τ).loc main_v29_1)) (h : ∀ t, dat.after 8 t = G) : dat.arrAt 8 cfg0.N = G :=
  dat.arrAt_eq_of_cover 8 G
    (fun t _ => funext fun j => (congrFun (h t) j).trans (congrArg G (whole_emb main_v29_1 _ _ (fun _ => Nat.zero_mul _) j).symm))
    (fun i => ⟨⟨0, by decide⟩, flush0_8 _, whole_mem main_v29_1 _ _ (fun _ => Nat.zero_mul _) i⟩)

/-- The normalised rows the region is given are the reference's. -/
theorem normed_at : V m c main_v25 = shapeCast S50x768 (val_main_v24 (F := Ideal) (m ((c : Thread nD τ).loc main_arg0)) (m ((c : Thread nD τ).loc main_arg1)) (m ((c : Thread nD τ).loc main_arg2))) shapeCasts_S2x25x768_S50x768 := by
  show StableHlo.after hostOps0 _ _ = _
  after_results
  rfl

/-- The query bias the region is given. -/
theorem query_at : V m c main_v26 = asRow (m ((c : Thread nD τ).loc main_arg4)) := by
  show StableHlo.after hostOps0 _ _ = _
  after_results
  rfl

/-- The key bias the region is given. -/
theorem key_at : V m c main_v27 = asRow (m ((c : Thread nD τ).loc main_arg6)) := by
  show StableHlo.after hostOps0 _ _ = _
  after_results
  rfl

/-- The value bias the region is given. -/
theorem value_at : V m c main_v28 = asRow (m ((c : Thread nD τ).loc main_arg8)) := by
  show StableHlo.after hostOps0 _ _ = _
  after_results
  rfl

/-- The logits the region leaves are the reference's. -/
theorem logits_at : (dats m 0 c).arrAt 7 cfg0.N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  arrAt_7 c _ _ fun t => by
    rw [after0_7, iblk_0, iblk_1, iblk_2, iblk_3, iblk_4, iblk_5, iblk_6, out0_7_eq, normed_at, query_at, key_at, V_main_arg3, V_main_arg5]
    refine (congrArg₂ (logits (R := 50) (N := 25) rfl) (lin_eq (R := 50) (N := 25) rfl _ _ _ Cert.ProjLastReferenceIdeal.Facts₀.bcast_S768_S1x1x768_2 Cert.ProjLastReferenceIdeal.Facts₀.bcast_S1x1x768_S2x25x768_0_1_2 _ Cert.ProjLastReferenceIdeal.Facts₀.shapeCasts_S2x25x768_S50x768 _)
      (lin_eq (R := 50) (N := 25) rfl _ _ _ Cert.ProjLastReferenceIdeal.Facts₀.bcast_S768_S1x1x768_2 Cert.ProjLastReferenceIdeal.Facts₀.bcast_S1x1x768_S2x25x768_0_1_2 _ Cert.ProjLastReferenceIdeal.Facts₀.shapeCasts_S2x25x768_S50x768 _)).trans ?_
    exact logits_eq (R := 50) (N := 25) rfl _ _ _ Cert.ProjLastReferenceIdeal.Facts₀.shapeCasts_S2x25x768_S2x25x12x64
      Cert.ProjLastReferenceIdeal.Facts₀.transposes_S2x25x12x64_S2x12x25x64_0_2_1_3 Cert.ProjLastReferenceIdeal.Facts₀.bcast_S_S2x12x25x25

/-- The values the region leaves are the reference's. -/
theorem values_at : (dats m 0 c).arrAt 8 cfg0.N = val_main_v44 (F := Ideal) (m ((c : Thread nD τ).loc main_arg0)) (m ((c : Thread nD τ).loc main_arg1)) (m ((c : Thread nD τ).loc main_arg2)) (m ((c : Thread nD τ).loc main_arg7)) (m ((c : Thread nD τ).loc main_arg8)) :=
  arrAt_8 c _ _ fun t => by
    rw [after0_8, iblk_0, iblk_1, iblk_2, iblk_3, iblk_4, iblk_5, iblk_6, out0_8_eq, normed_at, value_at, V_main_arg7]
    exact lin_eq (R := 50) (N := 25) rfl _ _ _ Cert.ProjLastReferenceIdeal.Facts₀.bcast_S768_S1x1x768_2 Cert.ProjLastReferenceIdeal.Facts₀.bcast_S1x1x768_S2x25x768_0_1_2 _ Cert.ProjLastReferenceIdeal.Facts₀.shapeCasts_S2x25x768_S50x768 _

end

/-- Both programs run and leave equal logits and equal values. -/
theorem equal : Cert.algebraic_ProjLastIdeal_ProjLastReferenceIdeal (hProjLastIdeal := Cert.ProjLastIdeal.Gen.facts)
    (hProjLastReferenceIdeal := Cert.ProjLastReferenceIdeal.Gen.facts) := fun m g m' g' _ hag =>
  ⟨fun c => val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
   fun c => val_main_v44 (F := Ideal) (m ((c : Thread nD τ).loc main_arg0)) (m ((c : Thread nD τ).loc main_arg1)) (m ((c : Thread nD τ).loc main_arg2)) (m ((c : Thread nD τ).loc main_arg7)) (m ((c : Thread nD τ).loc main_arg8)),
   (θ_run _ _ _).mono (fun _ h c => ⟨(h c).1.trans (logits_at m c), (h c).2.1.trans (values_at m c), (h c).2.2⟩) (Cert.ProjLastIdeal.Value.run_blocks m g),
   (θ_run _ _ _).mono (fun _ h c => by
      obtain ⟨e0, e1, e2, e3, e4, e5, e6, e7, e8⟩ := hag c
      exact ⟨(h c).1.trans ((val_main_v43_eq _ _).trans (congr (congr (congr (congr (congr (congr (congrArg (val_main_v43 (F := Ideal)) e0) e1) e2) e3) e4) e5) e6)),
        (h c).2.1.trans ((val_main_v44_eq _ _ _ _ _).trans (congr (congr (congr (congr (congrArg (val_main_v44 (F := Ideal)) e0) e1) e2) e7) e8)), (h c).2.2⟩)
    (Cert.ProjLastReferenceIdeal.Value.run m' g')⟩

end Cert.Proof.ProjLastCall
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Embed.Frame
public import proofs.«01_k».proof.Proof.Gen.EmbedIdeal.Frame
public import proofs.«01_k».proof.Proof.Gen.EmbedIdeal.Value
public import proofs.«01_k».proof.Proof.Gen.EmbedReferenceIdeal.Run
public import proofs.«01_k».proof.Proof.Gen.EmbedReferenceIdeal.Read
public import proofs.«01_k».proof.Proof.Gen.Head.Frame
public import proofs.«01_k».proof.Proof.Gen.HeadIdeal.Frame
public import proofs.«01_k».proof.Proof.Gen.HeadIdeal.Value
public import proofs.«01_k».proof.Proof.Gen.HeadReferenceIdeal.Run
public import proofs.«01_k».proof.Proof.Gen.HeadReferenceIdeal.Read
public import proofs.«01_k».proof.Proof.Gen.Feed.Frame
public import proofs.«01_k».proof.Proof.Gen.FeedIdeal.Frame
public import proofs.«01_k».proof.Proof.Gen.FeedIdeal.Value
public import proofs.«01_k».proof.Proof.Gen.FeedReferenceIdeal.Run
public import proofs.«01_k».proof.Proof.Gen.FeedReferenceIdeal.Read
public import proofs.«01_k».proof.Proof.Gen.Last.Frame
public import proofs.«01_k».proof.Proof.Gen.LastIdeal.Frame
public import proofs.«01_k».proof.Proof.Gen.LastIdeal.Value
public import proofs.«01_k».proof.Proof.Gen.LastReferenceIdeal.Run
public import proofs.«01_k».proof.Proof.Gen.LastReferenceIdeal.Read
public import proofs.«01_k».proof.Proof.Gen.Proj.Frame
public import proofs.«01_k».proof.Proof.Gen.ProjIdeal.Frame
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Gen.ProjLast.Frame
public import proofs.«01_k».proof.Proof.Gen.ProjLastIdeal.Frame
public import proofs.«01_k».proof.Proof.Gen.ProjLastIdeal.Value
public import proofs.«01_k».proof.Proof.Gen.ProjLastReferenceIdeal.Run
public import proofs.«01_k».proof.Proof.Gen.ProjLastReferenceIdeal.Read
public import proofs.«01_k».proof.Proof.Whole
public import proofs.«01_k».proof.Proof.EmbedCall
public import proofs.«01_k».proof.Proof.HeadCall
public import proofs.«01_k».proof.Proof.FeedCall
public import proofs.«01_k».proof.Proof.LastCall
public import proofs.«01_k».proof.Proof.ProjCall
public import proofs.«01_k».proof.Proof.ProjLastCall
public import Idealize.ShloMosaic.Adequacy
public import Idealize.ShloMosaic.Init

@[expose] public section

noncomputable section

namespace Cert.Proof

open Idealize.ShloMosaic Idealize.SL.Sem

/-- Every run of the reference ends with its arguments unchanged and every counter at zero. -/
theorem reference_frame : Cert.quiescent_ReferenceIdeal (hReferenceIdeal := Cert.ReferenceIdeal.Gen.facts) := fun m ρ _ =>
  (θ_run _ _ _).mono (fun r h => ⟨fun c => (h c).2.2, Idealize.ShloMosaic.sem_eq_zero_of_no_sems (by decide) r.2⟩)
    (Cert.ReferenceIdeal.Value.run m ρ)

/-- Every run of the embedding's reference ends with its arguments unchanged and every counter at zero. -/
theorem embed_frame : Cert.quiescent_EmbedReferenceIdeal (hEmbedReferenceIdeal := Cert.EmbedReferenceIdeal.Gen.facts) := fun m ρ _ =>
  (θ_run _ _ _).mono (fun r h => ⟨fun c => (h c).2, Idealize.ShloMosaic.sem_eq_zero_of_no_sems (by decide) r.2⟩)
    (Cert.EmbedReferenceIdeal.Value.run m ρ)

/-- Every run of the head's reference ends with its arguments unchanged and every counter at zero. -/
theorem head_frame : Cert.quiescent_HeadReferenceIdeal (hHeadReferenceIdeal := Cert.HeadReferenceIdeal.Gen.facts) := fun m ρ _ =>
  (θ_run _ _ _).mono (fun r h => ⟨fun c => (h c).2, Idealize.ShloMosaic.sem_eq_zero_of_no_sems (by decide) r.2⟩)
    (Cert.HeadReferenceIdeal.Value.run m ρ)

/-- Every run of the reference of the feed-forward part of 127 tokens ends with its arguments unchanged and every counter at zero. -/
theorem feed_frame : Cert.quiescent_FeedReferenceIdeal (hFeedReferenceIdeal := Cert.FeedReferenceIdeal.Gen.facts) := fun m ρ _ =>
  (θ_run _ _ _).mono (fun r h => ⟨fun c => (h c).2, Idealize.ShloMosaic.sem_eq_zero_of_no_sems (by decide) r.2⟩)
    (Cert.FeedReferenceIdeal.Value.run m ρ)

/-- Every run of the reference of the feed-forward part of 25 tokens ends with its arguments unchanged and every counter at zero. -/
theorem last_frame : Cert.quiescent_LastReferenceIdeal (hLastReferenceIdeal := Cert.LastReferenceIdeal.Gen.facts) := fun m ρ _ =>
  (θ_run _ _ _).mono (fun r h => ⟨fun c => (h c).2, Idealize.ShloMosaic.sem_eq_zero_of_no_sems (by decide) r.2⟩)
    (Cert.LastReferenceIdeal.Value.run m ρ)

/-- Every run of the reference of the projections of 127 tokens ends with its arguments unchanged and every counter at zero. -/
theorem proj_frame : Cert.quiescent_ProjReferenceIdeal (hProjReferenceIdeal := Cert.ProjReferenceIdeal.Gen.facts) := fun m ρ _ =>
  (θ_run _ _ _).mono (fun r h => ⟨fun c => (h c).2.2, Idealize.ShloMosaic.sem_eq_zero_of_no_sems (by decide) r.2⟩)
    (Cert.ProjReferenceIdeal.Value.run m ρ)

/-- Every run of the reference of the projections of 25 tokens ends with its arguments unchanged and every counter at zero. -/
theorem proj_last_frame : Cert.quiescent_ProjLastReferenceIdeal (hProjLastReferenceIdeal := Cert.ProjLastReferenceIdeal.Gen.facts) := fun m ρ _ =>
  (θ_run _ _ _).mono (fun r h => ⟨fun c => (h c).2.2, Idealize.ShloMosaic.sem_eq_zero_of_no_sems (by decide) r.2⟩)
    (Cert.ProjLastReferenceIdeal.Value.run m ρ)

/-- Everything the certificate claims. -/
theorem claim : Cert.Claim := ⟨Cert.Kernel.Gen.facts, Cert.KernelIdeal.Gen.facts, Cert.ReferenceIdeal.Gen.facts,
  Cert.Embed.Gen.facts, Cert.EmbedIdeal.Gen.facts, Cert.EmbedReferenceIdeal.Gen.facts,
  Cert.Head.Gen.facts, Cert.HeadIdeal.Gen.facts, Cert.HeadReferenceIdeal.Gen.facts,
  Cert.Feed.Gen.facts, Cert.FeedIdeal.Gen.facts, Cert.FeedReferenceIdeal.Gen.facts,
  Cert.Last.Gen.facts, Cert.LastIdeal.Gen.facts, Cert.LastReferenceIdeal.Gen.facts,
  Cert.Proj.Gen.facts, Cert.ProjIdeal.Gen.facts, Cert.ProjReferenceIdeal.Gen.facts,
  Cert.ProjLast.Gen.facts, Cert.ProjLastIdeal.Gen.facts, Cert.ProjLastReferenceIdeal.Gen.facts, Finite.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Embed.Gen.frame m ρ,
  fun m ρ _ => Cert.EmbedIdeal.Gen.frame m ρ,
  embed_frame,
  fun m ρ _ => Cert.Head.Gen.frame m ρ,
  fun m ρ _ => Cert.HeadIdeal.Gen.frame m ρ,
  head_frame,
  fun m ρ _ => Cert.Feed.Gen.frame m ρ,
  fun m ρ _ => Cert.FeedIdeal.Gen.frame m ρ,
  feed_frame,
  fun m ρ _ => Cert.Last.Gen.frame m ρ,
  fun m ρ _ => Cert.LastIdeal.Gen.frame m ρ,
  last_frame,
  fun m ρ _ => Cert.Proj.Gen.frame m ρ,
  fun m ρ _ => Cert.ProjIdeal.Gen.frame m ρ,
  proj_frame,
  fun m ρ _ => Cert.ProjLast.Gen.frame m ρ,
  fun m ρ _ => Cert.ProjLastIdeal.Gen.frame m ρ,
  proj_last_frame,
  trivial,
  Whole.equal,
  trivial,
  EmbedCall.equal,
  trivial,
  HeadCall.equal,
  trivial,
  FeedCall.equal,
  trivial,
  LastCall.equal,
  trivial,
  ProjCall.equal,
  trivial,
  ProjLastCall.equal⟩

end Cert.Proof

end
